-- ==== Defs.lean ====
def Pre_GlaS (m : (ℓ : Loc Cert.GlaS.nD Cert.GlaS.τ Cert.GlaS.sig) → Buf (Elt Bits) ℓ) : Prop :=
  True

def Pre_GlaSIdeal (m : (ℓ : Loc Cert.GlaSIdeal.nD Cert.GlaSIdeal.τ Cert.GlaSIdeal.sig) → Buf (Elt Ideal) ℓ) : Prop :=
  True

def Pre_GlaSRefIdeal (m : (ℓ : Loc Cert.GlaSRefIdeal.nD Cert.GlaSRefIdeal.τ Cert.GlaSRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCRefIdeal (m : (ℓ : Loc Cert.QkvCRefIdeal.nD Cert.QkvCRefIdeal.τ Cert.QkvCRefIdeal.sig) → Buf (Elt Ideal) ℓ) : Prop :=
  True

def Pre_ProjAB (m : (ℓ : Loc Cert.ProjAB.nD Cert.ProjAB.τ Cert.ProjAB.sig) → Buf (Elt Bits) ℓ) : Prop :=
  True

def Pre_ProjABIdeal (m : (ℓ : Loc Cert.ProjABIdeal.nD Cert.ProjABIdeal.τ Cert.ProjABIdeal.sig) → Buf (Elt Ideal) ℓ) : Prop :=
  True

def Pre_ProjABRefIdeal (m : (ℓ : Loc Cert.ProjABRefIdeal.nD Cert.ProjABRefIdeal.τ Cert.ProjABRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_ActP (m : (ℓ : Loc Cert.ActP.nD Cert.ActP.τ Cert.ActP.sig) → Buf (Elt Bits) ℓ) : Prop :=
  True

def Pre_ActPIdeal (m : (ℓ : Loc Cert.ActPIdeal.nD Cert.ActPIdeal.τ Cert.ActPIdeal.sig) → Buf (Elt Ideal) ℓ) : Prop :=
  True

def Pre_ActPRefIdeal (m : (ℓ : Loc Cert.ActPRefIdeal.nD Cert.ActPRefIdeal.τ Cert.ActPRefIdeal.sig) → Buf (Elt Ideal) ℓ) : Prop :=
  True

def Pre_ActS (m : (ℓ : Loc Cert.ActS.nD Cert.ActS.τ Cert.ActS.sig) → Buf (Elt Bits) ℓ) : Prop :=
  True

def Pre_ActSIdeal (m : (ℓ : Loc Cert.ActSIdeal.nD Cert.ActSIdeal.τ Cert.ActSIdeal.sig) → Buf (Elt Ideal) ℓ) : Prop :=
  True

def Pre_ActSRefIdeal (m : (ℓ : Loc Cert.ActSRefIdeal.nD Cert.ActSRefIdeal.τ Cert.ActSRefIdeal.sig) → Buf (Elt Ideal) ℓ) : Prop :=
  True

def Pre_MobaP (m : (ℓ : Loc Cert.MobaP.nD Cert.MobaP.τ Cert.MobaP.sig) → Buf (Elt Bits) ℓ) : Prop :=
  True

def Pre_MobaPIdeal (m : (ℓ : Loc Cert.MobaPIdeal.nD Cert.MobaPIdeal.τ Cert.MobaPIdeal.sig) → Buf (Elt Ideal) ℓ) : Prop :=
  True

def Pre_MobaPRefIdeal (m : (ℓ : Loc Cert.MobaPRefIdeal.nD Cert.MobaPRefIdeal.τ Cert.MobaPRefIdeal.sig) → Buf (Elt Ideal) ℓ) : Prop :=
  True

def Pre_NsaP (m : (ℓ : Loc Cert.NsaP.nD Cert.NsaP.τ Cert.NsaP.sig) → Buf (Elt Bits) ℓ) : Prop :=
  True

def Pre_NsaPIdeal (m : (ℓ : Loc Cert.NsaPIdeal.nD Cert.NsaPIdeal.τ Cert.NsaPIdeal.sig) → Buf (Elt Ideal) ℓ) : Prop :=
  True

def Pre_NsaPRefIdeal (m : (ℓ : Loc Cert.NsaPRefIdeal.nD Cert.NsaPRefIdeal.τ Cert.NsaPRefIdeal.sig) → Buf (Elt Ideal) ℓ) : Prop :=
  True

def Pre_MobaA (m : (ℓ : Loc Cert.MobaA.nD Cert.MobaA.τ Cert.MobaA.sig) → Buf (Elt Bits) ℓ) : Prop :=
  True

def Pre_MobaAIdeal (m : (ℓ : Loc Cert.MobaAIdeal.nD Cert.MobaAIdeal.τ Cert.MobaAIdeal.sig) → Buf (Elt Ideal) ℓ) : Prop :=
  True

def Pre_NsaA (m : (ℓ : Loc Cert.NsaA.nD Cert.NsaA.τ Cert.NsaA.sig) → Buf (Elt Bits) ℓ) : Prop :=
  True

def Pre_NsaAIdeal (m : (ℓ : Loc Cert.NsaAIdeal.nD Cert.NsaAIdeal.τ Cert.NsaAIdeal.sig) → Buf (Elt Ideal) ℓ) : Prop :=
  True

def Pre_NsaC (m : (ℓ : Loc Cert.NsaC.nD Cert.NsaC.τ Cert.NsaC.sig) → Buf (Elt Bits) ℓ) : Prop :=
  True

def Pre_NsaCIdeal (m : (ℓ : Loc Cert.NsaCIdeal.nD Cert.NsaCIdeal.τ Cert.NsaCIdeal.sig) → Buf (Elt Ideal) ℓ) : Prop :=
  True

def quiescent_GlaS [hGlaS : Cert.GlaS.Facts] : Prop :=
  ∀ (m : (ℓ : Loc Cert.GlaS.nD Cert.GlaS.τ Cert.GlaS.sig) → Buf (Elt Bits) ℓ) (g : Dev Cert.GlaS.nD → PrngReg), Pre_GlaS m →
    θ_run (Cert.GlaS.defs (F := Bits)) (onTc (τ := Cert.GlaS.τ) (Cert.GlaS.main (F := Bits))) ⟨m, fun _ => 0, g⟩ (fun r => (∀ c : Dev Cert.GlaS.nD,
      r.2.mem ((c.tc : Thread Cert.GlaS.nD Cert.GlaS.τ).loc Cert.GlaS.main_arg0) = m ((c.tc : Thread Cert.GlaS.nD Cert.GlaS.τ).loc Cert.GlaS.main_arg0)
      ∧ r.2.mem ((c.tc : Thread Cert.GlaS.nD Cert.GlaS.τ).loc Cert.GlaS.main_arg1) = m ((c.tc : Thread Cert.GlaS.nD Cert.GlaS.τ).loc Cert.GlaS.main_arg1)
      ∧ r.2.mem ((c.tc : Thread Cert.GlaS.nD Cert.GlaS.τ).loc Cert.GlaS.main_arg2) = m ((c.tc : Thread Cert.GlaS.nD Cert.GlaS.τ).loc Cert.GlaS.main_arg2)
      ∧ r.2.mem ((c.tc : Thread Cert.GlaS.nD Cert.GlaS.τ).loc Cert.GlaS.main_arg3) = m ((c.tc : Thread Cert.GlaS.nD Cert.GlaS.τ).loc Cert.GlaS.main_arg3)
      ∧ r.2.mem ((c.tc : Thread Cert.GlaS.nD Cert.GlaS.τ).loc Cert.GlaS.main_arg4) = m ((c.tc : Thread Cert.GlaS.nD Cert.GlaS.τ).loc Cert.GlaS.main_arg4))
      ∧ r.2.sem = fun _ => 0)

def quiescent_GlaSIdeal [hGlaSIdeal : Cert.GlaSIdeal.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
      ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4))
      ∧ r.2.sem = fun _ => 0)

def quiescent_GlaSRefIdeal [hGlaSRefIdeal : Cert.GlaSRefIdeal.Facts] : Prop :=
  ∀ (m : (ℓ : Loc Cert.GlaSRefIdeal.nD Cert.GlaSRefIdeal.τ Cert.GlaSRefIdeal.sig) → Buf (Elt Ideal) ℓ) (g : Dev Cert.GlaSRefIdeal.nD → PrngReg), Pre_GlaSRefIdeal m →
    θ_run (Cert.GlaSRefIdeal.defs (F := Ideal)) (onTc (τ := Cert.GlaSRefIdeal.τ) (Cert.GlaSRefIdeal.main (F := Ideal))) ⟨m, fun _ => 0, g⟩ (fun r => (∀ c : Dev Cert.GlaSRefIdeal.nD,
      r.2.mem ((c.tc : Thread Cert.GlaSRefIdeal.nD Cert.GlaSRefIdeal.τ).loc Cert.GlaSRefIdeal.main_arg0) = m ((c.tc : Thread Cert.GlaSRefIdeal.nD Cert.GlaSRefIdeal.τ).loc Cert.GlaSRefIdeal.main_arg0)
      ∧ r.2.mem ((c.tc : Thread Cert.GlaSRefIdeal.nD Cert.GlaSRefIdeal.τ).loc Cert.GlaSRefIdeal.main_arg1) = m ((c.tc : Thread Cert.GlaSRefIdeal.nD Cert.GlaSRefIdeal.τ).loc Cert.GlaSRefIdeal.main_arg1)
      ∧ r.2.mem ((c.tc : Thread Cert.GlaSRefIdeal.nD Cert.GlaSRefIdeal.τ).loc Cert.GlaSRefIdeal.main_arg2) = m ((c.tc : Thread Cert.GlaSRefIdeal.nD Cert.GlaSRefIdeal.τ).loc Cert.GlaSRefIdeal.main_arg2)
      ∧ r.2.mem ((c.tc : Thread Cert.GlaSRefIdeal.nD Cert.GlaSRefIdeal.τ).loc Cert.GlaSRefIdeal.main_arg3) = m ((c.tc : Thread Cert.GlaSRefIdeal.nD Cert.GlaSRefIdeal.τ).loc Cert.GlaSRefIdeal.main_arg3)
      ∧ r.2.mem ((c.tc : Thread Cert.GlaSRefIdeal.nD Cert.GlaSRefIdeal.τ).loc Cert.GlaSRefIdeal.main_arg4) = m ((c.tc : Thread Cert.GlaSRefIdeal.nD Cert.GlaSRefIdeal.τ).loc Cert.GlaSRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1)
      ∧ r.2.mem ((c.tc : Thread Cert.QkvC.nD Cert.QkvC.τ).loc Cert.QkvC.main_arg2) = m ((c.tc : Thread Cert.QkvC.nD Cert.QkvC.τ).loc Cert.QkvC.main_arg2))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
      ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2))
      ∧ r.2.sem = fun _ => 0)

def quiescent_QkvCRefIdeal [hQkvCRefIdeal : Cert.QkvCRefIdeal.Facts] : Prop :=
  ∀ (m : (ℓ : Loc Cert.QkvCRefIdeal.nD Cert.QkvCRefIdeal.τ Cert.QkvCRefIdeal.sig) → Buf (Elt Ideal) ℓ) (g : Dev Cert.QkvCRefIdeal.nD → PrngReg), Pre_QkvCRefIdeal m →
    θ_run (Cert.QkvCRefIdeal.defs (F := Ideal)) (onTc (τ := Cert.QkvCRefIdeal.τ) (Cert.QkvCRefIdeal.main (F := Ideal))) ⟨m, fun _ => 0, g⟩ (fun r => (∀ c : Dev Cert.QkvCRefIdeal.nD,
      r.2.mem ((c.tc : Thread Cert.QkvCRefIdeal.nD Cert.QkvCRefIdeal.τ).loc Cert.QkvCRefIdeal.main_arg0) = m ((c.tc : Thread Cert.QkvCRefIdeal.nD Cert.QkvCRefIdeal.τ).loc Cert.QkvCRefIdeal.main_arg0)
      ∧ r.2.mem ((c.tc : Thread Cert.QkvCRefIdeal.nD Cert.QkvCRefIdeal.τ).loc Cert.QkvCRefIdeal.main_arg1) = m ((c.tc : Thread Cert.QkvCRefIdeal.nD Cert.QkvCRefIdeal.τ).loc Cert.QkvCRefIdeal.main_arg1)
      ∧ r.2.mem ((c.tc : Thread Cert.QkvCRefIdeal.nD Cert.QkvCRefIdeal.τ).loc Cert.QkvCRefIdeal.main_arg2) = m ((c.tc : Thread Cert.QkvCRefIdeal.nD Cert.QkvCRefIdeal.τ).loc Cert.QkvCRefIdeal.main_arg2))
      ∧ r.2.sem = fun _ => 0)

def quiescent_ProjAB [hProjAB : Cert.ProjAB.Facts] : Prop :=
  ∀ (m : (ℓ : Loc Cert.ProjAB.nD Cert.ProjAB.τ Cert.ProjAB.sig) → Buf (Elt Bits) ℓ) (g : Dev Cert.ProjAB.nD → PrngReg), Pre_ProjAB m →
    θ_run (Cert.ProjAB.defs (F := Bits)) (onTc (τ := Cert.ProjAB.τ) (Cert.ProjAB.main (F := Bits))) ⟨m, fun _ => 0, g⟩ (fun r => (∀ c : Dev Cert.ProjAB.nD,
      r.2.mem ((c.tc : Thread Cert.ProjAB.nD Cert.ProjAB.τ).loc Cert.ProjAB.main_arg0) = m ((c.tc : Thread Cert.ProjAB.nD Cert.ProjAB.τ).loc Cert.ProjAB.main_arg0)
      ∧ r.2.mem ((c.tc : Thread Cert.ProjAB.nD Cert.ProjAB.τ).loc Cert.ProjAB.main_arg1) = m ((c.tc : Thread Cert.ProjAB.nD Cert.ProjAB.τ).loc Cert.ProjAB.main_arg1)
      ∧ r.2.mem ((c.tc : Thread Cert.ProjAB.nD Cert.ProjAB.τ).loc Cert.ProjAB.main_arg2) = m ((c.tc : Thread Cert.ProjAB.nD Cert.ProjAB.τ).loc Cert.ProjAB.main_arg2)
      ∧ r.2.mem ((c.tc : Thread Cert.ProjAB.nD Cert.ProjAB.τ).loc Cert.ProjAB.main_arg3) = m ((c.tc : Thread Cert.ProjAB.nD Cert.ProjAB.τ).loc Cert.ProjAB.main_arg3))
      ∧ r.2.sem = fun _ => 0)

def quiescent_ProjABIdeal [hProjABIdeal : Cert.ProjABIdeal.Facts] : Prop :=
  ∀ (m : (ℓ : Loc Cert.ProjABIdeal.nD Cert.ProjABIdeal.τ Cert.ProjABIdeal.sig) → Buf (Elt Ideal) ℓ) (g : Dev Cert.ProjABIdeal.nD → PrngReg), Pre_ProjABIdeal m →
    θ_run (Cert.ProjABIdeal.defs (F := Ideal)) (onTc (τ := Cert.ProjABIdeal.τ) (Cert.ProjABIdeal.main (F := Ideal))) ⟨m, fun _ => 0, g⟩ (fun r => (∀ c : Dev Cert.ProjABIdeal.nD,
      r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
      ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
      ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2)
      ∧ r.2.mem ((c.tc : Thread Cert.ProjABIdeal.nD Cert.ProjABIdeal.τ).loc Cert.ProjABIdeal.main_arg3) = m ((c.tc : Thread Cert.ProjABIdeal.nD Cert.ProjABIdeal.τ).loc Cert.ProjABIdeal.main_arg3))
      ∧ r.2.sem = fun _ => 0)

def quiescent_ProjABRefIdeal [hProjABRefIdeal : Cert.ProjABRefIdeal.Facts] : Prop :=
  ∀ (m : (ℓ : Loc Cert.ProjABRefIdeal.nD Cert.ProjABRefIdeal.τ Cert.ProjABRefIdeal.sig) → Buf (Elt Ideal) ℓ) (g : Dev Cert.ProjABRefIdeal.nD → PrngReg), Pre_ProjABRefIdeal m →
    θ_run (Cert.ProjABRefIdeal.defs (F := Ideal)) (onTc (τ := Cert.ProjABRefIdeal.τ) (Cert.ProjABRefIdeal.main (F := Ideal))) ⟨m, fun _ => 0, g⟩ (fun r => (∀ c : Dev Cert.ProjABRefIdeal.nD,
      r.2.mem ((c.tc : Thread Cert.ProjABRefIdeal.nD Cert.ProjABRefIdeal.τ).loc Cert.ProjABRefIdeal.main_arg0) = m ((c.tc : Thread Cert.ProjABRefIdeal.nD Cert.ProjABRefIdeal.τ).loc Cert.ProjABRefIdeal.main_arg0)
      ∧ r.2.mem ((c.tc : Thread Cert.ProjABRefIdeal.nD Cert.ProjABRefIdeal.τ).loc Cert.ProjABRefIdeal.main_arg1) = m ((c.tc : Thread Cert.ProjABRefIdeal.nD Cert.ProjABRefIdeal.τ).loc Cert.ProjABRefIdeal.main_arg1)
      ∧ r.2.mem ((c.tc : Thread Cert.ProjABRefIdeal.nD Cert.ProjABRefIdeal.τ).loc Cert.ProjABRefIdeal.main_arg2) = m ((c.tc : Thread Cert.ProjABRefIdeal.nD Cert.ProjABRefIdeal.τ).loc Cert.ProjABRefIdeal.main_arg2)
      ∧ r.2.mem ((c.tc : Thread Cert.ProjABRefIdeal.nD Cert.ProjABRefIdeal.τ).loc Cert.ProjABRefIdeal.main_arg3) = m ((c.tc : Thread Cert.ProjABRefIdeal.nD Cert.ProjABRefIdeal.τ).loc Cert.ProjABRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_ActP [hActP : Cert.ActP.Facts] : Prop :=
  ∀ (m : (ℓ : Loc Cert.ActP.nD Cert.ActP.τ Cert.ActP.sig) → Buf (Elt Bits) ℓ) (g : Dev Cert.ActP.nD → PrngReg), Pre_ActP m →
    θ_run (Cert.ActP.defs (F := Bits)) (onTc (τ := Cert.ActP.τ) (Cert.ActP.main (F := Bits))) ⟨m, fun _ => 0, g⟩ (fun r => (∀ c : Dev Cert.ActP.nD,
      r.2.mem ((c.tc : Thread Cert.ActP.nD Cert.ActP.τ).loc Cert.ActP.main_arg0) = m ((c.tc : Thread Cert.ActP.nD Cert.ActP.τ).loc Cert.ActP.main_arg0)
      ∧ r.2.mem ((c.tc : Thread Cert.ActP.nD Cert.ActP.τ).loc Cert.ActP.main_arg1) = m ((c.tc : Thread Cert.ActP.nD Cert.ActP.τ).loc Cert.ActP.main_arg1)
      ∧ r.2.mem ((c.tc : Thread Cert.ActP.nD Cert.ActP.τ).loc Cert.ActP.main_arg2) = m ((c.tc : Thread Cert.ActP.nD Cert.ActP.τ).loc Cert.ActP.main_arg2))
      ∧ r.2.sem = fun _ => 0)

def quiescent_ActPIdeal [hActPIdeal : Cert.ActPIdeal.Facts] : Prop :=
  ∀ (m : (ℓ : Loc Cert.ActPIdeal.nD Cert.ActPIdeal.τ Cert.ActPIdeal.sig) → Buf (Elt Ideal) ℓ) (g : Dev Cert.ActPIdeal.nD → PrngReg), Pre_ActPIdeal m →
    θ_run (Cert.ActPIdeal.defs (F := Ideal)) (onTc (τ := Cert.ActPIdeal.τ) (Cert.ActPIdeal.main (F := Ideal))) ⟨m, fun _ => 0, g⟩ (fun r => (∀ c : Dev Cert.ActPIdeal.nD,
      r.2.mem ((c.tc : Thread Cert.ActPIdeal.nD Cert.ActPIdeal.τ).loc Cert.ActPIdeal.main_arg0) = m ((c.tc : Thread Cert.ActPIdeal.nD Cert.ActPIdeal.τ).loc Cert.ActPIdeal.main_arg0)
      ∧ r.2.mem ((c.tc : Thread Cert.ActPIdeal.nD Cert.ActPIdeal.τ).loc Cert.ActPIdeal.main_arg1) = m ((c.tc : Thread Cert.ActPIdeal.nD Cert.ActPIdeal.τ).loc Cert.ActPIdeal.main_arg1)
      ∧ r.2.mem ((c.tc : Thread Cert.ActPIdeal.nD Cert.ActPIdeal.τ).loc Cert.ActPIdeal.main_arg2) = m ((c.tc : Thread Cert.ActPIdeal.nD Cert.ActPIdeal.τ).loc Cert.ActPIdeal.main_arg2))
      ∧ r.2.sem = fun _ => 0)

def quiescent_ActPRefIdeal [hActPRefIdeal : Cert.ActPRefIdeal.Facts] : Prop :=
  ∀ (m : (ℓ : Loc Cert.ActPRefIdeal.nD Cert.ActPRefIdeal.τ Cert.ActPRefIdeal.sig) → Buf (Elt Ideal) ℓ) (g : Dev Cert.ActPRefIdeal.nD → PrngReg), Pre_ActPRefIdeal m →
    θ_run (Cert.ActPRefIdeal.defs (F := Ideal)) (onTc (τ := Cert.ActPRefIdeal.τ) (Cert.ActPRefIdeal.main (F := Ideal))) ⟨m, fun _ => 0, g⟩ (fun r => (∀ c : Dev Cert.ActPRefIdeal.nD,
      r.2.mem ((c.tc : Thread Cert.ActPRefIdeal.nD Cert.ActPRefIdeal.τ).loc Cert.ActPRefIdeal.main_arg0) = m ((c.tc : Thread Cert.ActPRefIdeal.nD Cert.ActPRefIdeal.τ).loc Cert.ActPRefIdeal.main_arg0)
      ∧ r.2.mem ((c.tc : Thread Cert.ActPRefIdeal.nD Cert.ActPRefIdeal.τ).loc Cert.ActPRefIdeal.main_arg1) = m ((c.tc : Thread Cert.ActPRefIdeal.nD Cert.ActPRefIdeal.τ).loc Cert.ActPRefIdeal.main_arg1)
      ∧ r.2.mem ((c.tc : Thread Cert.ActPRefIdeal.nD Cert.ActPRefIdeal.τ).loc Cert.ActPRefIdeal.main_arg2) = m ((c.tc : Thread Cert.ActPRefIdeal.nD Cert.ActPRefIdeal.τ).loc Cert.ActPRefIdeal.main_arg2))
      ∧ r.2.sem = fun _ => 0)

def quiescent_ActS [hActS : Cert.ActS.Facts] : Prop :=
  ∀ (m : (ℓ : Loc Cert.ActS.nD Cert.ActS.τ Cert.ActS.sig) → Buf (Elt Bits) ℓ) (g : Dev Cert.ActS.nD → PrngReg), Pre_ActS m →
    θ_run (Cert.ActS.defs (F := Bits)) (onTc (τ := Cert.ActS.τ) (Cert.ActS.main (F := Bits))) ⟨m, fun _ => 0, g⟩ (fun r => (∀ c : Dev Cert.ActS.nD,
      r.2.mem ((c.tc : Thread Cert.ActS.nD Cert.ActS.τ).loc Cert.ActS.main_arg0) = m ((c.tc : Thread Cert.ActS.nD Cert.ActS.τ).loc Cert.ActS.main_arg0)
      ∧ r.2.mem ((c.tc : Thread Cert.ActS.nD Cert.ActS.τ).loc Cert.ActS.main_arg1) = m ((c.tc : Thread Cert.ActS.nD Cert.ActS.τ).loc Cert.ActS.main_arg1)
      ∧ r.2.mem ((c.tc : Thread Cert.ActS.nD Cert.ActS.τ).loc Cert.ActS.main_arg2) = m ((c.tc : Thread Cert.ActS.nD Cert.ActS.τ).loc Cert.ActS.main_arg2)
      ∧ r.2.mem ((c.tc : Thread Cert.ActS.nD Cert.ActS.τ).loc Cert.ActS.main_arg3) = m ((c.tc : Thread Cert.ActS.nD Cert.ActS.τ).loc Cert.ActS.main_arg3))
      ∧ r.2.sem = fun _ => 0)

def quiescent_ActSIdeal [hActSIdeal : Cert.ActSIdeal.Facts] : Prop :=
  ∀ (m : (ℓ : Loc Cert.ActSIdeal.nD Cert.ActSIdeal.τ Cert.ActSIdeal.sig) → Buf (Elt Ideal) ℓ) (g : Dev Cert.ActSIdeal.nD → PrngReg), Pre_ActSIdeal m →
    θ_run (Cert.ActSIdeal.defs (F := Ideal)) (onTc (τ := Cert.ActSIdeal.τ) (Cert.ActSIdeal.main (F := Ideal))) ⟨m, fun _ => 0, g⟩ (fun r => (∀ c : Dev Cert.ActSIdeal.nD,
      r.2.mem ((c.tc : Thread Cert.ActSIdeal.nD Cert.ActSIdeal.τ).loc Cert.ActSIdeal.main_arg0) = m ((c.tc : Thread Cert.ActSIdeal.nD Cert.ActSIdeal.τ).loc Cert.ActSIdeal.main_arg0)
      ∧ r.2.mem ((c.tc : Thread Cert.ActSIdeal.nD Cert.ActSIdeal.τ).loc Cert.ActSIdeal.main_arg1) = m ((c.tc : Thread Cert.ActSIdeal.nD Cert.ActSIdeal.τ).loc Cert.ActSIdeal.main_arg1)
      ∧ r.2.mem ((c.tc : Thread Cert.ActSIdeal.nD Cert.ActSIdeal.τ).loc Cert.ActSIdeal.main_arg2) = m ((c.tc : Thread Cert.ActSIdeal.nD Cert.ActSIdeal.τ).loc Cert.ActSIdeal.main_arg2)
      ∧ r.2.mem ((c.tc : Thread Cert.ActSIdeal.nD Cert.ActSIdeal.τ).loc Cert.ActSIdeal.main_arg3) = m ((c.tc : Thread Cert.ActSIdeal.nD Cert.ActSIdeal.τ).loc Cert.ActSIdeal.main_arg3))
      ∧ r.2.sem = fun _ => 0)

def quiescent_ActSRefIdeal [hActSRefIdeal : Cert.ActSRefIdeal.Facts] : Prop :=
  ∀ (m : (ℓ : Loc Cert.ActSRefIdeal.nD Cert.ActSRefIdeal.τ Cert.ActSRefIdeal.sig) → Buf (Elt Ideal) ℓ) (g : Dev Cert.ActSRefIdeal.nD → PrngReg), Pre_ActSRefIdeal m →
    θ_run (Cert.ActSRefIdeal.defs (F := Ideal)) (onTc (τ := Cert.ActSRefIdeal.τ) (Cert.ActSRefIdeal.main (F := Ideal))) ⟨m, fun _ => 0, g⟩ (fun r => (∀ c : Dev Cert.ActSRefIdeal.nD,
      r.2.mem ((c.tc : Thread Cert.ActSRefIdeal.nD Cert.ActSRefIdeal.τ).loc Cert.ActSRefIdeal.main_arg0) = m ((c.tc : Thread Cert.ActSRefIdeal.nD Cert.ActSRefIdeal.τ).loc Cert.ActSRefIdeal.main_arg0)
      ∧ r.2.mem ((c.tc : Thread Cert.ActSRefIdeal.nD Cert.ActSRefIdeal.τ).loc Cert.ActSRefIdeal.main_arg1) = m ((c.tc : Thread Cert.ActSRefIdeal.nD Cert.ActSRefIdeal.τ).loc Cert.ActSRefIdeal.main_arg1)
      ∧ r.2.mem ((c.tc : Thread Cert.ActSRefIdeal.nD Cert.ActSRefIdeal.τ).loc Cert.ActSRefIdeal.main_arg2) = m ((c.tc : Thread Cert.ActSRefIdeal.nD Cert.ActSRefIdeal.τ).loc Cert.ActSRefIdeal.main_arg2)
      ∧ r.2.mem ((c.tc : Thread Cert.ActSRefIdeal.nD Cert.ActSRefIdeal.τ).loc Cert.ActSRefIdeal.main_arg3) = m ((c.tc : Thread Cert.ActSRefIdeal.nD Cert.ActSRefIdeal.τ).loc Cert.ActSRefIdeal.main_arg3))
      ∧ r.2.sem = fun _ => 0)

def quiescent_MobaP [hMobaP : Cert.MobaP.Facts] : Prop :=
  ∀ (m : (ℓ : Loc Cert.MobaP.nD Cert.MobaP.τ Cert.MobaP.sig) → Buf (Elt Bits) ℓ) (g : Dev Cert.MobaP.nD → PrngReg), Pre_MobaP m →
    θ_run (Cert.MobaP.defs (F := Bits)) (onTc (τ := Cert.MobaP.τ) (Cert.MobaP.main (F := Bits))) ⟨m, fun _ => 0, g⟩ (fun r => (∀ c : Dev Cert.MobaP.nD,
      r.2.mem ((c.tc : Thread Cert.MobaP.nD Cert.MobaP.τ).loc Cert.MobaP.main_arg0) = m ((c.tc : Thread Cert.MobaP.nD Cert.MobaP.τ).loc Cert.MobaP.main_arg0)
      ∧ r.2.mem ((c.tc : Thread Cert.MobaP.nD Cert.MobaP.τ).loc Cert.MobaP.main_arg1) = m ((c.tc : Thread Cert.MobaP.nD Cert.MobaP.τ).loc Cert.MobaP.main_arg1))
      ∧ r.2.sem = fun _ => 0)

def quiescent_MobaPIdeal [hMobaPIdeal : Cert.MobaPIdeal.Facts] : Prop :=
  ∀ (m : (ℓ : Loc Cert.MobaPIdeal.nD Cert.MobaPIdeal.τ Cert.MobaPIdeal.sig) → Buf (Elt Ideal) ℓ) (g : Dev Cert.MobaPIdeal.nD → PrngReg), Pre_MobaPIdeal m →
    θ_run (Cert.MobaPIdeal.defs (F := Ideal)) (onTc (τ := Cert.MobaPIdeal.τ) (Cert.MobaPIdeal.main (F := Ideal))) ⟨m, fun _ => 0, g⟩ (fun r => (∀ c : Dev Cert.MobaPIdeal.nD,
      r.2.mem ((c.tc : Thread Cert.MobaPIdeal.nD Cert.MobaPIdeal.τ).loc Cert.MobaPIdeal.main_arg0) = m ((c.tc : Thread Cert.MobaPIdeal.nD Cert.MobaPIdeal.τ).loc Cert.MobaPIdeal.main_arg0)
      ∧ r.2.mem ((c.tc : Thread Cert.MobaPIdeal.nD Cert.MobaPIdeal.τ).loc Cert.MobaPIdeal.main_arg1) = m ((c.tc : Thread Cert.MobaPIdeal.nD Cert.MobaPIdeal.τ).loc Cert.MobaPIdeal.main_arg1))
      ∧ r.2.sem = fun _ => 0)

def quiescent_MobaPRefIdeal [hMobaPRefIdeal : Cert.MobaPRefIdeal.Facts] : Prop :=
  ∀ (m : (ℓ : Loc Cert.MobaPRefIdeal.nD Cert.MobaPRefIdeal.τ Cert.MobaPRefIdeal.sig) → Buf (Elt Ideal) ℓ) (g : Dev Cert.MobaPRefIdeal.nD → PrngReg), Pre_MobaPRefIdeal m →
    θ_run (Cert.MobaPRefIdeal.defs (F := Ideal)) (onTc (τ := Cert.MobaPRefIdeal.τ) (Cert.MobaPRefIdeal.main (F := Ideal))) ⟨m, fun _ => 0, g⟩ (fun r => (∀ c : Dev Cert.MobaPRefIdeal.nD,
      r.2.mem ((c.tc : Thread Cert.MobaPRefIdeal.nD Cert.MobaPRefIdeal.τ).loc Cert.MobaPRefIdeal.main_arg0) = m ((c.tc : Thread Cert.MobaPRefIdeal.nD Cert.MobaPRefIdeal.τ).loc Cert.MobaPRefIdeal.main_arg0)
      ∧ r.2.mem ((c.tc : Thread Cert.MobaPRefIdeal.nD Cert.MobaPRefIdeal.τ).loc Cert.MobaPRefIdeal.main_arg1) = m ((c.tc : Thread Cert.MobaPRefIdeal.nD Cert.MobaPRefIdeal.τ).loc Cert.MobaPRefIdeal.main_arg1))
      ∧ r.2.sem = fun _ => 0)

def quiescent_NsaP [hNsaP : Cert.NsaP.Facts] : Prop :=
  ∀ (m : (ℓ : Loc Cert.NsaP.nD Cert.NsaP.τ Cert.NsaP.sig) → Buf (Elt Bits) ℓ) (g : Dev Cert.NsaP.nD → PrngReg), Pre_NsaP m →
    θ_run (Cert.NsaP.defs (F := Bits)) (onTc (τ := Cert.NsaP.τ) (Cert.NsaP.main (F := Bits))) ⟨m, fun _ => 0, g⟩ (fun r => (∀ c : Dev Cert.NsaP.nD,
      r.2.mem ((c.tc : Thread Cert.NsaP.nD Cert.NsaP.τ).loc Cert.NsaP.main_arg0) = m ((c.tc : Thread Cert.NsaP.nD Cert.NsaP.τ).loc Cert.NsaP.main_arg0)
      ∧ r.2.mem ((c.tc : Thread Cert.NsaP.nD Cert.NsaP.τ).loc Cert.NsaP.main_arg1) = m ((c.tc : Thread Cert.NsaP.nD Cert.NsaP.τ).loc Cert.NsaP.main_arg1))
      ∧ r.2.sem = fun _ => 0)

def quiescent_NsaPIdeal [hNsaPIdeal : Cert.NsaPIdeal.Facts] : Prop :=
  ∀ (m : (ℓ : Loc Cert.NsaPIdeal.nD Cert.NsaPIdeal.τ Cert.NsaPIdeal.sig) → Buf (Elt Ideal) ℓ) (g : Dev Cert.NsaPIdeal.nD → PrngReg), Pre_NsaPIdeal m →
    θ_run (Cert.NsaPIdeal.defs (F := Ideal)) (onTc (τ := Cert.NsaPIdeal.τ) (Cert.NsaPIdeal.main (F := Ideal))) ⟨m, fun _ => 0, g⟩ (fun r => (∀ c : Dev Cert.NsaPIdeal.nD,
      r.2.mem ((c.tc : Thread Cert.NsaPIdeal.nD Cert.NsaPIdeal.τ).loc Cert.NsaPIdeal.main_arg0) = m ((c.tc : Thread Cert.NsaPIdeal.nD Cert.NsaPIdeal.τ).loc Cert.NsaPIdeal.main_arg0)
      ∧ r.2.mem ((c.tc : Thread Cert.NsaPIdeal.nD Cert.NsaPIdeal.τ).loc Cert.NsaPIdeal.main_arg1) = m ((c.tc : Thread Cert.NsaPIdeal.nD Cert.NsaPIdeal.τ).loc Cert.NsaPIdeal.main_arg1))
      ∧ r.2.sem = fun _ => 0)

def quiescent_NsaPRefIdeal [hNsaPRefIdeal : Cert.NsaPRefIdeal.Facts] : Prop :=
  ∀ (m : (ℓ : Loc Cert.NsaPRefIdeal.nD Cert.NsaPRefIdeal.τ Cert.NsaPRefIdeal.sig) → Buf (Elt Ideal) ℓ) (g : Dev Cert.NsaPRefIdeal.nD → PrngReg), Pre_NsaPRefIdeal m →
    θ_run (Cert.NsaPRefIdeal.defs (F := Ideal)) (onTc (τ := Cert.NsaPRefIdeal.τ) (Cert.NsaPRefIdeal.main (F := Ideal))) ⟨m, fun _ => 0, g⟩ (fun r => (∀ c : Dev Cert.NsaPRefIdeal.nD,
      r.2.mem ((c.tc : Thread Cert.NsaPRefIdeal.nD Cert.NsaPRefIdeal.τ).loc Cert.NsaPRefIdeal.main_arg0) = m ((c.tc : Thread Cert.NsaPRefIdeal.nD Cert.NsaPRefIdeal.τ).loc Cert.NsaPRefIdeal.main_arg0)
      ∧ r.2.mem ((c.tc : Thread Cert.NsaPRefIdeal.nD Cert.NsaPRefIdeal.τ).loc Cert.NsaPRefIdeal.main_arg1) = m ((c.tc : Thread Cert.NsaPRefIdeal.nD Cert.NsaPRefIdeal.τ).loc Cert.NsaPRefIdeal.main_arg1))
      ∧ r.2.sem = fun _ => 0)

def quiescent_MobaA [hMobaA : Cert.MobaA.Facts] : Prop :=
  ∀ (m : (ℓ : Loc Cert.MobaA.nD Cert.MobaA.τ Cert.MobaA.sig) → Buf (Elt Bits) ℓ) (g : Dev Cert.MobaA.nD → PrngReg), Pre_MobaA m →
    θ_run (Cert.MobaA.defs (F := Bits)) (onTc (τ := Cert.MobaA.τ) (Cert.MobaA.main (F := Bits))) ⟨m, fun _ => 0, g⟩ (fun r => (∀ c : Dev Cert.MobaA.nD,
      r.2.mem ((c.tc : Thread Cert.MobaA.nD Cert.MobaA.τ).loc Cert.MobaA.main_arg0) = m ((c.tc : Thread Cert.MobaA.nD Cert.MobaA.τ).loc Cert.MobaA.main_arg0)
      ∧ r.2.mem ((c.tc : Thread Cert.MobaA.nD Cert.MobaA.τ).loc Cert.MobaA.main_arg1) = m ((c.tc : Thread Cert.MobaA.nD Cert.MobaA.τ).loc Cert.MobaA.main_arg1)
      ∧ r.2.mem ((c.tc : Thread Cert.MobaA.nD Cert.MobaA.τ).loc Cert.MobaA.main_arg2) = m ((c.tc : Thread Cert.MobaA.nD Cert.MobaA.τ).loc Cert.MobaA.main_arg2)
      ∧ r.2.mem ((c.tc : Thread Cert.MobaA.nD Cert.MobaA.τ).loc Cert.MobaA.main_arg3) = m ((c.tc : Thread Cert.MobaA.nD Cert.MobaA.τ).loc Cert.MobaA.main_arg3))
      ∧ r.2.sem = fun _ => 0)

def quiescent_MobaAIdeal [hMobaAIdeal : Cert.MobaAIdeal.Facts] : Prop :=
  ∀ (m : (ℓ : Loc Cert.MobaAIdeal.nD Cert.MobaAIdeal.τ Cert.MobaAIdeal.sig) → Buf (Elt Ideal) ℓ) (g : Dev Cert.MobaAIdeal.nD → PrngReg), Pre_MobaAIdeal m →
    θ_run (Cert.MobaAIdeal.defs (F := Ideal)) (onTc (τ := Cert.MobaAIdeal.τ) (Cert.MobaAIdeal.main (F := Ideal))) ⟨m, fun _ => 0, g⟩ (fun r => (∀ c : Dev Cert.MobaAIdeal.nD,
      r.2.mem ((c.tc : Thread Cert.MobaAIdeal.nD Cert.MobaAIdeal.τ).loc Cert.MobaAIdeal.main_arg0) = m ((c.tc : Thread Cert.MobaAIdeal.nD Cert.MobaAIdeal.τ).loc Cert.MobaAIdeal.main_arg0)
      ∧ r.2.mem ((c.tc : Thread Cert.MobaAIdeal.nD Cert.MobaAIdeal.τ).loc Cert.MobaAIdeal.main_arg1) = m ((c.tc : Thread Cert.MobaAIdeal.nD Cert.MobaAIdeal.τ).loc Cert.MobaAIdeal.main_arg1)
      ∧ r.2.mem ((c.tc : Thread Cert.MobaAIdeal.nD Cert.MobaAIdeal.τ).loc Cert.MobaAIdeal.main_arg2) = m ((c.tc : Thread Cert.MobaAIdeal.nD Cert.MobaAIdeal.τ).loc Cert.MobaAIdeal.main_arg2)
      ∧ r.2.mem ((c.tc : Thread Cert.MobaAIdeal.nD Cert.MobaAIdeal.τ).loc Cert.MobaAIdeal.main_arg3) = m ((c.tc : Thread Cert.MobaAIdeal.nD Cert.MobaAIdeal.τ).loc Cert.MobaAIdeal.main_arg3))
      ∧ r.2.sem = fun _ => 0)

def quiescent_NsaA [hNsaA : Cert.NsaA.Facts] : Prop :=
  ∀ (m : (ℓ : Loc Cert.NsaA.nD Cert.NsaA.τ Cert.NsaA.sig) → Buf (Elt Bits) ℓ) (g : Dev Cert.NsaA.nD → PrngReg), Pre_NsaA m →
    θ_run (Cert.NsaA.defs (F := Bits)) (onTc (τ := Cert.NsaA.τ) (Cert.NsaA.main (F := Bits))) ⟨m, fun _ => 0, g⟩ (fun r => (∀ c : Dev Cert.NsaA.nD,
      r.2.mem ((c.tc : Thread Cert.NsaA.nD Cert.NsaA.τ).loc Cert.NsaA.main_arg0) = m ((c.tc : Thread Cert.NsaA.nD Cert.NsaA.τ).loc Cert.NsaA.main_arg0)
      ∧ r.2.mem ((c.tc : Thread Cert.NsaA.nD Cert.NsaA.τ).loc Cert.NsaA.main_arg1) = m ((c.tc : Thread Cert.NsaA.nD Cert.NsaA.τ).loc Cert.NsaA.main_arg1)
      ∧ r.2.mem ((c.tc : Thread Cert.NsaA.nD Cert.NsaA.τ).loc Cert.NsaA.main_arg2) = m ((c.tc : Thread Cert.NsaA.nD Cert.NsaA.τ).loc Cert.NsaA.main_arg2)
      ∧ r.2.mem ((c.tc : Thread Cert.NsaA.nD Cert.NsaA.τ).loc Cert.NsaA.main_arg3) = m ((c.tc : Thread Cert.NsaA.nD Cert.NsaA.τ).loc Cert.NsaA.main_arg3)
      ∧ r.2.mem ((c.tc : Thread Cert.NsaA.nD Cert.NsaA.τ).loc Cert.NsaA.main_arg4) = m ((c.tc : Thread Cert.NsaA.nD Cert.NsaA.τ).loc Cert.NsaA.main_arg4))
      ∧ r.2.sem = fun _ => 0)

def quiescent_NsaAIdeal [hNsaAIdeal : Cert.NsaAIdeal.Facts] : Prop :=
  ∀ (m : (ℓ : Loc Cert.NsaAIdeal.nD Cert.NsaAIdeal.τ Cert.NsaAIdeal.sig) → Buf (Elt Ideal) ℓ) (g : Dev Cert.NsaAIdeal.nD → PrngReg), Pre_NsaAIdeal m →
    θ_run (Cert.NsaAIdeal.defs (F := Ideal)) (onTc (τ := Cert.NsaAIdeal.τ) (Cert.NsaAIdeal.main (F := Ideal))) ⟨m, fun _ => 0, g⟩ (fun r => (∀ c : Dev Cert.NsaAIdeal.nD,
      r.2.mem ((c.tc : Thread Cert.NsaAIdeal.nD Cert.NsaAIdeal.τ).loc Cert.NsaAIdeal.main_arg0) = m ((c.tc : Thread Cert.NsaAIdeal.nD Cert.NsaAIdeal.τ).loc Cert.NsaAIdeal.main_arg0)
      ∧ r.2.mem ((c.tc : Thread Cert.NsaAIdeal.nD Cert.NsaAIdeal.τ).loc Cert.NsaAIdeal.main_arg1) = m ((c.tc : Thread Cert.NsaAIdeal.nD Cert.NsaAIdeal.τ).loc Cert.NsaAIdeal.main_arg1)
      ∧ r.2.mem ((c.tc : Thread Cert.NsaAIdeal.nD Cert.NsaAIdeal.τ).loc Cert.NsaAIdeal.main_arg2) = m ((c.tc : Thread Cert.NsaAIdeal.nD Cert.NsaAIdeal.τ).loc Cert.NsaAIdeal.main_arg2)
      ∧ r.2.mem ((c.tc : Thread Cert.NsaAIdeal.nD Cert.NsaAIdeal.τ).loc Cert.NsaAIdeal.main_arg3) = m ((c.tc : Thread Cert.NsaAIdeal.nD Cert.NsaAIdeal.τ).loc Cert.NsaAIdeal.main_arg3)
      ∧ r.2.mem ((c.tc : Thread Cert.NsaAIdeal.nD Cert.NsaAIdeal.τ).loc Cert.NsaAIdeal.main_arg4) = m ((c.tc : Thread Cert.NsaAIdeal.nD Cert.NsaAIdeal.τ).loc Cert.NsaAIdeal.main_arg4))
      ∧ r.2.sem = fun _ => 0)

def quiescent_NsaC [hNsaC : Cert.NsaC.Facts] : Prop :=
  ∀ (m : (ℓ : Loc Cert.NsaC.nD Cert.NsaC.τ Cert.NsaC.sig) → Buf (Elt Bits) ℓ) (g : Dev Cert.NsaC.nD → PrngReg), Pre_NsaC m →
    θ_run (Cert.NsaC.defs (F := Bits)) (onTc (τ := Cert.NsaC.τ) (Cert.NsaC.main (F := Bits))) ⟨m, fun _ => 0, g⟩ (fun r => (∀ c : Dev Cert.NsaC.nD,
      r.2.mem ((c.tc : Thread Cert.NsaC.nD Cert.NsaC.τ).loc Cert.NsaC.main_arg0) = m ((c.tc : Thread Cert.NsaC.nD Cert.NsaC.τ).loc Cert.NsaC.main_arg0)
      ∧ r.2.mem ((c.tc : Thread Cert.NsaC.nD Cert.NsaC.τ).loc Cert.NsaC.main_arg1) = m ((c.tc : Thread Cert.NsaC.nD Cert.NsaC.τ).loc Cert.NsaC.main_arg1)
      ∧ r.2.mem ((c.tc : Thread Cert.NsaC.nD Cert.NsaC.τ).loc Cert.NsaC.main_arg2) = m ((c.tc : Thread Cert.NsaC.nD Cert.NsaC.τ).loc Cert.NsaC.main_arg2)
      ∧ r.2.mem ((c.tc : Thread Cert.NsaC.nD Cert.NsaC.τ).loc Cert.NsaC.main_arg3) = m ((c.tc : Thread Cert.NsaC.nD Cert.NsaC.τ).loc Cert.NsaC.main_arg3)
      ∧ r.2.mem ((c.tc : Thread Cert.NsaC.nD Cert.NsaC.τ).loc Cert.NsaC.main_arg4) = m ((c.tc : Thread Cert.NsaC.nD Cert.NsaC.τ).loc Cert.NsaC.main_arg4)
      ∧ r.2.mem ((c.tc : Thread Cert.NsaC.nD Cert.NsaC.τ).loc Cert.NsaC.main_arg5) = m ((c.tc : Thread Cert.NsaC.nD Cert.NsaC.τ).loc Cert.NsaC.main_arg5)
      ∧ r.2.mem ((c.tc : Thread Cert.NsaC.nD Cert.NsaC.τ).loc Cert.NsaC.main_arg6) = m ((c.tc : Thread Cert.NsaC.nD Cert.NsaC.τ).loc Cert.NsaC.main_arg6))
      ∧ r.2.sem = fun _ => 0)

def quiescent_NsaCIdeal [hNsaCIdeal : Cert.NsaCIdeal.Facts] : Prop :=
  ∀ (m : (ℓ : Loc Cert.NsaCIdeal.nD Cert.NsaCIdeal.τ Cert.NsaCIdeal.sig) → Buf (Elt Ideal) ℓ) (g : Dev Cert.NsaCIdeal.nD → PrngReg), Pre_NsaCIdeal m →
    θ_run (Cert.NsaCIdeal.defs (F := Ideal)) (onTc (τ := Cert.NsaCIdeal.τ) (Cert.NsaCIdeal.main (F := Ideal))) ⟨m, fun _ => 0, g⟩ (fun r => (∀ c : Dev Cert.NsaCIdeal.nD,
      r.2.mem ((c.tc : Thread Cert.NsaCIdeal.nD Cert.NsaCIdeal.τ).loc Cert.NsaCIdeal.main_arg0) = m ((c.tc : Thread Cert.NsaCIdeal.nD Cert.NsaCIdeal.τ).loc Cert.NsaCIdeal.main_arg0)
      ∧ r.2.mem ((c.tc : Thread Cert.NsaCIdeal.nD Cert.NsaCIdeal.τ).loc Cert.NsaCIdeal.main_arg1) = m ((c.tc : Thread Cert.NsaCIdeal.nD Cert.NsaCIdeal.τ).loc Cert.NsaCIdeal.main_arg1)
      ∧ r.2.mem ((c.tc : Thread Cert.NsaCIdeal.nD Cert.NsaCIdeal.τ).loc Cert.NsaCIdeal.main_arg2) = m ((c.tc : Thread Cert.NsaCIdeal.nD Cert.NsaCIdeal.τ).loc Cert.NsaCIdeal.main_arg2)
      ∧ r.2.mem ((c.tc : Thread Cert.NsaCIdeal.nD Cert.NsaCIdeal.τ).loc Cert.NsaCIdeal.main_arg3) = m ((c.tc : Thread Cert.NsaCIdeal.nD Cert.NsaCIdeal.τ).loc Cert.NsaCIdeal.main_arg3)
      ∧ r.2.mem ((c.tc : Thread Cert.NsaCIdeal.nD Cert.NsaCIdeal.τ).loc Cert.NsaCIdeal.main_arg4) = m ((c.tc : Thread Cert.NsaCIdeal.nD Cert.NsaCIdeal.τ).loc Cert.NsaCIdeal.main_arg4)
      ∧ r.2.mem ((c.tc : Thread Cert.NsaCIdeal.nD Cert.NsaCIdeal.τ).loc Cert.NsaCIdeal.main_arg5) = m ((c.tc : Thread Cert.NsaCIdeal.nD Cert.NsaCIdeal.τ).loc Cert.NsaCIdeal.main_arg5)
      ∧ r.2.mem ((c.tc : Thread Cert.NsaCIdeal.nD Cert.NsaCIdeal.τ).loc Cert.NsaCIdeal.main_arg6) = m ((c.tc : Thread Cert.NsaCIdeal.nD Cert.NsaCIdeal.τ).loc Cert.NsaCIdeal.main_arg6))
      ∧ r.2.sem = fun _ => 0)

def preserves_GlaS_GlaSIdeal : Prop :=
  IdealRules.named_const.Statement Cert.GlaSIdeal.κ "mask" .f32 0xF149F2CA#32 ⊥

def algebraic_GlaSIdeal_GlaSRefIdeal [hGlaSIdeal : Cert.GlaSIdeal.Facts] [hGlaSRefIdeal : Cert.GlaSRefIdeal.Facts] : Prop :=
  ∀ (m : (ℓ : Loc Cert.GlaSIdeal.nD Cert.GlaSIdeal.τ Cert.GlaSIdeal.sig) → Buf (Elt Ideal) ℓ) (g : Dev Cert.GlaSIdeal.nD → PrngReg)
    (m' : (ℓ : Loc Cert.GlaSRefIdeal.nD Cert.GlaSRefIdeal.τ Cert.GlaSRefIdeal.sig) → Buf (Elt Ideal) ℓ) (g' : Dev Cert.GlaSRefIdeal.nD → PrngReg), Pre_GlaSIdeal m →
    (∀ c : Dev Cert.GlaSIdeal.nD,
      m' ((c.tc : Thread Cert.GlaSRefIdeal.nD Cert.GlaSRefIdeal.τ).loc Cert.GlaSRefIdeal.main_arg0) = m ((c.tc : Thread Cert.GlaSIdeal.nD Cert.GlaSIdeal.τ).loc Cert.GlaSIdeal.main_arg0)
      ∧ m' ((c.tc : Thread Cert.GlaSRefIdeal.nD Cert.GlaSRefIdeal.τ).loc Cert.GlaSRefIdeal.main_arg1) = m ((c.tc : Thread Cert.GlaSIdeal.nD Cert.GlaSIdeal.τ).loc Cert.GlaSIdeal.main_arg1)
      ∧ m' ((c.tc : Thread Cert.GlaSRefIdeal.nD Cert.GlaSRefIdeal.τ).loc Cert.GlaSRefIdeal.main_arg2) = m ((c.tc : Thread Cert.GlaSIdeal.nD Cert.GlaSIdeal.τ).loc Cert.GlaSIdeal.main_arg2)
      ∧ m' ((c.tc : Thread Cert.GlaSRefIdeal.nD Cert.GlaSRefIdeal.τ).loc Cert.GlaSRefIdeal.main_arg3) = m ((c.tc : Thread Cert.GlaSIdeal.nD Cert.GlaSIdeal.τ).loc Cert.GlaSIdeal.main_arg3)
      ∧ m' ((c.tc : Thread Cert.GlaSRefIdeal.nD Cert.GlaSRefIdeal.τ).loc Cert.GlaSRefIdeal.main_arg4) = m ((c.tc : Thread Cert.GlaSIdeal.nD Cert.GlaSIdeal.τ).loc Cert.GlaSIdeal.main_arg4)) →
    ∃ (v0 : (c : Dev Cert.GlaSIdeal.nD) → Buf (Elt Ideal) ((c.tc : Thread Cert.GlaSIdeal.nD Cert.GlaSIdeal.τ).loc Cert.GlaSIdeal.main_v11_0)) (v1 : (c : Dev Cert.GlaSIdeal.nD) → Buf (Elt Ideal) ((c.tc : Thread Cert.GlaSIdeal.nD Cert.GlaSIdeal.τ).loc Cert.GlaSIdeal.main_v11_1)),
      θ_run (Cert.GlaSIdeal.defs (F := Ideal)) (onTc (τ := Cert.GlaSIdeal.τ) (Cert.GlaSIdeal.main (F := Ideal))) ⟨m, fun _ => 0, g⟩ (fun r => ∀ c : Dev Cert.GlaSIdeal.nD,
          r.2.mem ((c.tc : Thread Cert.GlaSIdeal.nD Cert.GlaSIdeal.τ).loc Cert.GlaSIdeal.main_v11_0) = v0 c
          ∧ r.2.mem ((c.tc : Thread Cert.GlaSIdeal.nD Cert.GlaSIdeal.τ).loc Cert.GlaSIdeal.main_v11_1) = v1 c
          ∧ r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
          ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
          ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
          ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
          ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4))
      ∧ θ_run (Cert.GlaSRefIdeal.defs (F := Ideal)) (onTc (τ := Cert.GlaSRefIdeal.τ) (Cert.GlaSRefIdeal.main (F := Ideal))) ⟨m', fun _ => 0, g'⟩ (fun r => ∀ c : Dev Cert.GlaSRefIdeal.nD,
          r.2.mem ((c.tc : Thread Cert.GlaSRefIdeal.nD Cert.GlaSRefIdeal.τ).loc Cert.GlaSRefIdeal.main_v79) = v0 c
          ∧ r.2.mem ((c.tc : Thread Cert.GlaSRefIdeal.nD Cert.GlaSRefIdeal.τ).loc Cert.GlaSRefIdeal.main_v57) = v1 c
          ∧ r.2.mem ((c.tc : Thread Cert.GlaSRefIdeal.nD Cert.GlaSRefIdeal.τ).loc Cert.GlaSRefIdeal.main_arg0) = m' ((c.tc : Thread Cert.GlaSRefIdeal.nD Cert.GlaSRefIdeal.τ).loc Cert.GlaSRefIdeal.main_arg0)
          ∧ r.2.mem ((c.tc : Thread Cert.GlaSRefIdeal.nD Cert.GlaSRefIdeal.τ).loc Cert.GlaSRefIdeal.main_arg1) = m' ((c.tc : Thread Cert.GlaSRefIdeal.nD Cert.GlaSRefIdeal.τ).loc Cert.GlaSRefIdeal.main_arg1)
          ∧ r.2.mem ((c.tc : Thread Cert.GlaSRefIdeal.nD Cert.GlaSRefIdeal.τ).loc Cert.GlaSRefIdeal.main_arg2) = m' ((c.tc : Thread Cert.GlaSRefIdeal.nD Cert.GlaSRefIdeal.τ).loc Cert.GlaSRefIdeal.main_arg2)
          ∧ r.2.mem ((c.tc : Thread Cert.GlaSRefIdeal.nD Cert.GlaSRefIdeal.τ).loc Cert.GlaSRefIdeal.main_arg3) = m' ((c.tc : Thread Cert.GlaSRefIdeal.nD Cert.GlaSRefIdeal.τ).loc Cert.GlaSRefIdeal.main_arg3)
          ∧ r.2.mem ((c.tc : Thread Cert.GlaSRefIdeal.nD Cert.GlaSRefIdeal.τ).loc Cert.GlaSRefIdeal.main_arg4) = m' ((c.tc : Thread Cert.GlaSRefIdeal.nD Cert.GlaSRefIdeal.τ).loc Cert.GlaSRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_QkvC_QkvCIdeal : Prop :=
  True

def algebraic_QkvCIdeal_QkvCRefIdeal [hQkvCIdeal : Cert.QkvCIdeal.Facts] [hQkvCRefIdeal : Cert.QkvCRefIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCRefIdeal.nD Cert.QkvCRefIdeal.τ Cert.QkvCRefIdeal.sig) → Buf (Elt Ideal) ℓ) (g' : Dev Cert.QkvCRefIdeal.nD → PrngReg), Pre_QkvCIdeal m →
    (∀ c : Dev Cert.QkvCIdeal.nD,
      m' ((c.tc : Thread Cert.QkvCRefIdeal.nD Cert.QkvCRefIdeal.τ).loc Cert.QkvCRefIdeal.main_arg0) = m ((c.tc : Thread Cert.QkvCIdeal.nD Cert.QkvCIdeal.τ).loc Cert.QkvCIdeal.main_arg0)
      ∧ m' ((c.tc : Thread Cert.QkvCRefIdeal.nD Cert.QkvCRefIdeal.τ).loc Cert.QkvCRefIdeal.main_arg1) = m ((c.tc : Thread Cert.QkvCIdeal.nD Cert.QkvCIdeal.τ).loc Cert.QkvCIdeal.main_arg1)
      ∧ m' ((c.tc : Thread Cert.QkvCRefIdeal.nD Cert.QkvCRefIdeal.τ).loc Cert.QkvCRefIdeal.main_arg2) = m ((c.tc : Thread Cert.QkvCIdeal.nD Cert.QkvCIdeal.τ).loc Cert.QkvCIdeal.main_arg2)) →
    ∃ (v0 : (c : Dev Cert.QkvCIdeal.nD) → Buf (Elt Ideal) ((c.tc : Thread Cert.QkvCIdeal.nD Cert.QkvCIdeal.τ).loc Cert.QkvCIdeal.main_v2)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v2) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
          ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2))
      ∧ θ_run (Cert.QkvCRefIdeal.defs (F := Ideal)) (onTc (τ := Cert.QkvCRefIdeal.τ) (Cert.QkvCRefIdeal.main (F := Ideal))) ⟨m', fun _ => 0, g'⟩ (fun r => ∀ c : Dev Cert.QkvCRefIdeal.nD,
          r.2.mem ((c.tc : Thread Cert.QkvCRefIdeal.nD Cert.QkvCRefIdeal.τ).loc Cert.QkvCRefIdeal.main_v13) = v0 c
          ∧ r.2.mem ((c.tc : Thread Cert.QkvCRefIdeal.nD Cert.QkvCRefIdeal.τ).loc Cert.QkvCRefIdeal.main_arg0) = m' ((c.tc : Thread Cert.QkvCRefIdeal.nD Cert.QkvCRefIdeal.τ).loc Cert.QkvCRefIdeal.main_arg0)
          ∧ r.2.mem ((c.tc : Thread Cert.QkvCRefIdeal.nD Cert.QkvCRefIdeal.τ).loc Cert.QkvCRefIdeal.main_arg1) = m' ((c.tc : Thread Cert.QkvCRefIdeal.nD Cert.QkvCRefIdeal.τ).loc Cert.QkvCRefIdeal.main_arg1)
          ∧ r.2.mem ((c.tc : Thread Cert.QkvCRefIdeal.nD Cert.QkvCRefIdeal.τ).loc Cert.QkvCRefIdeal.main_arg2) = m' ((c.tc : Thread Cert.QkvCRefIdeal.nD Cert.QkvCRefIdeal.τ).loc Cert.QkvCRefIdeal.main_arg2))

def preserves_ProjAB_ProjABIdeal : Prop :=
  True

def algebraic_ProjABIdeal_ProjABRefIdeal [hProjABIdeal : Cert.ProjABIdeal.Facts] [hProjABRefIdeal : Cert.ProjABRefIdeal.Facts] : Prop :=
  ∀ (m : (ℓ : Loc Cert.ProjABIdeal.nD Cert.ProjABIdeal.τ Cert.ProjABIdeal.sig) → Buf (Elt Ideal) ℓ) (g : Dev Cert.ProjABIdeal.nD → PrngReg)
    (m' : (ℓ : Loc Cert.ProjABRefIdeal.nD Cert.ProjABRefIdeal.τ Cert.ProjABRefIdeal.sig) → Buf (Elt Ideal) ℓ) (g' : Dev Cert.ProjABRefIdeal.nD → PrngReg), Pre_ProjABIdeal m →
    (∀ c : Dev Cert.ProjABIdeal.nD,
      m' ((c.tc : Thread Cert.ProjABRefIdeal.nD Cert.ProjABRefIdeal.τ).loc Cert.ProjABRefIdeal.main_arg0) = m ((c.tc : Thread Cert.ProjABIdeal.nD Cert.ProjABIdeal.τ).loc Cert.ProjABIdeal.main_arg0)
      ∧ m' ((c.tc : Thread Cert.ProjABRefIdeal.nD Cert.ProjABRefIdeal.τ).loc Cert.ProjABRefIdeal.main_arg1) = m ((c.tc : Thread Cert.ProjABIdeal.nD Cert.ProjABIdeal.τ).loc Cert.ProjABIdeal.main_arg1)
      ∧ m' ((c.tc : Thread Cert.ProjABRefIdeal.nD Cert.ProjABRefIdeal.τ).loc Cert.ProjABRefIdeal.main_arg2) = m ((c.tc : Thread Cert.ProjABIdeal.nD Cert.ProjABIdeal.τ).loc Cert.ProjABIdeal.main_arg2)
      ∧ m' ((c.tc : Thread Cert.ProjABRefIdeal.nD Cert.ProjABRefIdeal.τ).loc Cert.ProjABRefIdeal.main_arg3) = m ((c.tc : Thread Cert.ProjABIdeal.nD Cert.ProjABIdeal.τ).loc Cert.ProjABIdeal.main_arg3)) →
    ∃ (v0 : (c : Dev Cert.ProjABIdeal.nD) → Buf (Elt Ideal) ((c.tc : Thread Cert.ProjABIdeal.nD Cert.ProjABIdeal.τ).loc Cert.ProjABIdeal.main_v25)),
      θ_run (Cert.ProjABIdeal.defs (F := Ideal)) (onTc (τ := Cert.ProjABIdeal.τ) (Cert.ProjABIdeal.main (F := Ideal))) ⟨m, fun _ => 0, g⟩ (fun r => ∀ c : Dev Cert.ProjABIdeal.nD,
          r.2.mem ((c.tc : Thread Cert.ProjABIdeal.nD Cert.ProjABIdeal.τ).loc Cert.ProjABIdeal.main_v25) = v0 c
          ∧ r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
          ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
          ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2)
          ∧ r.2.mem ((c.tc : Thread Cert.ProjABIdeal.nD Cert.ProjABIdeal.τ).loc Cert.ProjABIdeal.main_arg3) = m ((c.tc : Thread Cert.ProjABIdeal.nD Cert.ProjABIdeal.τ).loc Cert.ProjABIdeal.main_arg3))
      ∧ θ_run (Cert.ProjABRefIdeal.defs (F := Ideal)) (onTc (τ := Cert.ProjABRefIdeal.τ) (Cert.ProjABRefIdeal.main (F := Ideal))) ⟨m', fun _ => 0, g'⟩ (fun r => ∀ c : Dev Cert.ProjABRefIdeal.nD,
          r.2.mem ((c.tc : Thread Cert.ProjABRefIdeal.nD Cert.ProjABRefIdeal.τ).loc Cert.ProjABRefIdeal.main_v29) = v0 c
          ∧ r.2.mem ((c.tc : Thread Cert.ProjABRefIdeal.nD Cert.ProjABRefIdeal.τ).loc Cert.ProjABRefIdeal.main_arg0) = m' ((c.tc : Thread Cert.ProjABRefIdeal.nD Cert.ProjABRefIdeal.τ).loc Cert.ProjABRefIdeal.main_arg0)
          ∧ r.2.mem ((c.tc : Thread Cert.ProjABRefIdeal.nD Cert.ProjABRefIdeal.τ).loc Cert.ProjABRefIdeal.main_arg1) = m' ((c.tc : Thread Cert.ProjABRefIdeal.nD Cert.ProjABRefIdeal.τ).loc Cert.ProjABRefIdeal.main_arg1)
          ∧ r.2.mem ((c.tc : Thread Cert.ProjABRefIdeal.nD Cert.ProjABRefIdeal.τ).loc Cert.ProjABRefIdeal.main_arg2) = m' ((c.tc : Thread Cert.ProjABRefIdeal.nD Cert.ProjABRefIdeal.τ).loc Cert.ProjABRefIdeal.main_arg2)
          ∧ r.2.mem ((c.tc : Thread Cert.ProjABRefIdeal.nD Cert.ProjABRefIdeal.τ).loc Cert.ProjABRefIdeal.main_arg3) = m' ((c.tc : Thread Cert.ProjABRefIdeal.nD Cert.ProjABRefIdeal.τ).loc Cert.ProjABRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_ActP_ActPIdeal : Prop :=
  True

def algebraic_ActPIdeal_ActPRefIdeal [hActPIdeal : Cert.ActPIdeal.Facts] [hActPRefIdeal : Cert.ActPRefIdeal.Facts] : Prop :=
  ∀ (m : (ℓ : Loc Cert.ActPIdeal.nD Cert.ActPIdeal.τ Cert.ActPIdeal.sig) → Buf (Elt Ideal) ℓ) (g : Dev Cert.ActPIdeal.nD → PrngReg)
    (m' : (ℓ : Loc Cert.ActPRefIdeal.nD Cert.ActPRefIdeal.τ Cert.ActPRefIdeal.sig) → Buf (Elt Ideal) ℓ) (g' : Dev Cert.ActPRefIdeal.nD → PrngReg), Pre_ActPIdeal m →
    (∀ c : Dev Cert.ActPIdeal.nD,
      m' ((c.tc : Thread Cert.ActPRefIdeal.nD Cert.ActPRefIdeal.τ).loc Cert.ActPRefIdeal.main_arg0) = m ((c.tc : Thread Cert.ActPIdeal.nD Cert.ActPIdeal.τ).loc Cert.ActPIdeal.main_arg0)
      ∧ m' ((c.tc : Thread Cert.ActPRefIdeal.nD Cert.ActPRefIdeal.τ).loc Cert.ActPRefIdeal.main_arg1) = m ((c.tc : Thread Cert.ActPIdeal.nD Cert.ActPIdeal.τ).loc Cert.ActPIdeal.main_arg1)
      ∧ m' ((c.tc : Thread Cert.ActPRefIdeal.nD Cert.ActPRefIdeal.τ).loc Cert.ActPRefIdeal.main_arg2) = m ((c.tc : Thread Cert.ActPIdeal.nD Cert.ActPIdeal.τ).loc Cert.ActPIdeal.main_arg2)) →
    ∃ (v0 : (c : Dev Cert.ActPIdeal.nD) → Buf (Elt Ideal) ((c.tc : Thread Cert.ActPIdeal.nD Cert.ActPIdeal.τ).loc Cert.ActPIdeal.main_v1)),
      θ_run (Cert.ActPIdeal.defs (F := Ideal)) (onTc (τ := Cert.ActPIdeal.τ) (Cert.ActPIdeal.main (F := Ideal))) ⟨m, fun _ => 0, g⟩ (fun r => ∀ c : Dev Cert.ActPIdeal.nD,
          r.2.mem ((c.tc : Thread Cert.ActPIdeal.nD Cert.ActPIdeal.τ).loc Cert.ActPIdeal.main_v1) = v0 c
          ∧ r.2.mem ((c.tc : Thread Cert.ActPIdeal.nD Cert.ActPIdeal.τ).loc Cert.ActPIdeal.main_arg0) = m ((c.tc : Thread Cert.ActPIdeal.nD Cert.ActPIdeal.τ).loc Cert.ActPIdeal.main_arg0)
          ∧ r.2.mem ((c.tc : Thread Cert.ActPIdeal.nD Cert.ActPIdeal.τ).loc Cert.ActPIdeal.main_arg1) = m ((c.tc : Thread Cert.ActPIdeal.nD Cert.ActPIdeal.τ).loc Cert.ActPIdeal.main_arg1)
          ∧ r.2.mem ((c.tc : Thread Cert.ActPIdeal.nD Cert.ActPIdeal.τ).loc Cert.ActPIdeal.main_arg2) = m ((c.tc : Thread Cert.ActPIdeal.nD Cert.ActPIdeal.τ).loc Cert.ActPIdeal.main_arg2))
      ∧ θ_run (Cert.ActPRefIdeal.defs (F := Ideal)) (onTc (τ := Cert.ActPRefIdeal.τ) (Cert.ActPRefIdeal.main (F := Ideal))) ⟨m', fun _ => 0, g'⟩ (fun r => ∀ c : Dev Cert.ActPRefIdeal.nD,
          r.2.mem ((c.tc : Thread Cert.ActPRefIdeal.nD Cert.ActPRefIdeal.τ).loc Cert.ActPRefIdeal.main_v34) = v0 c
          ∧ r.2.mem ((c.tc : Thread Cert.ActPRefIdeal.nD Cert.ActPRefIdeal.τ).loc Cert.ActPRefIdeal.main_arg0) = m' ((c.tc : Thread Cert.ActPRefIdeal.nD Cert.ActPRefIdeal.τ).loc Cert.ActPRefIdeal.main_arg0)
          ∧ r.2.mem ((c.tc : Thread Cert.ActPRefIdeal.nD Cert.ActPRefIdeal.τ).loc Cert.ActPRefIdeal.main_arg1) = m' ((c.tc : Thread Cert.ActPRefIdeal.nD Cert.ActPRefIdeal.τ).loc Cert.ActPRefIdeal.main_arg1)
          ∧ r.2.mem ((c.tc : Thread Cert.ActPRefIdeal.nD Cert.ActPRefIdeal.τ).loc Cert.ActPRefIdeal.main_arg2) = m' ((c.tc : Thread Cert.ActPRefIdeal.nD Cert.ActPRefIdeal.τ).loc Cert.ActPRefIdeal.main_arg2))

def preserves_ActS_ActSIdeal : Prop :=
  True

def algebraic_ActSIdeal_ActSRefIdeal [hActSIdeal : Cert.ActSIdeal.Facts] [hActSRefIdeal : Cert.ActSRefIdeal.Facts] : Prop :=
  ∀ (m : (ℓ : Loc Cert.ActSIdeal.nD Cert.ActSIdeal.τ Cert.ActSIdeal.sig) → Buf (Elt Ideal) ℓ) (g : Dev Cert.ActSIdeal.nD → PrngReg)
    (m' : (ℓ : Loc Cert.ActSRefIdeal.nD Cert.ActSRefIdeal.τ Cert.ActSRefIdeal.sig) → Buf (Elt Ideal) ℓ) (g' : Dev Cert.ActSRefIdeal.nD → PrngReg), Pre_ActSIdeal m →
    (∀ c : Dev Cert.ActSIdeal.nD,
      m' ((c.tc : Thread Cert.ActSRefIdeal.nD Cert.ActSRefIdeal.τ).loc Cert.ActSRefIdeal.main_arg0) = m ((c.tc : Thread Cert.ActSIdeal.nD Cert.ActSIdeal.τ).loc Cert.ActSIdeal.main_arg0)
      ∧ m' ((c.tc : Thread Cert.ActSRefIdeal.nD Cert.ActSRefIdeal.τ).loc Cert.ActSRefIdeal.main_arg1) = m ((c.tc : Thread Cert.ActSIdeal.nD Cert.ActSIdeal.τ).loc Cert.ActSIdeal.main_arg1)
      ∧ m' ((c.tc : Thread Cert.ActSRefIdeal.nD Cert.ActSRefIdeal.τ).loc Cert.ActSRefIdeal.main_arg2) = m ((c.tc : Thread Cert.ActSIdeal.nD Cert.ActSIdeal.τ).loc Cert.ActSIdeal.main_arg2)
      ∧ m' ((c.tc : Thread Cert.ActSRefIdeal.nD Cert.ActSRefIdeal.τ).loc Cert.ActSRefIdeal.main_arg3) = m ((c.tc : Thread Cert.ActSIdeal.nD Cert.ActSIdeal.τ).loc Cert.ActSIdeal.main_arg3)) →
    ∃ (v0 : (c : Dev Cert.ActSIdeal.nD) → Buf (Elt Ideal) ((c.tc : Thread Cert.ActSIdeal.nD Cert.ActSIdeal.τ).loc Cert.ActSIdeal.main_v8)),
      θ_run (Cert.ActSIdeal.defs (F := Ideal)) (onTc (τ := Cert.ActSIdeal.τ) (Cert.ActSIdeal.main (F := Ideal))) ⟨m, fun _ => 0, g⟩ (fun r => ∀ c : Dev Cert.ActSIdeal.nD,
          r.2.mem ((c.tc : Thread Cert.ActSIdeal.nD Cert.ActSIdeal.τ).loc Cert.ActSIdeal.main_v8) = v0 c
          ∧ r.2.mem ((c.tc : Thread Cert.ActSIdeal.nD Cert.ActSIdeal.τ).loc Cert.ActSIdeal.main_arg0) = m ((c.tc : Thread Cert.ActSIdeal.nD Cert.ActSIdeal.τ).loc Cert.ActSIdeal.main_arg0)
          ∧ r.2.mem ((c.tc : Thread Cert.ActSIdeal.nD Cert.ActSIdeal.τ).loc Cert.ActSIdeal.main_arg1) = m ((c.tc : Thread Cert.ActSIdeal.nD Cert.ActSIdeal.τ).loc Cert.ActSIdeal.main_arg1)
          ∧ r.2.mem ((c.tc : Thread Cert.ActSIdeal.nD Cert.ActSIdeal.τ).loc Cert.ActSIdeal.main_arg2) = m ((c.tc : Thread Cert.ActSIdeal.nD Cert.ActSIdeal.τ).loc Cert.ActSIdeal.main_arg2)
          ∧ r.2.mem ((c.tc : Thread Cert.ActSIdeal.nD Cert.ActSIdeal.τ).loc Cert.ActSIdeal.main_arg3) = m ((c.tc : Thread Cert.ActSIdeal.nD Cert.ActSIdeal.τ).loc Cert.ActSIdeal.main_arg3))
      ∧ θ_run (Cert.ActSRefIdeal.defs (F := Ideal)) (onTc (τ := Cert.ActSRefIdeal.τ) (Cert.ActSRefIdeal.main (F := Ideal))) ⟨m', fun _ => 0, g'⟩ (fun r => ∀ c : Dev Cert.ActSRefIdeal.nD,
          r.2.mem ((c.tc : Thread Cert.ActSRefIdeal.nD Cert.ActSRefIdeal.τ).loc Cert.ActSRefIdeal.main_v33) = v0 c
          ∧ r.2.mem ((c.tc : Thread Cert.ActSRefIdeal.nD Cert.ActSRefIdeal.τ).loc Cert.ActSRefIdeal.main_arg0) = m' ((c.tc : Thread Cert.ActSRefIdeal.nD Cert.ActSRefIdeal.τ).loc Cert.ActSRefIdeal.main_arg0)
          ∧ r.2.mem ((c.tc : Thread Cert.ActSRefIdeal.nD Cert.ActSRefIdeal.τ).loc Cert.ActSRefIdeal.main_arg1) = m' ((c.tc : Thread Cert.ActSRefIdeal.nD Cert.ActSRefIdeal.τ).loc Cert.ActSRefIdeal.main_arg1)
          ∧ r.2.mem ((c.tc : Thread Cert.ActSRefIdeal.nD Cert.ActSRefIdeal.τ).loc Cert.ActSRefIdeal.main_arg2) = m' ((c.tc : Thread Cert.ActSRefIdeal.nD Cert.ActSRefIdeal.τ).loc Cert.ActSRefIdeal.main_arg2)
          ∧ r.2.mem ((c.tc : Thread Cert.ActSRefIdeal.nD Cert.ActSRefIdeal.τ).loc Cert.ActSRefIdeal.main_arg3) = m' ((c.tc : Thread Cert.ActSRefIdeal.nD Cert.ActSRefIdeal.τ).loc Cert.ActSRefIdeal.main_arg3))

def preserves_MobaP_MobaPIdeal : Prop :=
  True

def algebraic_MobaPIdeal_MobaPRefIdeal [hMobaPIdeal : Cert.MobaPIdeal.Facts] [hMobaPRefIdeal : Cert.MobaPRefIdeal.Facts] : Prop :=
  ∀ (m : (ℓ : Loc Cert.MobaPIdeal.nD Cert.MobaPIdeal.τ Cert.MobaPIdeal.sig) → Buf (Elt Ideal) ℓ) (g : Dev Cert.MobaPIdeal.nD → PrngReg)
    (m' : (ℓ : Loc Cert.MobaPRefIdeal.nD Cert.MobaPRefIdeal.τ Cert.MobaPRefIdeal.sig) → Buf (Elt Ideal) ℓ) (g' : Dev Cert.MobaPRefIdeal.nD → PrngReg), Pre_MobaPIdeal m →
    (∀ c : Dev Cert.MobaPIdeal.nD,
      m' ((c.tc : Thread Cert.MobaPRefIdeal.nD Cert.MobaPRefIdeal.τ).loc Cert.MobaPRefIdeal.main_arg0) = m ((c.tc : Thread Cert.MobaPIdeal.nD Cert.MobaPIdeal.τ).loc Cert.MobaPIdeal.main_arg0)
      ∧ m' ((c.tc : Thread Cert.MobaPRefIdeal.nD Cert.MobaPRefIdeal.τ).loc Cert.MobaPRefIdeal.main_arg1) = m ((c.tc : Thread Cert.MobaPIdeal.nD Cert.MobaPIdeal.τ).loc Cert.MobaPIdeal.main_arg1)) →
    ∃ (v0 : (c : Dev Cert.MobaPIdeal.nD) → Buf (Elt Ideal) ((c.tc : Thread Cert.MobaPIdeal.nD Cert.MobaPIdeal.τ).loc Cert.MobaPIdeal.main_v2_0)) (v1 : (c : Dev Cert.MobaPIdeal.nD) → Buf (Elt Ideal) ((c.tc : Thread Cert.MobaPIdeal.nD Cert.MobaPIdeal.τ).loc Cert.MobaPIdeal.main_v2_1)),
      θ_run (Cert.MobaPIdeal.defs (F := Ideal)) (onTc (τ := Cert.MobaPIdeal.τ) (Cert.MobaPIdeal.main (F := Ideal))) ⟨m, fun _ => 0, g⟩ (fun r => ∀ c : Dev Cert.MobaPIdeal.nD,
          r.2.mem ((c.tc : Thread Cert.MobaPIdeal.nD Cert.MobaPIdeal.τ).loc Cert.MobaPIdeal.main_v2_0) = v0 c
          ∧ r.2.mem ((c.tc : Thread Cert.MobaPIdeal.nD Cert.MobaPIdeal.τ).loc Cert.MobaPIdeal.main_v2_1) = v1 c
          ∧ r.2.mem ((c.tc : Thread Cert.MobaPIdeal.nD Cert.MobaPIdeal.τ).loc Cert.MobaPIdeal.main_arg0) = m ((c.tc : Thread Cert.MobaPIdeal.nD Cert.MobaPIdeal.τ).loc Cert.MobaPIdeal.main_arg0)
          ∧ r.2.mem ((c.tc : Thread Cert.MobaPIdeal.nD Cert.MobaPIdeal.τ).loc Cert.MobaPIdeal.main_arg1) = m ((c.tc : Thread Cert.MobaPIdeal.nD Cert.MobaPIdeal.τ).loc Cert.MobaPIdeal.main_arg1))
      ∧ θ_run (Cert.MobaPRefIdeal.defs (F := Ideal)) (onTc (τ := Cert.MobaPRefIdeal.τ) (Cert.MobaPRefIdeal.main (F := Ideal))) ⟨m', fun _ => 0, g'⟩ (fun r => ∀ c : Dev Cert.MobaPRefIdeal.nD,
          r.2.mem ((c.tc : Thread Cert.MobaPRefIdeal.nD Cert.MobaPRefIdeal.τ).loc Cert.MobaPRefIdeal.main_v23) = v0 c
          ∧ r.2.mem ((c.tc : Thread Cert.MobaPRefIdeal.nD Cert.MobaPRefIdeal.τ).loc Cert.MobaPRefIdeal.main_v24) = v1 c
          ∧ r.2.mem ((c.tc : Thread Cert.MobaPRefIdeal.nD Cert.MobaPRefIdeal.τ).loc Cert.MobaPRefIdeal.main_arg0) = m' ((c.tc : Thread Cert.MobaPRefIdeal.nD Cert.MobaPRefIdeal.τ).loc Cert.MobaPRefIdeal.main_arg0)
          ∧ r.2.mem ((c.tc : Thread Cert.MobaPRefIdeal.nD Cert.MobaPRefIdeal.τ).loc Cert.MobaPRefIdeal.main_arg1) = m' ((c.tc : Thread Cert.MobaPRefIdeal.nD Cert.MobaPRefIdeal.τ).loc Cert.MobaPRefIdeal.main_arg1))

def preserves_NsaP_NsaPIdeal : Prop :=
  True

def algebraic_NsaPIdeal_NsaPRefIdeal [hNsaPIdeal : Cert.NsaPIdeal.Facts] [hNsaPRefIdeal : Cert.NsaPRefIdeal.Facts] : Prop :=
  ∀ (m : (ℓ : Loc Cert.NsaPIdeal.nD Cert.NsaPIdeal.τ Cert.NsaPIdeal.sig) → Buf (Elt Ideal) ℓ) (g : Dev Cert.NsaPIdeal.nD → PrngReg)
    (m' : (ℓ : Loc Cert.NsaPRefIdeal.nD Cert.NsaPRefIdeal.τ Cert.NsaPRefIdeal.sig) → Buf (Elt Ideal) ℓ) (g' : Dev Cert.NsaPRefIdeal.nD → PrngReg), Pre_NsaPIdeal m →
    (∀ c : Dev Cert.NsaPIdeal.nD,
      m' ((c.tc : Thread Cert.NsaPRefIdeal.nD Cert.NsaPRefIdeal.τ).loc Cert.NsaPRefIdeal.main_arg0) = m ((c.tc : Thread Cert.NsaPIdeal.nD Cert.NsaPIdeal.τ).loc Cert.NsaPIdeal.main_arg0)
      ∧ m' ((c.tc : Thread Cert.NsaPRefIdeal.nD Cert.NsaPRefIdeal.τ).loc Cert.NsaPRefIdeal.main_arg1) = m ((c.tc : Thread Cert.NsaPIdeal.nD Cert.NsaPIdeal.τ).loc Cert.NsaPIdeal.main_arg1)) →
    ∃ (v0 : (c : Dev Cert.NsaPIdeal.nD) → Buf (Elt Ideal) ((c.tc : Thread Cert.NsaPIdeal.nD Cert.NsaPIdeal.τ).loc Cert.NsaPIdeal.main_v1)),
      θ_run (Cert.NsaPIdeal.defs (F := Ideal)) (onTc (τ := Cert.NsaPIdeal.τ) (Cert.NsaPIdeal.main (F := Ideal))) ⟨m, fun _ => 0, g⟩ (fun r => ∀ c : Dev Cert.NsaPIdeal.nD,
          r.2.mem ((c.tc : Thread Cert.NsaPIdeal.nD Cert.NsaPIdeal.τ).loc Cert.NsaPIdeal.main_v1) = v0 c
          ∧ r.2.mem ((c.tc : Thread Cert.NsaPIdeal.nD Cert.NsaPIdeal.τ).loc Cert.NsaPIdeal.main_arg0) = m ((c.tc : Thread Cert.NsaPIdeal.nD Cert.NsaPIdeal.τ).loc Cert.NsaPIdeal.main_arg0)
          ∧ r.2.mem ((c.tc : Thread Cert.NsaPIdeal.nD Cert.NsaPIdeal.τ).loc Cert.NsaPIdeal.main_arg1) = m ((c.tc : Thread Cert.NsaPIdeal.nD Cert.NsaPIdeal.τ).loc Cert.NsaPIdeal.main_arg1))
      ∧ θ_run (Cert.NsaPRefIdeal.defs (F := Ideal)) (onTc (τ := Cert.NsaPRefIdeal.τ) (Cert.NsaPRefIdeal.main (F := Ideal))) ⟨m', fun _ => 0, g'⟩ (fun r => ∀ c : Dev Cert.NsaPRefIdeal.nD,
          r.2.mem ((c.tc : Thread Cert.NsaPRefIdeal.nD Cert.NsaPRefIdeal.τ).loc Cert.NsaPRefIdeal.main_v46) = v0 c
          ∧ r.2.mem ((c.tc : Thread Cert.NsaPRefIdeal.nD Cert.NsaPRefIdeal.τ).loc Cert.NsaPRefIdeal.main_arg0) = m' ((c.tc : Thread Cert.NsaPRefIdeal.nD Cert.NsaPRefIdeal.τ).loc Cert.NsaPRefIdeal.main_arg0)
          ∧ r.2.mem ((c.tc : Thread Cert.NsaPRefIdeal.nD Cert.NsaPRefIdeal.τ).loc Cert.NsaPRefIdeal.main_arg1) = m' ((c.tc : Thread Cert.NsaPRefIdeal.nD Cert.NsaPRefIdeal.τ).loc Cert.NsaPRefIdeal.main_arg1))

def preserves_MobaA_MobaAIdeal : Prop :=
  IdealRules.named_const.Statement Cert.MobaAIdeal.κ "mask" .f32 0xF149F2CA#32 ⊥

def preserves_NsaA_NsaAIdeal : Prop :=
  IdealRules.named_const.Statement Cert.NsaAIdeal.κ "mask" .f32 0xF149F2CA#32 ⊥

def preserves_NsaC_NsaCIdeal : Prop :=
  True

def Claim : Prop :=
  ∃ (hGlaS : Cert.GlaS.Facts) (hGlaSIdeal : Cert.GlaSIdeal.Facts) (hGlaSRefIdeal : Cert.GlaSRefIdeal.Facts) (hFfnUp : Cert.FfnUp.Facts) (hFfnUpIdeal : Cert.FfnUpIdeal.Facts) (hFfnUpRefIdeal : Cert.FfnUpRefIdeal.Facts) (hQkvC : Cert.QkvC.Facts) (hQkvCIdeal : Cert.QkvCIdeal.Facts) (hQkvCRefIdeal : Cert.QkvCRefIdeal.Facts) (hProjAB : Cert.ProjAB.Facts) (hProjABIdeal : Cert.ProjABIdeal.Facts) (hProjABRefIdeal : Cert.ProjABRefIdeal.Facts) (hDown : Cert.Down.Facts) (hDownIdeal : Cert.DownIdeal.Facts) (hDownRefIdeal : Cert.DownRefIdeal.Facts) (hMixOut : Cert.MixOut.Facts) (hMixOutIdeal : Cert.MixOutIdeal.Facts) (hMixOutRefIdeal : Cert.MixOutRefIdeal.Facts) (hActP : Cert.ActP.Facts) (hActPIdeal : Cert.ActPIdeal.Facts) (hActPRefIdeal : Cert.ActPRefIdeal.Facts) (hActS : Cert.ActS.Facts) (hActSIdeal : Cert.ActSIdeal.Facts) (hActSRefIdeal : Cert.ActSRefIdeal.Facts) (hMobaP : Cert.MobaP.Facts) (hMobaPIdeal : Cert.MobaPIdeal.Facts) (hMobaPRefIdeal : Cert.MobaPRefIdeal.Facts) (hNsaP : Cert.NsaP.Facts) (hNsaPIdeal : Cert.NsaPIdeal.Facts) (hNsaPRefIdeal : Cert.NsaPRefIdeal.Facts) (hMobaA : Cert.MobaA.Facts) (hMobaAIdeal : Cert.MobaAIdeal.Facts) (hNsaA : Cert.NsaA.Facts) (hNsaAIdeal : Cert.NsaAIdeal.Facts) (hNsaC : Cert.NsaC.Facts) (hNsaCIdeal : Cert.NsaCIdeal.Facts),
    quiescent_GlaS (hGlaS := hGlaS)
    ∧ quiescent_GlaSIdeal (hGlaSIdeal := hGlaSIdeal)
    ∧ quiescent_GlaSRefIdeal (hGlaSRefIdeal := hGlaSRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_QkvC (hQkvC := hQkvC)
    ∧ quiescent_QkvCIdeal (hQkvCIdeal := hQkvCIdeal)
    ∧ quiescent_QkvCRefIdeal (hQkvCRefIdeal := hQkvCRefIdeal)
    ∧ quiescent_ProjAB (hProjAB := hProjAB)
    ∧ quiescent_ProjABIdeal (hProjABIdeal := hProjABIdeal)
    ∧ quiescent_ProjABRefIdeal (hProjABRefIdeal := hProjABRefIdeal)
    ∧ quiescent_Down (hDown := hDown)
    ∧ quiescent_DownIdeal (hDownIdeal := hDownIdeal)
    ∧ quiescent_DownRefIdeal (hDownRefIdeal := hDownRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_ActP (hActP := hActP)
    ∧ quiescent_ActPIdeal (hActPIdeal := hActPIdeal)
    ∧ quiescent_ActPRefIdeal (hActPRefIdeal := hActPRefIdeal)
    ∧ quiescent_ActS (hActS := hActS)
    ∧ quiescent_ActSIdeal (hActSIdeal := hActSIdeal)
    ∧ quiescent_ActSRefIdeal (hActSRefIdeal := hActSRefIdeal)
    ∧ quiescent_MobaP (hMobaP := hMobaP)
    ∧ quiescent_MobaPIdeal (hMobaPIdeal := hMobaPIdeal)
    ∧ quiescent_MobaPRefIdeal (hMobaPRefIdeal := hMobaPRefIdeal)
    ∧ quiescent_NsaP (hNsaP := hNsaP)
    ∧ quiescent_NsaPIdeal (hNsaPIdeal := hNsaPIdeal)
    ∧ quiescent_NsaPRefIdeal (hNsaPRefIdeal := hNsaPRefIdeal)
    ∧ quiescent_MobaA (hMobaA := hMobaA)
    ∧ quiescent_MobaAIdeal (hMobaAIdeal := hMobaAIdeal)
    ∧ quiescent_NsaA (hNsaA := hNsaA)
    ∧ quiescent_NsaAIdeal (hNsaAIdeal := hNsaAIdeal)
    ∧ quiescent_NsaC (hNsaC := hNsaC)
    ∧ quiescent_NsaCIdeal (hNsaCIdeal := hNsaCIdeal)
    ∧ preserves_GlaS_GlaSIdeal
    ∧ algebraic_GlaSIdeal_GlaSRefIdeal (hGlaSIdeal := hGlaSIdeal) (hGlaSRefIdeal := hGlaSRefIdeal)
    ∧ preserves_FfnUp_FfnUpIdeal
    ∧ algebraic_FfnUpIdeal_FfnUpRefIdeal (hFfnUpIdeal := hFfnUpIdeal) (hFfnUpRefIdeal := hFfnUpRefIdeal)
    ∧ preserves_QkvC_QkvCIdeal
    ∧ algebraic_QkvCIdeal_QkvCRefIdeal (hQkvCIdeal := hQkvCIdeal) (hQkvCRefIdeal := hQkvCRefIdeal)
    ∧ preserves_ProjAB_ProjABIdeal
    ∧ algebraic_ProjABIdeal_ProjABRefIdeal (hProjABIdeal := hProjABIdeal) (hProjABRefIdeal := hProjABRefIdeal)
    ∧ preserves_Down_DownIdeal
    ∧ algebraic_DownIdeal_DownRefIdeal (hDownIdeal := hDownIdeal) (hDownRefIdeal := hDownRefIdeal)
    ∧ preserves_MixOut_MixOutIdeal
    ∧ algebraic_MixOutIdeal_MixOutRefIdeal (hMixOutIdeal := hMixOutIdeal) (hMixOutRefIdeal := hMixOutRefIdeal)
    ∧ preserves_ActP_ActPIdeal
    ∧ algebraic_ActPIdeal_ActPRefIdeal (hActPIdeal := hActPIdeal) (hActPRefIdeal := hActPRefIdeal)
    ∧ preserves_ActS_ActSIdeal
    ∧ algebraic_ActSIdeal_ActSRefIdeal (hActSIdeal := hActSIdeal) (hActSRefIdeal := hActSRefIdeal)
    ∧ preserves_MobaP_MobaPIdeal
    ∧ algebraic_MobaPIdeal_MobaPRefIdeal (hMobaPIdeal := hMobaPIdeal) (hMobaPRefIdeal := hMobaPRefIdeal)
    ∧ preserves_NsaP_NsaPIdeal
    ∧ algebraic_NsaPIdeal_NsaPRefIdeal (hNsaPIdeal := hNsaPIdeal) (hNsaPRefIdeal := hNsaPRefIdeal)
    ∧ preserves_MobaA_MobaAIdeal
    ∧ preserves_NsaA_NsaAIdeal
    ∧ preserves_NsaC_NsaCIdeal
-- ==== GlaS.lean ====
abbrev S8704x6144 : Shape := ⟨2, ![8704, 6144]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S512x6144 : Shape := ⟨2, ![512, 6144]⟩
abbrev S128x4x6144 : Shape := ⟨3, ![128, 4, 6144]⟩
abbrev S_ : Shape := ⟨0, ![]⟩
abbrev S128x8x6144 : Shape := ⟨3, ![128, 8, 6144]⟩
abbrev S16x512 : Shape := ⟨2, ![16, 512]⟩
abbrev S128x512 : Shape := ⟨2, ![128, 512]⟩
abbrev S128x4x128x256 : Shape := ⟨4, ![128, 4, 128, 256]⟩
abbrev S512 : Shape := ⟨1, ![512]⟩
abbrev S256 : Shape := ⟨1, ![256]⟩
abbrev S128x8x1024 : Shape := ⟨3, ![128, 8, 1024]⟩
abbrev S1x8x512 : Shape := ⟨3, ![1, 8, 512]⟩
abbrev S1x8x1024 : Shape := ⟨3, ![1, 8, 1024]⟩
abbrev S1x8x128 : Shape := ⟨3, ![1, 8, 128]⟩
abbrev S1x4x128x256 : Shape := ⟨4, ![1, 4, 128, 256]⟩
abbrev S4x256x128 : Shape := ⟨3, ![4, 256, 128]⟩
abbrev S8x512 : Shape := ⟨2, ![8, 512]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S8x128 : Shape := ⟨2, ![8, 128]⟩
abbrev S8x1 : Shape := ⟨2, ![8, 1]⟩
abbrev S1x8x256 : Shape := ⟨3, ![1, 8, 256]⟩
abbrev S8x256 : Shape := ⟨2, ![8, 256]⟩
abbrev S1x128 : Shape := ⟨2, ![1, 128]⟩
abbrev S8 : Shape := ⟨1, ![8]⟩

abbrev nBuf : Space → Nat
  | .hbm => 22
  | .vmem => 21
  | .smem => 0
  | _ => 0

abbrev bufTy : (tb : Table) → Fin (tcTables nBuf tb) → BufTy
  | .hbm, ⟨0, _⟩ => ⟨S8704x6144, .f32⟩
  | .hbm, ⟨1, _⟩ => ⟨S1x128x4x128x256, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S512x6144, .f32⟩
  | .hbm, ⟨6, _⟩ => ⟨S128x4x6144, .f32⟩
  | .hbm, ⟨7, _⟩ => ⟨S_, .i32⟩
  | .hbm, ⟨8, _⟩ => ⟨S_, .f32⟩
  | .hbm, ⟨9, _⟩ => ⟨S128x8x6144, .f32⟩
  | .hbm, ⟨10, _⟩ => ⟨S16x512, .f32⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S128x4x128x256, .f32⟩
  | .hbm, ⟨16, _⟩ => ⟨S512, .f32⟩
  | .hbm, ⟨17, _⟩ => ⟨S256, .f32⟩
  | .hbm, ⟨18, _⟩ => ⟨S1x512, .f32⟩
  | .hbm, ⟨19, _⟩ => ⟨S1x256, .f32⟩
  | .hbm, ⟨20, _⟩ => ⟨S128x8x1024, .bf16⟩
  | .hbm, ⟨21, _⟩ => ⟨S128x4x128x256, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S1x8x1024, .bf16⟩
  | .local _ .vmem, ⟨16, _⟩ => ⟨S1x8x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x256x128, .f32⟩
  | .local _ .vmem, ⟨20, _⟩ => ⟨S8x512, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![128, 1], ![false, false]⟩

def k0_mult1 : BitVec 32 :=
  let c0_i32_26 : BitVec 32 := 0#32
  let c8_i32_27 : BitVec 32 := 8#32
  let v76 : BitVec 32 := Scalar.muli c0_i32_26 c8_i32_27
  v76
def k0_off1 : Fin 3 → Nat :=
  let c0_28 : Index := 0#32
  let c0_i32_26 : BitVec 32 := 0#32
  let c8_i32_27 : BitVec 32 := 8#32
  let v76 : BitVec 32 := Scalar.muli c0_i32_26 c8_i32_27
  let v77 : BitVec 32 := v76
  let v78 : Index := Scalar.indexCast v77
  let c0_29 : Index := 0#32
  ![0, v78.toNat, 0]
def k0_off2 : Fin 3 → Nat :=
  let c0_33 : Index := 0#32
  let c0_i32_26 : BitVec 32 := 0#32
  let c8_i32_27 : BitVec 32 := 8#32
  let v76 : BitVec 32 := Scalar.muli c0_i32_26 c8_i32_27
  let v77 : BitVec 32 := v76
  let v86 : Index := Scalar.indexCast v77
  let c0_34 : Index := 0#32
  ![0, v86.toNat, 0]
def k0_off3 : Fin 2 → Nat :=
  let c0_i32_26 : BitVec 32 := 0#32
  let c8_i32_27 : BitVec 32 := 8#32
  let v76 : BitVec 32 := Scalar.muli c0_i32_26 c8_i32_27
  let v77 : BitVec 32 := v76
  let v89 : Index := Scalar.indexCast v77
  let c0_35 : Index := 0#32
  ![v89.toNat, 0]
def k0_off4 : Fin 3 → Nat :=
  let c0_73 : Index := 0#32
  let c0_i32_26 : BitVec 32 := 0#32
  let c8_i32_27 : BitVec 32 := 8#32
  let v76 : BitVec 32 := Scalar.muli c0_i32_26 c8_i32_27
  let v77 : BitVec 32 := v76
  let v306 : Index := Scalar.indexCast v77
  let c128 : Index := 128#32
  ![0, v306.toNat, 128]
def k0_off5 : Fin 3 → Nat :=
  let c0_77 : Index := 0#32
  let c0_i32_26 : BitVec 32 := 0#32
  let c8_i32_27 : BitVec 32 := 8#32
  let v76 : BitVec 32 := Scalar.muli c0_i32_26 c8_i32_27
  let v77 : BitVec 32 := v76
  let v314 : Index := Scalar.indexCast v77
  let c256 : Index := 256#32
  ![0, v314.toNat, 256]
def k0_off6 : Fin 2 → Nat :=
  let c0_i32_26 : BitVec 32 := 0#32
  let c8_i32_27 : BitVec 32 := 8#32
  let v76 : BitVec 32 := Scalar.muli c0_i32_26 c8_i32_27
  let v77 : BitVec 32 := v76
  let v317 : Index := Scalar.indexCast v77
  let c128_78 : Index := 128#32
  ![v317.toNat, 128]
def k0_off7 : Fin 3 → Nat :=
  let c0_119 : Index := 0#32
  let c0_i32_26 : BitVec 32 := 0#32
  let c8_i32_27 : BitVec 32 := 8#32
  let v76 : BitVec 32 := Scalar.muli c0_i32_26 c8_i32_27
  let v77 : BitVec 32 := v76
  let v534 : Index := Scalar.indexCast v77
  let c256_120 : Index := 256#32
  ![0, v534.toNat, 256]
def k0_off8 : Fin 3 → Nat :=
  let c0_124 : Index := 0#32
  let c0_i32_26 : BitVec 32 := 0#32
  let c8_i32_27 : BitVec 32 := 8#32
  let v76 : BitVec 32 := Scalar.muli c0_i32_26 c8_i32_27
  let v77 : BitVec 32 := v76
  let v542 : Index := Scalar.indexCast v77
  let c512 : Index := 512#32
  ![0, v542.toNat, 512]
def k0_off9 : Fin 2 → Nat :=
  let c0_i32_26 : BitVec 32 := 0#32
  let c8_i32_27 : BitVec 32 := 8#32
  let v76 : BitVec 32 := Scalar.muli c0_i32_26 c8_i32_27
  let v77 : BitVec 32 := v76
  let v545 : Index := Scalar.indexCast v77
  let c256_125 : Index := 256#32
  ![v545.toNat, 256]
def k0_off10 : Fin 3 → Nat :=
  let c0_166 : Index := 0#32
  let c0_i32_26 : BitVec 32 := 0#32
  let c8_i32_27 : BitVec 32 := 8#32
  let v76 : BitVec 32 := Scalar.muli c0_i32_26 c8_i32_27
  let v77 : BitVec 32 := v76
  let v762 : Index := Scalar.indexCast v77
  let c384 : Index := 384#32
  ![0, v762.toNat, 384]
def k0_off11 : Fin 3 → Nat :=
  let c0_170 : Index := 0#32
  let c0_i32_26 : BitVec 32 := 0#32
  let c8_i32_27 : BitVec 32 := 8#32
  let v76 : BitVec 32 := Scalar.muli c0_i32_26 c8_i32_27
  let v77 : BitVec 32 := v76
  let v770 : Index := Scalar.indexCast v77
  let c768 : Index := 768#32
  ![0, v770.toNat, 768]
def k0_off12 : Fin 2 → Nat :=
  let c0_i32_26 : BitVec 32 := 0#32
  let c8_i32_27 : BitVec 32 := 8#32
  let v76 : BitVec 32 := Scalar.muli c0_i32_26 c8_i32_27
  let v77 : BitVec 32 := v76
  let v773 : Index := Scalar.indexCast v77
  let c384_171 : Index := 384#32
  ![v773.toNat, 384]
def k0_cond2 (i : grid0.Coords) : BitVec 1 :=
  let arg1 : BitVec 32 := BitVec.ofNat 32 (i 1).val
  let c0_i32_213 : BitVec 32 := 0#32
  let v990 : BitVec 1 := Scalar.cmpi .eq arg1 c0_i32_213
  let v991 : BitVec 32 := Scalar.extui v990
  let c0_i32_214 : BitVec 32 := 0#32
  let v992 : BitVec 1 := Scalar.cmpi .ne v991 c0_i32_214
  v992

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c1_i32_0 : BitVec 32 := 1#32
  let c0_i32_1 : BitVec 32 := 0#32
  ![v1.toNat, c0_i32.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c1_i32_0 : BitVec 32 := 1#32
  let c0_i32_1 : BitVec 32 := 0#32
  ![v1.toNat, c0_i32.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c2_i32 : BitVec 32 := 2#32
  let c0_i32_0 : BitVec 32 := 0#32
  ![v1.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c44_i32 : BitVec 32 := 44#32
  let c0_i32_0 : BitVec 32 := 0#32
  ![v1.toNat, c0_i32.toNat, c44_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaSIdeal.lean ====
variable {F : FTy → Type} [FloatOps F] [Named F]
def κ : String → Option EReal := fun
  | "mask" => some ⊥
  | _ => none
-- ==== GlaSRefIdeal.lean ====
abbrev S8704x6144 : Shape := ⟨2, ![8704, 6144]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S512x6144 : Shape := ⟨2, ![512, 6144]⟩
abbrev S128x4x128x256 : Shape := ⟨4, ![128, 4, 128, 256]⟩
abbrev S512x512 : Shape := ⟨2, ![512, 512]⟩
abbrev S512x1024 : Shape := ⟨2, ![512, 1024]⟩
abbrev S512x16 : Shape := ⟨2, ![512, 16]⟩
abbrev S16x512 : Shape := ⟨2, ![16, 512]⟩
abbrev S512 : Shape := ⟨1, ![512]⟩
abbrev S_ : Shape := ⟨0, ![]⟩
abbrev S128x4x4x128 : Shape := ⟨4, ![128, 4, 4, 128]⟩
abbrev S128x4x4x256 : Shape := ⟨4, ![128, 4, 4, 256]⟩
abbrev S4x4 : Shape := ⟨2, ![4, 4]⟩
abbrev S128x4x256x4 : Shape := ⟨4, ![128, 4, 256, 4]⟩
abbrev S128x4x1x4x128 : Shape := ⟨5, ![128, 4, 1, 4, 128]⟩
abbrev S128x1x4x4x128 : Shape := ⟨5, ![128, 1, 4, 4, 128]⟩
abbrev S128x4x4x4x128 : Shape := ⟨5, ![128, 4, 4, 4, 128]⟩
abbrev S1x4x4x1x1 : Shape := ⟨5, ![1, 4, 4, 1, 1]⟩
abbrev S128x4x4x4 : Shape := ⟨4, ![128, 4, 4, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S256 : Shape := ⟨1, ![256]⟩
abbrev S128x4x4 : Shape := ⟨3, ![128, 4, 4]⟩
abbrev S128x4x4x1 : Shape := ⟨4, ![128, 4, 4, 1]⟩
abbrev S1x1x1x256 : Shape := ⟨4, ![1, 1, 1, 256]⟩
abbrev S128x4x1024 : Shape := ⟨3, ![128, 4, 1024]⟩
abbrev S128x8x1024 : Shape := ⟨3, ![128, 8, 1024]⟩

abbrev nBuf : Space → Nat
  | .hbm => 131
  | .vmem => 0
  | .smem => 0
  | _ => 0

abbrev hbmTy0_0 (i : Nat) : BufTy := match i % 128 with
  | 0 => ⟨S8704x6144, .f32⟩
  | 1 => ⟨S1x128x4x128x256, .f32⟩
  | 2 => ⟨S1x16x512, .f32⟩
  | 3 => ⟨S1x512, .f32⟩
  | 4 => ⟨S1x256, .f32⟩
  | 5 => ⟨S512x6144, .f32⟩
  | 6 => ⟨S128x4x128x256, .f32⟩
  | 7 => ⟨S512x512, .f32⟩
  | 8 => ⟨S512x512, .f32⟩
  | 9 => ⟨S512x1024, .f32⟩
  | 10 => ⟨S512x16, .f32⟩
  | 11 => ⟨S16x512, .f32⟩
  | 12 => ⟨S512x512, .f32⟩
  | 13 => ⟨S512, .f32⟩
  | 14 => ⟨S1x512, .f32⟩
  | 15 => ⟨S512x512, .f32⟩
  | 16 => ⟨S512x512, .f32⟩
  | 17 => ⟨S512x512, .f32⟩
  | 18 => ⟨S_, .f32⟩
  | 19 => ⟨S512x512, .f32⟩
  | 20 => ⟨S512x512, .f32⟩
  | 21 => ⟨S512x512, .f32⟩
  | 22 => ⟨S512x512, .f32⟩
  | 23 => ⟨S512x512, .i1⟩
  | 24 => ⟨S512x512, .f32⟩
  | 25 => ⟨S512x512, .f32⟩
  | 26 => ⟨S512x512, .f32⟩
  | 27 => ⟨S512x512, .f32⟩
  | 28 => ⟨S512x512, .f32⟩
  | 29 => ⟨S512x512, .f32⟩
  | 30 => ⟨S512x512, .f32⟩
  | 31 => ⟨S512x512, .f32⟩
  | 32 => ⟨S512x512, .f32⟩
  | 33 => ⟨S_, .f32⟩
  | 34 => ⟨S512x512, .f32⟩
  | 35 => ⟨S512x512, .f32⟩
  | 36 => ⟨S128x4x4x128, .f32⟩
  | 37 => ⟨S_, .f32⟩
  | 38 => ⟨S128x4x4x128, .f32⟩
  | 39 => ⟨S128x4x4x128, .f32⟩
  | 40 => ⟨S128x4x4x128, .f32⟩
  | 41 => ⟨S128x4x4x256, .f32⟩
  | 42 => ⟨S128x4x4x128, .f32⟩
  | 43 => ⟨S_, .i1⟩
  | 44 => ⟨S4x4, .i1⟩
  | 45 => ⟨S4x4, .i32⟩
  | 46 => ⟨S_, .i32⟩
  | 47 => ⟨S4x4, .i32⟩
  | 48 => ⟨S4x4, .i32⟩
  | 49 => ⟨S4x4, .i32⟩
  | 50 => ⟨S4x4, .i1⟩
  | 51 => ⟨S_, .i1⟩
  | 52 => ⟨S4x4, .i1⟩
  | 53 => ⟨S4x4, .i1⟩
  | 54 => ⟨S_, .f32⟩
  | 55 => ⟨S_, .f32⟩
  | 56 => ⟨S128x4x4x128, .f32⟩
  | 57 => ⟨S128x4x4x128, .f32⟩
  | 58 => ⟨S128x4x4x128, .f32⟩
  | 59 => ⟨S128x4x256x4, .f32⟩
  | 60 => ⟨S128x4x4x256, .f32⟩
  | 61 => ⟨S128x4x1x4x128, .f32⟩
  | 62 => ⟨S128x1x4x4x128, .f32⟩
  | 63 => ⟨S128x4x4x4x128, .f32⟩
  | 64 => ⟨S128x4x4x4x128, .f32⟩
  | 65 => ⟨S128x4x4x4x128, .f32⟩
  | 66 => ⟨S1x4x4x1x1, .i1⟩
  | 67 => ⟨S_, .f32⟩
  | 68 => ⟨S_, .f32⟩
  | 69 => ⟨S128x4x4x4x128, .i1⟩
  | 70 => ⟨S128x4x4x4x128, .f32⟩
  | 71 => ⟨S128x4x4x4x128, .f32⟩
  | 72 => ⟨S128x4x4x4x128, .f32⟩
  | 73 => ⟨S128x4x1x4x128, .f32⟩
  | 74 => ⟨S128x1x4x4x128, .f32⟩
  | 75 => ⟨S128x4x4x4x128, .f32⟩
  | 76 => ⟨S128x4x4x4x128, .f32⟩
  | 77 => ⟨S128x4x4x4x128, .f32⟩
  | 78 => ⟨S128x4x4x4x128, .f32⟩
  | 79 => ⟨S_, .f32⟩
  | 80 => ⟨S128x4x4x4, .f32⟩
  | 81 => ⟨S128x4x256x4, .f32⟩
  | 82 => ⟨S128x4x4x256, .f32⟩
  | 83 => ⟨S128x1x4x128, .f32⟩
  | 84 => ⟨S128x4x128, .f32⟩
  | 85 => ⟨S128x4x128, .f32⟩
  | 86 => ⟨S128x4x128x1, .f32⟩
  | 87 => ⟨S128x4x128x256, .f32⟩
  | 88 => ⟨S128x4x128x256, .f32⟩
  | 89 => ⟨S128x1x4x128, .f32⟩
  | 90 => ⟨S128x4x4x128, .f32⟩
  | 91 => ⟨S128x4x4x128, .f32⟩
  | 92 => ⟨S128x4x4x128, .f32⟩
  | 93 => ⟨S128x4x4x128, .f32⟩
  | 94 => ⟨S128x4x128x256, .f32⟩
  | 95 => ⟨S128x4x128x256, .f32⟩
  | 96 => ⟨S128x4x4x256, .f32⟩
  | 97 => ⟨S512x1024, .f32⟩
  | 98 => ⟨S256, .f32⟩
  | 99 => ⟨S128x4x4x256, .f32⟩
  | 100 => ⟨S_, .f32⟩
  | 101 => ⟨S128x4x4, .f32⟩
  | 102 => ⟨S128x4x4x1, .f32⟩
  | 103 => ⟨S_, .f32⟩
  | 104 => ⟨S128x4x4x1, .f32⟩
  | 105 => ⟨S128x4x4x1, .f32⟩
  | 106 => ⟨S_, .f32⟩
  | 107 => ⟨S128x4x4x1, .f32⟩
  | 108 => ⟨S128x4x4x1, .f32⟩
  | 109 => ⟨S128x4x4x1, .f32⟩
  | 110 => ⟨S128x4x4x256, .f32⟩
  | 111 => ⟨S128x4x4x256, .f32⟩
  | 112 => ⟨S1x1x1x256, .f32⟩
  | 113 => ⟨S128x4x4x256, .f32⟩
  | 114 => ⟨S128x4x4x256, .f32⟩
  | 115 => ⟨S128x4x4x256, .f32⟩
  | 116 => ⟨S128x4x4x256, .f32⟩
  | 117 => ⟨S128x4x4x256, .f32⟩
  | 118 => ⟨S_, .f32⟩
  | 119 => ⟨S128x4x4x256, .f32⟩
  | 120 => ⟨S128x4x4x256, .f32⟩
  | 121 => ⟨S_, .f32⟩
  | 122 => ⟨S128x4x4x256, .f32⟩
  | 123 => ⟨S128x4x4x256, .f32⟩
  | 124 => ⟨S128x4x4x256, .f32⟩
  | 125 => ⟨S128x4x4x256, .f32⟩
  | 126 => ⟨S128x4x1024, .f32⟩
  | 127 => ⟨S_, .i32⟩
  | _ => ⟨S8704x6144, .f32⟩

abbrev hbmTy0_1 (i : Nat) : BufTy := match i % 128 with
  | 0 => ⟨S_, .f32⟩
  | 1 => ⟨S128x8x1024, .f32⟩
  | 2 => ⟨S128x8x1024, .bf16⟩
  | _ => ⟨S8704x6144, .f32⟩

abbrev hbmTy (i : Nat) : BufTy := match i / 128 with
  | 0 => hbmTy0_0 i
  | 1 => hbmTy0_1 i
  | _ => ⟨S8704x6144, .f32⟩

abbrev bufTy : (tb : Table) → Fin (tcTables nBuf tb) → BufTy
  | .hbm, ⟨i, _⟩ => hbmTy i
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_0 : Ref sig .tc := ⟨.hbm, 51, rfl⟩
abbrev main_call1_v5 : Ref sig .tc := ⟨.hbm, 52, rfl⟩
abbrev main_v22 : Ref sig .tc := ⟨.hbm, 53, rfl⟩
abbrev main_call2_call0_cst : Ref sig .tc := ⟨.hbm, 54, rfl⟩
abbrev main_call2_call0_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_2 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_3 : Ref sig .tc := ⟨.hbm, 100, rfl⟩
abbrev main_v62 : Ref sig .tc := ⟨.hbm, 101, rfl⟩
abbrev main_v63 : Ref sig .tc := ⟨.hbm, 102, rfl⟩
abbrev main_cst_4 : Ref sig .tc := ⟨.hbm, 103, rfl⟩
abbrev main_v64 : Ref sig .tc := ⟨.hbm, 104, rfl⟩
abbrev main_v65 : Ref sig .tc := ⟨.hbm, 105, rfl⟩
abbrev main_cst_5 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_6 : Ref sig .tc := ⟨.hbm, 127, rfl⟩
abbrev main_call5_v0 : Ref sig .tc := ⟨.hbm, 128, rfl⟩
abbrev main_v78 : Ref sig .tc := ⟨.hbm, 129, rfl⟩
abbrev main_v79 : Ref sig .tc := ⟨.hbm, 130, rfl⟩

abbrev nD : Nat := 1
abbrev τ : Topo := Topo.v7x

variable {F : FTy → Type} [FloatOps F]
-- ==== FfnUp.lean ====
abbrev S8704x2048 : Shape := ⟨2, ![8704, 2048]⟩
abbrev S2048 : Shape := ⟨1, ![2048]⟩
abbrev S2048x11264 : Shape := ⟨2, ![2048, 11264]⟩
abbrev S1x2048 : Shape := ⟨2, ![1, 2048]⟩
abbrev S8704x11264 : Shape := ⟨2, ![8704, 11264]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x11264, .f32⟩
  | .hbm, ⟨3, _⟩ => ⟨S2048x11264, .bf16⟩
  | .hbm, ⟨4, _⟩ => ⟨S1x2048, .f32⟩
  | .hbm, ⟨5, _⟩ => ⟨S8704x11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpIdeal.lean ====
abbrev S8704x2048 : Shape := ⟨2, ![8704, 2048]⟩
abbrev S2048 : Shape := ⟨1, ![2048]⟩
abbrev S2048x11264 : Shape := ⟨2, ![2048, 11264]⟩
abbrev S1x2048 : Shape := ⟨2, ![1, 2048]⟩
abbrev S8704x11264 : Shape := ⟨2, ![8704, 11264]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x11264, .f32⟩
  | .hbm, ⟨3, _⟩ => ⟨S2048x11264, .bf16⟩
  | .hbm, ⟨4, _⟩ => ⟨S1x2048, .f32⟩
  | .hbm, ⟨5, _⟩ => ⟨S8704x11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S8704x2048 : Shape := ⟨2, ![8704, 2048]⟩
abbrev S2048 : Shape := ⟨1, ![2048]⟩
abbrev S2048x11264 : Shape := ⟨2, ![2048, 11264]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x11264 : Shape := ⟨2, ![8704, 11264]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x11264, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S8704x11264, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== QkvC.lean ====
abbrev S8704x2048 : Shape := ⟨2, ![8704, 2048]⟩
abbrev S2048 : Shape := ⟨1, ![2048]⟩
abbrev S2048x3072 : Shape := ⟨2, ![2048, 3072]⟩
abbrev S1x2048 : Shape := ⟨2, ![1, 2048]⟩
abbrev S8704x3072 : Shape := ⟨2, ![8704, 3072]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S8704x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvCRefIdeal.lean ====
abbrev S8704x2048 : Shape := ⟨2, ![8704, 2048]⟩
abbrev S2048 : Shape := ⟨1, ![2048]⟩
abbrev S2048x3072 : Shape := ⟨2, ![2048, 3072]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x3072 : Shape := ⟨2, ![8704, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S8704x3072, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjAB.lean ====
abbrev S2x4096x2048 : Shape := ⟨3, ![2, 4096, 2048]⟩
abbrev S128x4x2048 : Shape := ⟨3, ![128, 4, 2048]⟩
abbrev S2x2048 : Shape := ⟨2, ![2, 2048]⟩
abbrev S1x2048x5672 : Shape := ⟨3, ![1, 2048, 5672]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S2048 : Shape := ⟨1, ![2048]⟩
abbrev S2048x5672 : Shape := ⟨2, ![2048, 5672]⟩
abbrev S2048x512 : Shape := ⟨2, ![2048, 512]⟩
abbrev S2048x1024 : Shape := ⟨2, ![2048, 1024]⟩
abbrev S2048x16 : Shape := ⟨2, ![2048, 16]⟩
abbrev S2048x24 : Shape := ⟨2, ![2048, 24]⟩
abbrev S2048x1536 : Shape := ⟨2, ![2048, 1536]⟩
abbrev S2048x12 : Shape := ⟨2, ![2048, 12]⟩
abbrev S_ : Shape := ⟨0, ![]⟩
abbrev S2048x100 : Shape := ⟨2, ![2048, 100]⟩
abbrev S2048x128 : Shape := ⟨2, ![2048, 128]⟩
abbrev S2048x256 : Shape := ⟨2, ![2048, 256]⟩
abbrev S2048x6144 : Shape := ⟨2, ![2048, 6144]⟩
abbrev S8704x6144 : Shape := ⟨2, ![8704, 6144]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048, .f32⟩
  | .hbm, ⟨3, _⟩ => ⟨S1x2048x5672, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S1x2048, .f32⟩
  | .hbm, ⟨8, _⟩ => ⟨S2048, .f32⟩
  | .hbm, ⟨9, _⟩ => ⟨S2048x5672, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S2048x16, .f32⟩
  | .hbm, ⟨15, _⟩ => ⟨S2048x1024, .f32⟩
  | .hbm, ⟨16, _⟩ => ⟨S2048x24, .f32⟩
  | .hbm, ⟨17, _⟩ => ⟨S2048x1536, .f32⟩
  | .hbm, ⟨18, _⟩ => ⟨S2048x12, .f32⟩
  | .hbm, ⟨19, _⟩ => ⟨S_, .f32⟩
  | .hbm, ⟨20, _⟩ => ⟨S2048x100, .f32⟩
  | .hbm, ⟨21, _⟩ => ⟨S2048x128, .f32⟩
  | .hbm, ⟨22, _⟩ => ⟨S_, .f32⟩
  | .hbm, ⟨23, _⟩ => ⟨S2048x16, .f32⟩
  | .hbm, ⟨24, _⟩ => ⟨S2048x12, .f32⟩
  | .hbm, ⟨25, _⟩ => ⟨S_, .f32⟩
  | .hbm, ⟨26, _⟩ => ⟨S2048x100, .f32⟩
  | .hbm, ⟨27, _⟩ => ⟨S2048x128, .f32⟩
  | .hbm, ⟨28, _⟩ => ⟨S_, .f32⟩
  | .hbm, ⟨29, _⟩ => ⟨S2048x256, .f32⟩
  | .hbm, ⟨30, _⟩ => ⟨S2048x6144, .f32⟩
  | .hbm, ⟨31, _⟩ => ⟨S2048x6144, .bf16⟩
  | .hbm, ⟨32, _⟩ => ⟨S1x2048, .f32⟩
  | .hbm, ⟨33, _⟩ => ⟨S8704x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjABRefIdeal.lean ====
abbrev S2x4096x2048 : Shape := ⟨3, ![2, 4096, 2048]⟩
abbrev S128x4x2048 : Shape := ⟨3, ![128, 4, 2048]⟩
abbrev S2x2048 : Shape := ⟨2, ![2, 2048]⟩
abbrev S1x2048x5672 : Shape := ⟨3, ![1, 2048, 5672]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x5672 : Shape := ⟨2, ![2048, 5672]⟩
abbrev S8704x5672 : Shape := ⟨2, ![8704, 5672]⟩
abbrev S8704x3072 : Shape := ⟨2, ![8704, 3072]⟩
abbrev S8704x16 : Shape := ⟨2, ![8704, 16]⟩
abbrev S8704x1024 : Shape := ⟨2, ![8704, 1024]⟩
abbrev S8704x24 : Shape := ⟨2, ![8704, 24]⟩
abbrev S8704x1536 : Shape := ⟨2, ![8704, 1536]⟩
abbrev S8704x12 : Shape := ⟨2, ![8704, 12]⟩
abbrev S8704x116 : Shape := ⟨2, ![8704, 116]⟩
abbrev S8704x356 : Shape := ⟨2, ![8704, 356]⟩
abbrev S8704x6144 : Shape := ⟨2, ![8704, 6144]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048, .f32⟩
  | .hbm, ⟨3, _⟩ => ⟨S1x2048x5672, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S1x2048, .f32⟩
  | .hbm, ⟨8, _⟩ => ⟨S2048, .f32⟩
  | .hbm, ⟨9, _⟩ => ⟨S8704x2048, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x2048, .f32⟩
  | .hbm, ⟨21, _⟩ => ⟨S8704x2048, .f32⟩
  | .hbm, ⟨22, _⟩ => ⟨S1x2048, .f32⟩
  | .hbm, ⟨23, _⟩ => ⟨S8704x2048, .f32⟩
  | .hbm, ⟨24, _⟩ => ⟨S8704x2048, .f32⟩
  | .hbm, ⟨25, _⟩ => ⟨S2048x5672, .f32⟩
  | .hbm, ⟨26, _⟩ => ⟨S8704x5672, .f32⟩
  | .hbm, ⟨27, _⟩ => ⟨S8704x3072, .f32⟩
  | .hbm, ⟨28, _⟩ => ⟨S8704x16, .f32⟩
  | .hbm, ⟨29, _⟩ => ⟨S8704x1024, .f32⟩
  | .hbm, ⟨30, _⟩ => ⟨S8704x24, .f32⟩
  | .hbm, ⟨31, _⟩ => ⟨S8704x1536, .f32⟩
  | .hbm, ⟨32, _⟩ => ⟨S8704x12, .f32⟩
  | .hbm, ⟨33, _⟩ => ⟨S_, .f32⟩
  | .hbm, ⟨34, _⟩ => ⟨S8704x116, .f32⟩
  | .hbm, ⟨35, _⟩ => ⟨S8704x12, .f32⟩
  | .hbm, ⟨36, _⟩ => ⟨S_, .f32⟩
  | .hbm, ⟨37, _⟩ => ⟨S8704x356, .f32⟩
  | .hbm, ⟨38, _⟩ => ⟨S8704x6144, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Down.lean ====
abbrev S8704x5632 : Shape := ⟨2, ![8704, 5632]⟩
abbrev S5632x2048 : Shape := ⟨2, ![5632, 2048]⟩
abbrev S8704x2048 : Shape := ⟨2, ![8704, 2048]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8704x5632, .bf16⟩
  | .hbm, ⟨1, _⟩ => ⟨S5632x2048, .f32⟩
  | .hbm, ⟨2, _⟩ => ⟨S8704x2048, .f32⟩
  | .hbm, ⟨3, _⟩ => ⟨S5632x2048, .bf16⟩
  | .hbm, ⟨4, _⟩ => ⟨S8704x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![17, 4, 11], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8704x5632 : Shape := ⟨2, ![8704, 5632]⟩
abbrev S5632x2048 : Shape := ⟨2, ![5632, 2048]⟩
abbrev S8704x2048 : Shape := ⟨2, ![8704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S5632x2048, .f32⟩
  | .hbm, ⟨2, _⟩ => ⟨S8704x2048, .f32⟩
  | .hbm, ⟨3, _⟩ => ⟨S8704x5632, .f32⟩
  | .hbm, ⟨4, _⟩ => ⟨S8704x2048, .f32⟩
  | .hbm, ⟨5, _⟩ => ⟨S8704x2048, .f32⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOut.lean ====
abbrev S8704x2048 : Shape := ⟨2, ![8704, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048x2048, .bf16⟩
  | .hbm, ⟨4, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![17, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8704x2048 : Shape := ⟨2, ![8704, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .hbm, ⟨5, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ActP.lean ====
abbrev S8704x11264 : Shape := ⟨2, ![8704, 11264]⟩
abbrev S3x5632 : Shape := ⟨2, ![3, 5632]⟩
abbrev S5632 : Shape := ⟨1, ![5632]⟩
abbrev S1x5632 : Shape := ⟨2, ![1, 5632]⟩
abbrev S8192x5632 : Shape := ⟨2, ![8192, 5632]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S8704x11264, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S8192x5632, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S8704x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c11_i32 : BitVec 32 := 11#32
  let v2 : BitVec 32 := Scalar.addi c11_i32 arg2
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ActPRefIdeal.lean ====
abbrev S8704x11264 : Shape := ⟨2, ![8704, 11264]⟩
abbrev S3x5632 : Shape := ⟨2, ![3, 5632]⟩
abbrev S5632 : Shape := ⟨1, ![5632]⟩
abbrev S8192x11264 : Shape := ⟨2, ![8192, 11264]⟩
abbrev S2x4096x11264 : Shape := ⟨3, ![2, 4096, 11264]⟩
abbrev S_ : Shape := ⟨0, ![]⟩
abbrev S2x2x5632 : Shape := ⟨3, ![2, 2, 5632]⟩
abbrev S2x4096x5632 : Shape := ⟨3, ![2, 4096, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S8192x5632 : Shape := ⟨2, ![8192, 5632]⟩

abbrev nBuf : Space → Nat
  | .hbm => 48
  | .vmem => 0
  | .smem => 0
  | _ => 0

abbrev bufTy : (tb : Table) → Fin (tcTables nBuf tb) → BufTy
  | .hbm, ⟨0, _⟩ => ⟨S8704x11264, .f32⟩
  | .hbm, ⟨1, _⟩ => ⟨S3x5632, .f32⟩
  | .hbm, ⟨2, _⟩ => ⟨S5632, .f32⟩
  | .hbm, ⟨3, _⟩ => ⟨S8192x11264, .f32⟩
  | .hbm, ⟨4, _⟩ => ⟨S2x4096x11264, .f32⟩
  | .hbm, ⟨5, _⟩ => ⟨S_, .f32⟩
  | .hbm, ⟨6, _⟩ => ⟨S2x2x5632, .f32⟩
  | .hbm, ⟨7, _⟩ => ⟨S2x4096x5632, .f32⟩
  | .hbm, ⟨8, _⟩ => ⟨S2x4096x5632, .f32⟩
  | .hbm, ⟨9, _⟩ => ⟨S2x4098x5632, .f32⟩
  | .hbm, ⟨10, _⟩ => ⟨S1x5632, .f32⟩
  | .hbm, ⟨11, _⟩ => ⟨S5632, .f32⟩
  | .hbm, ⟨12, _⟩ => ⟨S2x4096x5632, .f32⟩
  | .hbm, ⟨13, _⟩ => ⟨S1x1x5632, .f32⟩
  | .hbm, ⟨14, _⟩ => ⟨S2x4096x5632, .f32⟩
  | .hbm, ⟨15, _⟩ => ⟨S2x4096x5632, .f32⟩
  | .hbm, ⟨16, _⟩ => ⟨S_, .f32⟩
  | .hbm, ⟨17, _⟩ => ⟨S2x4096x5632, .f32⟩
  | .hbm, ⟨18, _⟩ => ⟨S2x4096x5632, .f32⟩
  | .hbm, ⟨19, _⟩ => ⟨S1x5632, .f32⟩
  | .hbm, ⟨20, _⟩ => ⟨S5632, .f32⟩
  | .hbm, ⟨21, _⟩ => ⟨S2x4096x5632, .f32⟩
  | .hbm, ⟨22, _⟩ => ⟨S1x1x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S1x5632, .f32⟩
  | .hbm, ⟨27, _⟩ => ⟨S5632, .f32⟩
  | .hbm, ⟨28, _⟩ => ⟨S2x4096x5632, .f32⟩
  | .hbm, ⟨29, _⟩ => ⟨S1x1x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S1x1x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S_, .f32⟩
  | .hbm, ⟨39, _⟩ => ⟨S2x4096x5632, .f32⟩
  | .hbm, ⟨40, _⟩ => ⟨S2x4096x5632, .f32⟩
  | .hbm, ⟨41, _⟩ => ⟨S_, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S8192x5632, .f32⟩
  | .hbm, ⟨47, _⟩ => ⟨S8192x5632, .bf16⟩
  | _, _ => ⟨S8704x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== ActS.lean ====
abbrev S8704x11264 : Shape := ⟨2, ![8704, 11264]⟩
abbrev S128x2x5632 : Shape := ⟨3, ![128, 2, 5632]⟩
abbrev S3x5632 : Shape := ⟨2, ![3, 5632]⟩
abbrev S5632 : Shape := ⟨1, ![5632]⟩
abbrev S_ : Shape := ⟨0, ![]⟩
abbrev S128x3x5632 : Shape := ⟨3, ![128, 3, 5632]⟩
abbrev S128x1x5632 : Shape := ⟨3, ![128, 1, 5632]⟩
abbrev S128x4x5632 : Shape := ⟨3, ![128, 4, 5632]⟩
abbrev S512x5632 : Shape := ⟨2, ![512, 5632]⟩
abbrev S1x5632 : Shape := ⟨2, ![1, 5632]⟩
abbrev S512x512 : Shape := ⟨2, ![512, 512]⟩
abbrev S3x512 : Shape := ⟨2, ![3, 512]⟩
abbrev S1x512 : Shape := ⟨2, ![1, 512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S8704x11264, .f32⟩
  | .hbm, ⟨1, _⟩ => ⟨S128x2x5632, .f32⟩
  | .hbm, ⟨2, _⟩ => ⟨S3x5632, .f32⟩
  | .hbm, ⟨3, _⟩ => ⟨S5632, .f32⟩
  | .hbm, ⟨4, _⟩ => ⟨S_, .f32⟩
  | .hbm, ⟨5, _⟩ => ⟨S128x3x5632, .f32⟩
  | .hbm, ⟨6, _⟩ => ⟨S128x1x5632, .f32⟩
  | .hbm, ⟨7, _⟩ => ⟨S128x4x5632, .f32⟩
  | .hbm, ⟨8, _⟩ => ⟨S512x5632, .f32⟩
  | .hbm, ⟨9, _⟩ => ⟨S_, .f32⟩
  | .hbm, ⟨10, _⟩ => ⟨S128x2x5632, .f32⟩
  | .hbm, ⟨11, _⟩ => ⟨S128x4x5632, .f32⟩
  | .hbm, ⟨12, _⟩ => ⟨S512x5632, .f32⟩
  | .hbm, ⟨13, _⟩ => ⟨S1x5632, .f32⟩
  | .hbm, ⟨14, _⟩ => ⟨S512x5632, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S8704x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![c16_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c16_i32 : BitVec 32 := 16#32
  let c0_i32 : BitVec 32 := 0#32
  ![c16_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ActSRefIdeal.lean ====
abbrev S8704x11264 : Shape := ⟨2, ![8704, 11264]⟩
abbrev S128x2x5632 : Shape := ⟨3, ![128, 2, 5632]⟩
abbrev S3x5632 : Shape := ⟨2, ![3, 5632]⟩
abbrev S5632 : Shape := ⟨1, ![5632]⟩
abbrev S512x11264 : Shape := ⟨2, ![512, 11264]⟩
abbrev S128x4x11264 : Shape := ⟨3, ![128, 4, 11264]⟩
abbrev S128x4x5632 : Shape := ⟨3, ![128, 4, 5632]⟩
abbrev S128x6x5632 : Shape := ⟨3, ![128, 6, 5632]⟩
abbrev S1x5632 : Shape := ⟨2, ![1, 5632]⟩
abbrev S1x1x5632 : Shape := ⟨3, ![1, 1, 5632]⟩
abbrev S_ : Shape := ⟨0, ![]⟩
abbrev S512x5632 : Shape := ⟨2, ![512, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8704x11264, .f32⟩
  | .hbm, ⟨1, _⟩ => ⟨S128x2x5632, .f32⟩
  | .hbm, ⟨2, _⟩ => ⟨S3x5632, .f32⟩
  | .hbm, ⟨3, _⟩ => ⟨S5632, .f32⟩
  | .hbm, ⟨4, _⟩ => ⟨S512x11264, .f32⟩
  | .hbm, ⟨5, _⟩ => ⟨S128x4x11264, .f32⟩
  | .hbm, ⟨6, _⟩ => ⟨S128x4x5632, .f32⟩
  | .hbm, ⟨7, _⟩ => ⟨S128x4x5632, .f32⟩
  | .hbm, ⟨8, _⟩ => ⟨S128x6x5632, .f32⟩
  | .hbm, ⟨9, _⟩ => ⟨S1x5632, .f32⟩
  | .hbm, ⟨10, _⟩ => ⟨S5632, .f32⟩
  | .hbm, ⟨11, _⟩ => ⟨S128x4x5632, .f32⟩
  | .hbm, ⟨12, _⟩ => ⟨S1x1x5632, .f32⟩
  | .hbm, ⟨13, _⟩ => ⟨S128x4x5632, .f32⟩
  | .hbm, ⟨14, _⟩ => ⟨S128x4x5632, .f32⟩
  | .hbm, ⟨15, _⟩ => ⟨S_, .f32⟩
  | .hbm, ⟨16, _⟩ => ⟨S128x4x5632, .f32⟩
  | .hbm, ⟨17, _⟩ => ⟨S128x4x5632, .f32⟩
  | .hbm, ⟨18, _⟩ => ⟨S1x5632, .f32⟩
  | .hbm, ⟨19, _⟩ => ⟨S5632, .f32⟩
  | .hbm, ⟨20, _⟩ => ⟨S128x4x5632, .f32⟩
  | .hbm, ⟨21, _⟩ => ⟨S1x1x5632, .f32⟩
  | .hbm, ⟨22, _⟩ => ⟨S128x4x5632, .f32⟩
  | .hbm, ⟨23, _⟩ => ⟨S128x4x5632, .f32⟩
  | .hbm, ⟨24, _⟩ => ⟨S128x4x5632, .f32⟩
  | .hbm, ⟨25, _⟩ => ⟨S1x5632, .f32⟩
  | .hbm, ⟨26, _⟩ => ⟨S5632, .f32⟩
  | .hbm, ⟨27, _⟩ => ⟨S128x4x5632, .f32⟩
  | .hbm, ⟨28, _⟩ => ⟨S1x1x5632, .f32⟩
  | .hbm, ⟨29, _⟩ => ⟨S128x4x5632, .f32⟩
  | .hbm, ⟨30, _⟩ => ⟨S128x4x5632, .f32⟩
  | .hbm, ⟨31, _⟩ => ⟨S128x4x5632, .f32⟩
  | .hbm, ⟨32, _⟩ => ⟨S1x1x5632, .f32⟩
  | .hbm, ⟨33, _⟩ => ⟨S128x4x5632, .f32⟩
  | .hbm, ⟨34, _⟩ => ⟨S128x4x5632, .f32⟩
  | .hbm, ⟨35, _⟩ => ⟨S128x4x5632, .f32⟩
  | .hbm, ⟨36, _⟩ => ⟨S128x4x5632, .f32⟩
  | .hbm, ⟨37, _⟩ => ⟨S_, .f32⟩
  | .hbm, ⟨38, _⟩ => ⟨S128x4x5632, .f32⟩
  | .hbm, ⟨39, _⟩ => ⟨S128x4x5632, .f32⟩
  | .hbm, ⟨40, _⟩ => ⟨S_, .f32⟩
  | .hbm, ⟨41, _⟩ => ⟨S128x4x5632, .f32⟩
  | .hbm, ⟨42, _⟩ => ⟨S128x4x5632, .f32⟩
  | .hbm, ⟨43, _⟩ => ⟨S128x4x5632, .f32⟩
  | .hbm, ⟨44, _⟩ => ⟨S128x4x5632, .f32⟩
  | .hbm, ⟨45, _⟩ => ⟨S512x5632, .f32⟩
  | .hbm, ⟨46, _⟩ => ⟨S512x5632, .bf16⟩
  | _, _ => ⟨S8704x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== MobaP.lean ====
abbrev S8704x3072 : Shape := ⟨2, ![8704, 3072]⟩
abbrev S1x128 : Shape := ⟨2, ![1, 128]⟩
abbrev S128 : Shape := ⟨1, ![128]⟩
abbrev S8192x1024 : Shape := ⟨2, ![8192, 1024]⟩
abbrev S32x1x512 : Shape := ⟨3, ![32, 1, 512]⟩
abbrev S256x512 : Shape := ⟨2, ![256, 512]⟩
abbrev S256x1024 : Shape := ⟨2, ![256, 1024]⟩
abbrev S1x1x512 : Shape := ⟨3, ![1, 1, 512]⟩
abbrev S256x128 : Shape := ⟨2, ![256, 128]⟩
abbrev S256 : Shape := ⟨1, ![256]⟩
abbrev S256x1 : Shape := ⟨2, ![256, 1]⟩
abbrev S512 : Shape := ⟨1, ![512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8704x3072, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S8192x1024, .bf16⟩
  | .hbm, ⟨5, _⟩ => ⟨S32x1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S1x1x512, .f32⟩
  | .local _ .vmem, ⟨8, _⟩ => ⟨S1x1x512, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MobaPRefIdeal.lean ====
abbrev S8704x3072 : Shape := ⟨2, ![8704, 3072]⟩
abbrev S1x128 : Shape := ⟨2, ![1, 128]⟩
abbrev S8192x512 : Shape := ⟨2, ![8192, 512]⟩
abbrev S8192x4x128 : Shape := ⟨3, ![8192, 4, 128]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S32x256x512 : Shape := ⟨3, ![32, 256, 512]⟩
abbrev S32x512 : Shape := ⟨2, ![32, 512]⟩
abbrev S8192x1024 : Shape := ⟨2, ![8192, 1024]⟩
abbrev S32x1x512 : Shape := ⟨3, ![32, 1, 512]⟩

abbrev nBuf : Space → Nat
  | .hbm => 32
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S1x128, .f32⟩
  | .hbm, ⟨2, _⟩ => ⟨S8192x512, .f32⟩
  | .hbm, ⟨3, _⟩ => ⟨S8192x4x128, .f32⟩
  | .hbm, ⟨4, _⟩ => ⟨S8192x512, .f32⟩
  | .hbm, ⟨5, _⟩ => ⟨S128, .f32⟩
  | .hbm, ⟨6, _⟩ => ⟨S8192x4x128, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S8192x4x1, .f32⟩
  | .hbm, ⟨17, _⟩ => ⟨S8192x4x128, .f32⟩
  | .hbm, ⟨18, _⟩ => ⟨S8192x4x128, .f32⟩
  | .hbm, ⟨19, _⟩ => ⟨S1x1x128, .f32⟩
  | .hbm, ⟨20, _⟩ => ⟨S8192x4x128, .f32⟩
  | .hbm, ⟨21, _⟩ => ⟨S8192x4x128, .f32⟩
  | .hbm, ⟨22, _⟩ => ⟨S32x256x512, .f32⟩
  | .hbm, ⟨23, _⟩ => ⟨S_, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S8192x512, .f32⟩
  | .hbm, ⟨29, _⟩ => ⟨S8192x1024, .f32⟩
  | .hbm, ⟨30, _⟩ => ⟨S8192x1024, .bf16⟩
  | .hbm, ⟨31, _⟩ => ⟨S32x1x512, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== NsaP.lean ====
abbrev S8704x6144 : Shape := ⟨2, ![8704, 6144]⟩
abbrev S1x3x128 : Shape := ⟨3, ![1, 3, 128]⟩
abbrev S3x128 : Shape := ⟨2, ![3, 128]⟩
abbrev S8192x1024 : Shape := ⟨2, ![8192, 1024]⟩
abbrev S512x512 : Shape := ⟨2, ![512, 512]⟩
abbrev S512x1024 : Shape := ⟨2, ![512, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S8704x6144, .f32⟩
  | .hbm, ⟨1, _⟩ => ⟨S1x3x128, .f32⟩
  | .hbm, ⟨2, _⟩ => ⟨S3x128, .f32⟩
  | .hbm, ⟨3, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S3x128, .f32⟩
  | .local _ .vmem, ⟨5, _⟩ => ⟨S512x1024, .bf16⟩
  | .local _ .vmem, ⟨6, _⟩ => ⟨S512x1024, .bf16⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NsaPRefIdeal.lean ====
abbrev S8704x6144 : Shape := ⟨2, ![8704, 6144]⟩
abbrev S1x3x128 : Shape := ⟨3, ![1, 3, 128]⟩
abbrev S8192x1024 : Shape := ⟨2, ![8192, 1024]⟩
abbrev S8192x4x2x128 : Shape := ⟨4, ![8192, 4, 2, 128]⟩
abbrev S8192x1x2x128 : Shape := ⟨4, ![8192, 1, 2, 128]⟩
abbrev S8192x2x128 : Shape := ⟨3, ![8192, 2, 128]⟩
abbrev S1x1x128 : Shape := ⟨3, ![1, 1, 128]⟩
abbrev S128 : Shape := ⟨1, ![128]⟩
abbrev S_ : Shape := ⟨0, ![]⟩
abbrev S8192x2 : Shape := ⟨2, ![8192, 2]⟩
abbrev S8192x2x1 : Shape := ⟨3, ![8192, 2, 1]⟩

abbrev nBuf : Space → Nat
  | .hbm => 55
  | .vmem => 0
  | .smem => 0
  | _ => 0

abbrev bufTy : (tb : Table) → Fin (tcTables nBuf tb) → BufTy
  | .hbm, ⟨0, _⟩ => ⟨S8704x6144, .f32⟩
  | .hbm, ⟨1, _⟩ => ⟨S1x3x128, .f32⟩
  | .hbm, ⟨2, _⟩ => ⟨S8192x1024, .f32⟩
  | .hbm, ⟨3, _⟩ => ⟨S8192x4x2x128, .f32⟩
  | .hbm, ⟨4, _⟩ => ⟨S8192x1x2x128, .f32⟩
  | .hbm, ⟨5, _⟩ => ⟨S8192x2x128, .f32⟩
  | .hbm, ⟨6, _⟩ => ⟨S1x1x128, .f32⟩
  | .hbm, ⟨7, _⟩ => ⟨S128, .f32⟩
  | .hbm, ⟨8, _⟩ => ⟨S8192x2x128, .f32⟩
  | .hbm, ⟨9, _⟩ => ⟨S_, .f32⟩
  | .hbm, ⟨10, _⟩ => ⟨S8192x2, .f32⟩
  | .hbm, ⟨11, _⟩ => ⟨S8192x2x1, .f32⟩
  | .hbm, ⟨12, _⟩ => ⟨S_, .f32⟩
  | .hbm, ⟨13, _⟩ => ⟨S8192x2x1, .f32⟩
  | .hbm, ⟨14, _⟩ => ⟨S8192x2x1, .f32⟩
  | .hbm, ⟨15, _⟩ => ⟨S_, .f32⟩
  | .hbm, ⟨16, _⟩ => ⟨S8192x2x1, .f32⟩
  | .hbm, ⟨17, _⟩ => ⟨S8192x2x1, .f32⟩
  | .hbm, ⟨18, _⟩ => ⟨S8192x2x1, .f32⟩
  | .hbm, ⟨19, _⟩ => ⟨S8192x2x128, .f32⟩
  | .hbm, ⟨20, _⟩ => ⟨S8192x2x128, .f32⟩
  | .hbm, ⟨21, _⟩ => ⟨S1x1x128, .f32⟩
  | .hbm, ⟨22, _⟩ => ⟨S8192x2x128, .f32⟩
  | .hbm, ⟨23, _⟩ => ⟨S8192x2x128, .f32⟩
  | .hbm, ⟨24, _⟩ => ⟨S8192x1x2x128, .f32⟩
  | .hbm, ⟨25, _⟩ => ⟨S8192x2x128, .f32⟩
  | .hbm, ⟨26, _⟩ => ⟨S1x1x128, .f32⟩
  | .hbm, ⟨27, _⟩ => ⟨S128, .f32⟩
  | .hbm, ⟨28, _⟩ => ⟨S8192x2x128, .f32⟩
  | .hbm, ⟨29, _⟩ => ⟨S_, .f32⟩
  | .hbm, ⟨30, _⟩ => ⟨S8192x2, .f32⟩
  | .hbm, ⟨31, _⟩ => ⟨S8192x2x1, .f32⟩
  | .hbm, ⟨32, _⟩ => ⟨S_, .f32⟩
  | .hbm, ⟨33, _⟩ => ⟨S8192x2x1, .f32⟩
  | .hbm, ⟨34, _⟩ => ⟨S8192x2x1, .f32⟩
  | .hbm, ⟨35, _⟩ => ⟨S_, .f32⟩
  | .hbm, ⟨36, _⟩ => ⟨S8192x2x1, .f32⟩
  | .hbm, ⟨37, _⟩ => ⟨S8192x2x1, .f32⟩
  | .hbm, ⟨38, _⟩ => ⟨S8192x2x1, .f32⟩
  | .hbm, ⟨39, _⟩ => ⟨S8192x2x128, .f32⟩
  | .hbm, ⟨40, _⟩ => ⟨S8192x2x128, .f32⟩
  | .hbm, ⟨41, _⟩ => ⟨S1x1x128, .f32⟩
  | .hbm, ⟨42, _⟩ => ⟨S8192x2x128, .f32⟩
  | .hbm, ⟨43, _⟩ => ⟨S8192x2x128, .f32⟩
  | .hbm, ⟨44, _⟩ => ⟨S8192x1x2x128, .f32⟩
  | .hbm, ⟨45, _⟩ => ⟨S8192x2x128, .f32⟩
  | .hbm, ⟨46, _⟩ => ⟨S8192x1x2x128, .f32⟩
  | .hbm, ⟨47, _⟩ => ⟨S8192x2x128, .f32⟩
  | .hbm, ⟨48, _⟩ => ⟨S8192x1x2x128, .f32⟩
  | .hbm, ⟨49, _⟩ => ⟨S8192x1x2x128, .f32⟩
  | .hbm, ⟨50, _⟩ => ⟨S8192x1x2x128, .f32⟩
  | .hbm, ⟨51, _⟩ => ⟨S8192x1x2x128, .f32⟩
  | .hbm, ⟨52, _⟩ => ⟨S8192x4x2x128, .f32⟩
  | .hbm, ⟨53, _⟩ => ⟨S8192x1024, .f32⟩
  | .hbm, ⟨54, _⟩ => ⟨S8192x1024, .bf16⟩
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== MobaA.lean ====
abbrev S8704x3072 : Shape := ⟨2, ![8704, 3072]⟩
abbrev S8192x1024 : Shape := ⟨2, ![8192, 1024]⟩
abbrev S32x1x512 : Shape := ⟨3, ![32, 1, 512]⟩
abbrev S128 : Shape := ⟨1, ![128]⟩
abbrev S2x16x512 : Shape := ⟨3, ![2, 16, 512]⟩
abbrev S1x128 : Shape := ⟨2, ![1, 128]⟩
abbrev S8192x2048 : Shape := ⟨2, ![8192, 2048]⟩
abbrev S256x512 : Shape := ⟨2, ![256, 512]⟩
abbrev S1x16x128 : Shape := ⟨3, ![1, 16, 128]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩
abbrev S16x128 : Shape := ⟨2, ![16, 128]⟩
abbrev S112x128 : Shape := ⟨2, ![112, 128]⟩
abbrev S128x128 : Shape := ⟨2, ![128, 128]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S8704x3072, .f32⟩
  | .hbm, ⟨1, _⟩ => ⟨S8192x1024, .bf16⟩
  | .hbm, ⟨2, _⟩ => ⟨S32x1x512, .f32⟩
  | .hbm, ⟨3, _⟩ => ⟨S128, .f32⟩
  | .hbm, ⟨4, _⟩ => ⟨S2x16x512, .f32⟩
  | .hbm, ⟨5, _⟩ => ⟨S1x128, .f32⟩
  | .hbm, ⟨6, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S1x16x128, .f32⟩
  | .local _ .vmem, ⟨3, _⟩ => ⟨S1x16x128, .f32⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v151 : BitVec 32 := Scalar.addi arg2 c1_i32
  let v152 : BitVec 32 := Scalar.subi v151 c0_i32
  let c1_i32_46 : BitVec 32 := 1#32
  let v154 : BitVec 32 := Scalar.divsi v152 c1_i32_46
  let v155 : BitVec 32 := Scalar.muli v154 c1_i32_46
  let v156 : BitVec 32 := Scalar.addi c0_i32 v155
  let c1_i32_47 : BitVec 32 := 1#32
  ⟨c0_i32, v156, c1_i32_47⟩
def k0_mult1 (i : grid0.Coords) (k0_t1 : Fin (k0_t1_loop i).trips) : BitVec 32 :=
  let c0_i32 : BitVec 32 := 0#32
  let c1_i32_47 : BitVec 32 := 1#32
  let arg9 : BitVec 32 := Scf.iv c0_i32 c1_i32_47 k0_t1
  let c256_i32_51 : BitVec 32 := 256#32
  let v168 : BitVec 32 := Scalar.muli arg9 c256_i32_51
  v168
def k0_off1 (i : grid0.Coords) (k0_t1 : Fin (k0_t1_loop i).trips) : Fin 2 → Nat :=
  let c0_i32 : BitVec 32 := 0#32
  let c1_i32_47 : BitVec 32 := 1#32
  let arg9 : BitVec 32 := Scf.iv c0_i32 c1_i32_47 k0_t1
  let c256_i32_51 : BitVec 32 := 256#32
  let v168 : BitVec 32 := Scalar.muli arg9 c256_i32_51
  let v169 : BitVec 32 := v168
  let v170 : Index := Scalar.indexCast v169
  let c0_52 : Index := 0#32
  ![v170.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v151 : BitVec 32 := Scalar.addi arg2 c1_i32
  let v152 : BitVec 32 := Scalar.subi v151 c0_i32
  let c1_i32_46 : BitVec 32 := 1#32
  let v154 : BitVec 32 := Scalar.divsi v152 c1_i32_46
  let v155 : BitVec 32 := Scalar.muli v154 c1_i32_46
  let v156 : BitVec 32 := Scalar.addi c0_i32 v155
  let v153 : BitVec 32 := Scalar.addi c0_i32 v152
  let c1_i32_48 : BitVec 32 := 1#32
  ⟨v156, v153, c1_i32_48⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v151 : BitVec 32 := Scalar.addi arg2 c1_i32
  let v152 : BitVec 32 := Scalar.subi v151 c0_i32
  let c1_i32_46 : BitVec 32 := 1#32
  let v154 : BitVec 32 := Scalar.divsi v152 c1_i32_46
  let v155 : BitVec 32 := Scalar.muli v154 c1_i32_46
  let v156 : BitVec 32 := Scalar.addi c0_i32 v155
  let c1_i32_48 : BitVec 32 := 1#32
  let arg9 : BitVec 32 := Scf.iv v156 c1_i32_48 k0_t2
  let c256_i32_51 : BitVec 32 := 256#32
  let v168 : BitVec 32 := Scalar.muli arg9 c256_i32_51
  v168
def k0_off2 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v151 : BitVec 32 := Scalar.addi arg2 c1_i32
  let v152 : BitVec 32 := Scalar.subi v151 c0_i32
  let c1_i32_46 : BitVec 32 := 1#32
  let v154 : BitVec 32 := Scalar.divsi v152 c1_i32_46
  let v155 : BitVec 32 := Scalar.muli v154 c1_i32_46
  let v156 : BitVec 32 := Scalar.addi c0_i32 v155
  let c1_i32_48 : BitVec 32 := 1#32
  let arg9 : BitVec 32 := Scf.iv v156 c1_i32_48 k0_t2
  let c256_i32_51 : BitVec 32 := 256#32
  let v168 : BitVec 32 := Scalar.muli arg9 c256_i32_51
  let v169 : BitVec 32 := v168
  let v170 : Index := Scalar.indexCast v169
  let c0_52 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MobaAIdeal.lean ====
variable {F : FTy → Type} [FloatOps F] [Named F]
def κ : String → Option EReal := fun
  | "mask" => some ⊥
  | _ => none
-- ==== NsaA.lean ====
abbrev S8704x6144 : Shape := ⟨2, ![8704, 6144]⟩
abbrev S8192x1024 : Shape := ⟨2, ![8192, 1024]⟩
abbrev S2x2x256x128 : Shape := ⟨4, ![2, 2, 256, 128]⟩
abbrev S128 : Shape := ⟨1, ![128]⟩
abbrev S1x128 : Shape := ⟨2, ![1, 128]⟩
abbrev S128x512 : Shape := ⟨2, ![128, 512]⟩
abbrev S128x128 : Shape := ⟨2, ![128, 128]⟩
abbrev S1x1x256x128 : Shape := ⟨4, ![1, 1, 256, 128]⟩
abbrev S4096x128 : Shape := ⟨2, ![4096, 128]⟩
abbrev S128x1 : Shape := ⟨2, ![128, 1]⟩
abbrev S512x128 : Shape := ⟨2, ![512, 128]⟩
abbrev S256x128 : Shape := ⟨2, ![256, 128]⟩
abbrev S512x256 : Shape := ⟨2, ![512, 256]⟩
abbrev S4x128x256 : Shape := ⟨3, ![4, 128, 256]⟩
abbrev S1x256 : Shape := ⟨2, ![1, 256]⟩
abbrev S128x256 : Shape := ⟨2, ![128, 256]⟩
abbrev S1x128x256 : Shape := ⟨3, ![1, 128, 256]⟩
abbrev S4x128 : Shape := ⟨2, ![4, 128]⟩
abbrev S4x128x1 : Shape := ⟨3, ![4, 128, 1]⟩
abbrev S4x128x128 : Shape := ⟨3, ![4, 128, 128]⟩
abbrev S512x512 : Shape := ⟨2, ![512, 512]⟩
abbrev S4x128x512 : Shape := ⟨3, ![4, 128, 512]⟩
abbrev S1x512 : Shape := ⟨2, ![1, 512]⟩
abbrev S1x128x512 : Shape := ⟨3, ![1, 128, 512]⟩
abbrev S640x128 : Shape := ⟨2, ![640, 128]⟩
abbrev S512x640 : Shape := ⟨2, ![512, 640]⟩
abbrev S4x128x640 : Shape := ⟨3, ![4, 128, 640]⟩
abbrev S1x640 : Shape := ⟨2, ![1, 640]⟩
abbrev S128x640 : Shape := ⟨2, ![128, 640]⟩
abbrev S1x128x640 : Shape := ⟨3, ![1, 128, 640]⟩

abbrev nBuf : Space → Nat
  | .hbm => 7
  | .vmem => 19
  | .smem => 0
  | _ => 0

abbrev bufTy : (tb : Table) → Fin (tcTables nBuf tb) → BufTy
  | .hbm, ⟨0, _⟩ => ⟨S8704x6144, .f32⟩
  | .hbm, ⟨1, _⟩ => ⟨S8192x1024, .bf16⟩
  | .hbm, ⟨2, _⟩ => ⟨S2x2x256x128, .f32⟩
  | .hbm, ⟨3, _⟩ => ⟨S2x2x256x128, .f32⟩
  | .hbm, ⟨4, _⟩ => ⟨S128, .f32⟩
  | .hbm, ⟨5, _⟩ => ⟨S1x128, .f32⟩
  | .hbm, ⟨6, _⟩ => ⟨S8192x1024, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S1x1x256x128, .f32⟩
  | .local _ .vmem, ⟨5, _⟩ => ⟨S1x1x256x128, .f32⟩
  | .local _ .vmem, ⟨6, _⟩ => ⟨S1x1x256x128, .f32⟩
  | .local _ .vmem, ⟨7, _⟩ => ⟨S1x1x256x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1x128, .f32⟩
  | .local _ .vmem, ⟨17, _⟩ => ⟨S128x512, .bf16⟩
  | .local _ .vmem, ⟨18, _⟩ => ⟨S128x512, .bf16⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 2, 32], ![false, false, false]⟩

@[reducible] def k0_t1_loop (i : grid0.Coords) : Scf.Loop 32 :=
  let c0_i32_154 : BitVec 32 := 0#32
  let arg2 : BitVec 32 := BitVec.ofNat 32 (i 2).val
  let c128_i32_141 : BitVec 32 := 128#32
  let v465 : BitVec 32 := Scalar.muli arg2 c128_i32_141
  let c128_i32_142 : BitVec 32 := 128#32
  let v466 : BitVec 32 := Scalar.addi v465 c128_i32_142
  let c1_i32_143 : BitVec 32 := 1#32
  let v467 : BitVec 32 := Scalar.subi v466 c1_i32_143
  let c0_i32_144 : BitVec 32 := 0#32
  let v469 : BitVec 1 := Scalar.cmpi .sgt v467 c0_i32_144
  let v470 : BitVec 32 := Scalar.extui v469
  let c0_i32_145 : BitVec 32 := 0#32
  let v471 : BitVec 1 := Scalar.cmpi .slt v467 c0_i32_145
  let v472 : BitVec 32 := Scalar.extui v471
  let v473 : BitVec 32 := Scalar.subi v470 v472
  let c512_i32 : BitVec 32 := 512#32
  let c0_i32_146 : BitVec 32 := 0#32
  let v474 : BitVec 1 := Scalar.cmpi .sgt c512_i32 c0_i32_146
  let v475 : BitVec 32 := Scalar.extui v474
  let c0_i32_147 : BitVec 32 := 0#32
  let v476 : BitVec 1 := Scalar.cmpi .slt c512_i32 c0_i32_147
  let v477 : BitVec 32 := Scalar.extui v476
  let v478 : BitVec 32 := Scalar.subi v475 v477
  let v479 : BitVec 1 := Scalar.cmpi .ne v473 v478
  let v480 : BitVec 32 := Scalar.remsi v467 c512_i32
  let c0_i32_148 : BitVec 32 := 0#32
  let v481 : BitVec 1 := Scalar.cmpi .ne v480 c0_i32_148
  let v482 : BitVec 1 := Scalar.andi v479 v481
  let v468 : BitVec 32 := Scalar.divsi v467 c512_i32
  let c1_i32_149 : BitVec 32 := 1#32
  let v483 : BitVec 32 := Scalar.subi v468 c1_i32_149
  let v484 : BitVec 32 := Scalar.select v482 v483 v468
  let c1_i32_150 : BitVec 32 := 1#32
  let v485 : BitVec 32 := Scalar.addi v484 c1_i32_150
  let v489 : BitVec 32 := Scalar.subi v485 c0_i32_154
  let c1_i32_155 : BitVec 32 := 1#32
  let v491 : BitVec 32 := Scalar.divsi v489 c1_i32_155
  let v492 : BitVec 32 := Scalar.muli v491 c1_i32_155
  let v493 : BitVec 32 := Scalar.addi c0_i32_154 v492
  let c1_i32_156 : BitVec 32 := 1#32
  ⟨c0_i32_154, v493, c1_i32_156⟩
def k0_mult1 (i : grid0.Coords) (k0_t1 : Fin (k0_t1_loop i).trips) : BitVec 32 :=
  let c0_i32_154 : BitVec 32 := 0#32
  let c1_i32_156 : BitVec 32 := 1#32
  let arg13 : BitVec 32 := Scf.iv c0_i32_154 c1_i32_156 k0_t1
  let c512_i32_177 : BitVec 32 := 512#32
  let v613 : BitVec 32 := Scalar.muli arg13 c512_i32_177
  v613
def k0_off1 (i : grid0.Coords) (k0_t1 : Fin (k0_t1_loop i).trips) : Fin 2 → Nat :=
  let c0_i32_154 : BitVec 32 := 0#32
  let c1_i32_156 : BitVec 32 := 1#32
  let arg13 : BitVec 32 := Scf.iv c0_i32_154 c1_i32_156 k0_t1
  let c512_i32_177 : BitVec 32 := 512#32
  let v613 : BitVec 32 := Scalar.muli arg13 c512_i32_177
  let v614 : BitVec 32 := v613
  let v615 : Index := Scalar.indexCast v614
  let c0_178 : Index := 0#32
  ![v615.toNat, 0]
@[reducible] def k0_t2_loop (i : grid0.Coords) : Scf.Loop 32 :=
  let c0_i32_154 : BitVec 32 := 0#32
  let arg2 : BitVec 32 := BitVec.ofNat 32 (i 2).val
  let c128_i32_141 : BitVec 32 := 128#32
  let v465 : BitVec 32 := Scalar.muli arg2 c128_i32_141
  let c128_i32_142 : BitVec 32 := 128#32
  let v466 : BitVec 32 := Scalar.addi v465 c128_i32_142
  let c1_i32_143 : BitVec 32 := 1#32
  let v467 : BitVec 32 := Scalar.subi v466 c1_i32_143
  let c0_i32_144 : BitVec 32 := 0#32
  let v469 : BitVec 1 := Scalar.cmpi .sgt v467 c0_i32_144
  let v470 : BitVec 32 := Scalar.extui v469
  let c0_i32_145 : BitVec 32 := 0#32
  let v471 : BitVec 1 := Scalar.cmpi .slt v467 c0_i32_145
  let v472 : BitVec 32 := Scalar.extui v471
  let v473 : BitVec 32 := Scalar.subi v470 v472
  let c512_i32 : BitVec 32 := 512#32
  let c0_i32_146 : BitVec 32 := 0#32
  let v474 : BitVec 1 := Scalar.cmpi .sgt c512_i32 c0_i32_146
  let v475 : BitVec 32 := Scalar.extui v474
  let c0_i32_147 : BitVec 32 := 0#32
  let v476 : BitVec 1 := Scalar.cmpi .slt c512_i32 c0_i32_147
  let v477 : BitVec 32 := Scalar.extui v476
  let v478 : BitVec 32 := Scalar.subi v475 v477
  let v479 : BitVec 1 := Scalar.cmpi .ne v473 v478
  let v480 : BitVec 32 := Scalar.remsi v467 c512_i32
  let c0_i32_148 : BitVec 32 := 0#32
  let v481 : BitVec 1 := Scalar.cmpi .ne v480 c0_i32_148
  let v482 : BitVec 1 := Scalar.andi v479 v481
  let v468 : BitVec 32 := Scalar.divsi v467 c512_i32
  let c1_i32_149 : BitVec 32 := 1#32
  let v483 : BitVec 32 := Scalar.subi v468 c1_i32_149
  let v484 : BitVec 32 := Scalar.select v482 v483 v468
  let c1_i32_150 : BitVec 32 := 1#32
  let v485 : BitVec 32 := Scalar.addi v484 c1_i32_150
  let v489 : BitVec 32 := Scalar.subi v485 c0_i32_154
  let c1_i32_155 : BitVec 32 := 1#32
  let v491 : BitVec 32 := Scalar.divsi v489 c1_i32_155
  let v492 : BitVec 32 := Scalar.muli v491 c1_i32_155
  let v493 : BitVec 32 := Scalar.addi c0_i32_154 v492
  let v490 : BitVec 32 := Scalar.addi c0_i32_154 v489
  let c1_i32_157 : BitVec 32 := 1#32
  ⟨v493, v490, c1_i32_157⟩
def k0_mult2 (i : grid0.Coords) (k0_t2 : Fin (k0_t2_loop i).trips) : BitVec 32 :=
  let c0_i32_154 : BitVec 32 := 0#32
  let arg2 : BitVec 32 := BitVec.ofNat 32 (i 2).val
  let c128_i32_141 : BitVec 32 := 128#32
  let v465 : BitVec 32 := Scalar.muli arg2 c128_i32_141
  let c128_i32_142 : BitVec 32 := 128#32
  let v466 : BitVec 32 := Scalar.addi v465 c128_i32_142
  let c1_i32_143 : BitVec 32 := 1#32
  let v467 : BitVec 32 := Scalar.subi v466 c1_i32_143
  let c0_i32_144 : BitVec 32 := 0#32
  let v469 : BitVec 1 := Scalar.cmpi .sgt v467 c0_i32_144
  let v470 : BitVec 32 := Scalar.extui v469
  let c0_i32_145 : BitVec 32 := 0#32
  let v471 : BitVec 1 := Scalar.cmpi .slt v467 c0_i32_145
  let v472 : BitVec 32 := Scalar.extui v471
  let v473 : BitVec 32 := Scalar.subi v470 v472
  let c512_i32 : BitVec 32 := 512#32
  let c0_i32_146 : BitVec 32 := 0#32
  let v474 : BitVec 1 := Scalar.cmpi .sgt c512_i32 c0_i32_146
  let v475 : BitVec 32 := Scalar.extui v474
  let c0_i32_147 : BitVec 32 := 0#32
  let v476 : BitVec 1 := Scalar.cmpi .slt c512_i32 c0_i32_147
  let v477 : BitVec 32 := Scalar.extui v476
  let v478 : BitVec 32 := Scalar.subi v475 v477
  let v479 : BitVec 1 := Scalar.cmpi .ne v473 v478
  let v480 : BitVec 32 := Scalar.remsi v467 c512_i32
  let c0_i32_148 : BitVec 32 := 0#32
  let v481 : BitVec 1 := Scalar.cmpi .ne v480 c0_i32_148
  let v482 : BitVec 1 := Scalar.andi v479 v481
  let v468 : BitVec 32 := Scalar.divsi v467 c512_i32
  let c1_i32_149 : BitVec 32 := 1#32
  let v483 : BitVec 32 := Scalar.subi v468 c1_i32_149
  let v484 : BitVec 32 := Scalar.select v482 v483 v468
  let c1_i32_150 : BitVec 32 := 1#32
  let v485 : BitVec 32 := Scalar.addi v484 c1_i32_150
  let v489 : BitVec 32 := Scalar.subi v485 c0_i32_154
  let c1_i32_155 : BitVec 32 := 1#32
  let v491 : BitVec 32 := Scalar.divsi v489 c1_i32_155
  let v492 : BitVec 32 := Scalar.muli v491 c1_i32_155
  let v493 : BitVec 32 := Scalar.addi c0_i32_154 v492
  let c1_i32_157 : BitVec 32 := 1#32
  let arg13 : BitVec 32 := Scf.iv v493 c1_i32_157 k0_t2
  let c512_i32_177 : BitVec 32 := 512#32
  let v613 : BitVec 32 := Scalar.muli arg13 c512_i32_177
  v613
def k0_off2 (i : grid0.Coords) (k0_t2 : Fin (k0_t2_loop i).trips) : Fin 2 → Nat :=
  let c0_i32_154 : BitVec 32 := 0#32
  let arg2 : BitVec 32 := BitVec.ofNat 32 (i 2).val
  let c128_i32_141 : BitVec 32 := 128#32
  let v465 : BitVec 32 := Scalar.muli arg2 c128_i32_141
  let c128_i32_142 : BitVec 32 := 128#32
  let v466 : BitVec 32 := Scalar.addi v465 c128_i32_142
  let c1_i32_143 : BitVec 32 := 1#32
  let v467 : BitVec 32 := Scalar.subi v466 c1_i32_143
  let c0_i32_144 : BitVec 32 := 0#32
  let v469 : BitVec 1 := Scalar.cmpi .sgt v467 c0_i32_144
  let v470 : BitVec 32 := Scalar.extui v469
  let c0_i32_145 : BitVec 32 := 0#32
  let v471 : BitVec 1 := Scalar.cmpi .slt v467 c0_i32_145
  let v472 : BitVec 32 := Scalar.extui v471
  let v473 : BitVec 32 := Scalar.subi v470 v472
  let c512_i32 : BitVec 32 := 512#32
  let c0_i32_146 : BitVec 32 := 0#32
  let v474 : BitVec 1 := Scalar.cmpi .sgt c512_i32 c0_i32_146
  let v475 : BitVec 32 := Scalar.extui v474
  let c0_i32_147 : BitVec 32 := 0#32
  let v476 : BitVec 1 := Scalar.cmpi .slt c512_i32 c0_i32_147
  let v477 : BitVec 32 := Scalar.extui v476
  let v478 : BitVec 32 := Scalar.subi v475 v477
  let v479 : BitVec 1 := Scalar.cmpi .ne v473 v478
  let v480 : BitVec 32 := Scalar.remsi v467 c512_i32
  let c0_i32_148 : BitVec 32 := 0#32
  let v481 : BitVec 1 := Scalar.cmpi .ne v480 c0_i32_148
  let v482 : BitVec 1 := Scalar.andi v479 v481
  let v468 : BitVec 32 := Scalar.divsi v467 c512_i32
  let c1_i32_149 : BitVec 32 := 1#32
  let v483 : BitVec 32 := Scalar.subi v468 c1_i32_149
  let v484 : BitVec 32 := Scalar.select v482 v483 v468
  let c1_i32_150 : BitVec 32 := 1#32
  let v485 : BitVec 32 := Scalar.addi v484 c1_i32_150
  let v489 : BitVec 32 := Scalar.subi v485 c0_i32_154
  let c1_i32_155 : BitVec 32 := 1#32
  let v491 : BitVec 32 := Scalar.divsi v489 c1_i32_155
  let v492 : BitVec 32 := Scalar.muli v491 c1_i32_155
  let v493 : BitVec 32 := Scalar.addi c0_i32_154 v492
  let c1_i32_157 : BitVec 32 := 1#32
  let arg13 : BitVec 32 := Scf.iv v493 c1_i32_157 k0_t2
  let c512_i32_177 : BitVec 32 := 512#32
  let v613 : BitVec 32 := Scalar.muli arg13 c512_i32_177
  let v614 : BitVec 32 := v613
  let v615 : Index := Scalar.indexCast v614
  let c0_178 : Index := 0#32
  ![v615.toNat, 0]
def k0_mult3 (i : grid0.Coords) : BitVec 32 :=
  let c3456_i32 : BitVec 32 := 3456#32
  let c0_i32_160 : BitVec 32 := 0#32
  let arg2 : BitVec 32 := BitVec.ofNat 32 (i 2).val
  let c128_i32_158 : BitVec 32 := 128#32
  let v499 : BitVec 32 := Scalar.muli arg2 c128_i32_158
  let c512_i32_159 : BitVec 32 := 512#32
  let v500 : BitVec 32 := Scalar.subi v499 c512_i32_159
  let v501 : BitVec 32 := Scalar.maxsi c0_i32_160 v500
  let v502 : BitVec 32 := Scalar.minsi c3456_i32 v501
  v502
def k0_off3 (i : grid0.Coords) : Fin 2 → Nat :=
  let c3456_i32 : BitVec 32 := 3456#32
  let c0_i32_160 : BitVec 32 := 0#32
  let arg2 : BitVec 32 := BitVec.ofNat 32 (i 2).val
  let c128_i32_158 : BitVec 32 := 128#32
  let v499 : BitVec 32 := Scalar.muli arg2 c128_i32_158
  let c512_i32_159 : BitVec 32 := 512#32
  let v500 : BitVec 32 := Scalar.subi v499 c512_i32_159
  let v501 : BitVec 32 := Scalar.maxsi c0_i32_160 v500
  let v502 : BitVec 32 := Scalar.minsi c3456_i32 v501
  let v503 : BitVec 32 := v502
  let v504 : Index := Scalar.indexCast v503
  let c0_161 : Index := 0#32
  ![v504.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c44_i32 : BitVec 32 := 44#32
  let v2 : BitVec 32 := Scalar.addi c44_i32 arg1
  let c0_i32 : BitVec 32 := 0#32
  ![v1.toNat, v2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== NsaAIdeal.lean ====
variable {F : FTy → Type} [FloatOps F] [Named F]
def κ : String → Option EReal := fun
  | "mask" => some ⊥
  | _ => none
-- ==== NsaC.lean ====
abbrev S8704x6144 : Shape := ⟨2, ![8704, 6144]⟩
abbrev S1x2x32x128x256 : Shape := ⟨5, ![1, 2, 32, 128, 256]⟩
abbrev S1x2x256 : Shape := ⟨3, ![1, 2, 256]⟩
abbrev S1x2x256x128 : Shape := ⟨4, ![1, 2, 256, 128]⟩
abbrev S1x2x128 : Shape := ⟨3, ![1, 2, 128]⟩
abbrev S1x2x32x128 : Shape := ⟨4, ![1, 2, 32, 128]⟩
abbrev S1x3x128 : Shape := ⟨3, ![1, 3, 128]⟩
abbrev S2x32x128x256 : Shape := ⟨4, ![2, 32, 128, 256]⟩
abbrev S2x256 : Shape := ⟨2, ![2, 256]⟩
abbrev S2x256x128 : Shape := ⟨3, ![2, 256, 128]⟩
abbrev S2x128 : Shape := ⟨2, ![2, 128]⟩
abbrev S2x32x128 : Shape := ⟨3, ![2, 32, 128]⟩
abbrev S3x128 : Shape := ⟨2, ![3, 128]⟩
abbrev S2x16x128x256 : Shape := ⟨4, ![2, 16, 128, 256]⟩
abbrev S2x16x128x512 : Shape := ⟨4, ![2, 16, 128, 512]⟩
abbrev S2x16x128 : Shape := ⟨3, ![2, 16, 128]⟩
abbrev S2x16x1x128 : Shape := ⟨4, ![2, 16, 1, 128]⟩
abbrev S2x16x2x128 : Shape := ⟨4, ![2, 16, 2, 128]⟩
abbrev S_ : Shape := ⟨0, ![]⟩
abbrev S2x16x8x128 : Shape := ⟨4, ![2, 16, 8, 128]⟩
abbrev S2x1x256 : Shape := ⟨3, ![2, 1, 256]⟩
abbrev S2x1x128 : Shape := ⟨3, ![2, 1, 128]⟩
abbrev S1x128 : Shape := ⟨2, ![1, 128]⟩
abbrev S128 : Shape := ⟨1, ![128]⟩
abbrev S544x98304 : Shape := ⟨2, ![544, 98304]⟩
abbrev S2x2x256x128 : Shape := ⟨4, ![2, 2, 256, 128]⟩
abbrev S256x512 : Shape := ⟨2, ![256, 512]⟩
abbrev S8x512 : Shape := ⟨2, ![8, 512]⟩
abbrev S1x1x8x128 : Shape := ⟨4, ![1, 1, 8, 128]⟩
abbrev S8x128 : Shape := ⟨2, ![8, 128]⟩
abbrev S1x1x128x512 : Shape := ⟨4, ![1, 1, 128, 512]⟩
abbrev S128x512 : Shape := ⟨2, ![128, 512]⟩
abbrev S1x256 : Shape := ⟨2, ![1, 256]⟩
abbrev S1x1x256 : Shape := ⟨3, ![1, 1, 256]⟩
abbrev S256x128 : Shape := ⟨2, ![256, 128]⟩
abbrev S256x256 : Shape := ⟨2, ![256, 256]⟩
abbrev S1x256x128 : Shape := ⟨3, ![1, 256, 128]⟩
abbrev S1x1x128 : Shape := ⟨3, ![1, 1, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 35
  | .vmem => 42
  | .smem => 0
  | _ => 0

abbrev bufTy : (tb : Table) → Fin (tcTables nBuf tb) → BufTy
  | .hbm, ⟨0, _⟩ => ⟨S8704x6144, .f32⟩
  | .hbm, ⟨1, _⟩ => ⟨S1x2x32x128x256, .f32⟩
  | .hbm, ⟨2, _⟩ => ⟨S1x2x256, .f32⟩
  | .hbm, ⟨3, _⟩ => ⟨S1x2x256x128, .f32⟩
  | .hbm, ⟨4, _⟩ => ⟨S1x2x128, .f32⟩
  | .hbm, ⟨5, _⟩ => ⟨S1x2x32x128, .f32⟩
  | .hbm, ⟨6, _⟩ => ⟨S1x3x128, .f32⟩
  | .hbm, ⟨7, _⟩ => ⟨S2x32x128x256, .f32⟩
  | .hbm, ⟨8, _⟩ => ⟨S2x256, .f32⟩
  | .hbm, ⟨9, _⟩ => ⟨S2x256x128, .f32⟩
  | .hbm, ⟨10, _⟩ => ⟨S2x128, .f32⟩
  | .hbm, ⟨11, _⟩ => ⟨S2x32x128, .f32⟩
  | .hbm, ⟨12, _⟩ => ⟨S3x128, .f32⟩
  | .hbm, ⟨13, _⟩ => ⟨S2x16x128x256, .f32⟩
  | .hbm, ⟨14, _⟩ => ⟨S2x16x128x256, .f32⟩
  | .hbm, ⟨15, _⟩ => ⟨S2x16x128x512, .f32⟩
  | .hbm, ⟨16, _⟩ => ⟨S2x16x128x512, .bf16⟩
  | .hbm, ⟨17, _⟩ => ⟨S2x16x128, .f32⟩
  | .hbm, ⟨18, _⟩ => ⟨S2x16x128, .f32⟩
  | .hbm, ⟨19, _⟩ => ⟨S2x16x1x128, .f32⟩
  | .hbm, ⟨20, _⟩ => ⟨S2x16x1x128, .f32⟩
  | .hbm, ⟨21, _⟩ => ⟨S2x16x2x128, .f32⟩
  | .hbm, ⟨22, _⟩ => ⟨S_, .i32⟩
  | .hbm, ⟨23, _⟩ => ⟨S_, .f32⟩
  | .hbm, ⟨24, _⟩ => ⟨S2x16x8x128, .f32⟩
  | .hbm, ⟨25, _⟩ => ⟨S2x16x8x128, .bf16⟩
  | .hbm, ⟨26, _⟩ => ⟨S2x1x256, .f32⟩
  | .hbm, ⟨27, _⟩ => ⟨S2x256x128, .bf16⟩
  | .hbm, ⟨28, _⟩ => ⟨S2x1x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S544x98304, .f32⟩
  | .hbm, ⟨33, _⟩ => ⟨S2x2x256x128, .f32⟩
  | .hbm, ⟨34, _⟩ => ⟨S2x2x256x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S2x16x128x512, .bf16⟩
  | .local _ .vmem, ⟨33, _⟩ => ⟨S2x16x8x128, .bf16⟩
  | .local _ .vmem, ⟨34, _⟩ => ⟨S2x1x256, .f32⟩
  | .local _ .vmem, ⟨35, _⟩ => ⟨S2x256x128, .bf16⟩
  | .local _ .vmem, ⟨36, _⟩ => ⟨S2x1x128, .f32⟩
  | .local _ .vmem, ⟨37, _⟩ => ⟨S1x128, .f32⟩
  | .local _ .vmem, ⟨38, _⟩ => ⟨S1x2x256x128, .f32⟩
  | .local _ .vmem, ⟨39, _⟩ => ⟨S1x2x256x128, .f32⟩
  | .local _ .vmem, ⟨40, _⟩ => ⟨S1x2x256x128, .f32⟩
  | .local _ .vmem, ⟨41, _⟩ => ⟨S1x2x256x128, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c56_i32 : BitVec 32 := 56#32
  let c0_i32 : BitVec 32 := 0#32
  ![arg0.toNat, c56_i32.toNat]

def cc0_transform_5 (i : grid0.Coords) : Fin 2 → Nat :=
  let arg0 : BitVec 32 := BitVec.ofNat 32 (i 0).val
  let c68_i32 : BitVec 32 := 68#32
  let c0_i32 : BitVec 32 := 0#32
  ![arg0.toNat, c68_i32.toNat]

def cc0_transform_6 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_7 (i : grid0.Coords) : Fin 2 → Nat :=
  let arg0 : BitVec 32 := BitVec.ofNat 32 (i 0).val
  let c92_i32 : BitVec 32 := 92#32
  let c0_i32 : BitVec 32 := 0#32
  ![arg0.toNat, c92_i32.toNat]

def cc0_transform_8 (i : grid0.Coords) : Fin 2 → Nat :=
  let arg0 : BitVec 32 := BitVec.ofNat 32 (i 0).val
  let c104_i32 : BitVec 32 := 104#32
  let c0_i32 : BitVec 32 := 0#32
  ![arg0.toNat, c104_i32.toNat]

def cc0_transform_9 (i : grid0.Coords) : Fin 2 → Nat :=
  let arg0 : BitVec 32 := BitVec.ofNat 32 (i 0).val
  let c116_i32 : BitVec 32 := 116#32
  let c0_i32 : BitVec 32 := 0#32
  ![arg0.toNat, c116_i32.toNat]

def cc0_transform_10 (i : grid0.Coords) : Fin 2 → Nat :=
  let arg0 : BitVec 32 := BitVec.ofNat 32 (i 0).val
  let c128_i32 : BitVec 32 := 128#32
  let c0_i32 : BitVec 32 := 0#32
  ![arg0.toNat, c128_i32.toNat]

def cc0_transform_11 (i : grid0.Coords) : Fin 2 → Nat :=
  let arg0 : BitVec 32 := BitVec.ofNat 32 (i 0).val
  let c140_i32 : BitVec 32 := 140#32
  let c0_i32 : BitVec 32 := 0#32
  ![arg0.toNat, c140_i32.toNat]

def cc0_transform_12 (i : grid0.Coords) : Fin 2 → Nat :=
  let arg0 : BitVec 32 := BitVec.ofNat 32 (i 0).val
  let c152_i32 : BitVec 32 := 152#32
  let c0_i32 : BitVec 32 := 0#32
  ![arg0.toNat, c152_i32.toNat]

def cc0_transform_13 (i : grid0.Coords) : Fin 2 → Nat :=
  let arg0 : BitVec 32 := BitVec.ofNat 32 (i 0).val
  let c164_i32 : BitVec 32 := 164#32
  let c0_i32 : BitVec 32 := 0#32
  ![arg0.toNat, c164_i32.toNat]

def cc0_transform_14 (i : grid0.Coords) : Fin 2 → Nat :=
  let arg0 : BitVec 32 := BitVec.ofNat 32 (i 0).val
  let c176_i32 : BitVec 32 := 176#32
  let c0_i32 : BitVec 32 := 0#32
  ![arg0.toNat, c176_i32.toNat]

def cc0_transform_15 (i : grid0.Coords) : Fin 2 → Nat :=
  let arg0 : BitVec 32 := BitVec.ofNat 32 (i 0).val
  let c188_i32 : BitVec 32 := 188#32
  let c0_i32 : BitVec 32 := 0#32
  ![arg0.toNat, c188_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x16x128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x16x8x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x2x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x2x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Proof.GlaSRef.lean ====
/- The recurrence's reference on the samples, read at an index: four tokens of a sample are one chunk, the running sum of
   the gates is a sum of at most four terms, and the attention, the kept state and the gated result are sums over a
   head's columns. -/
module

public import proofs.«01_k».proof.Defs
public import proofs.«01_k».proof.Proof.Gen.GlaSRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaSRef

open Cert.GlaSRefIdeal Cert.GlaSRefIdeal.Gen

/-- The samples' rows of the projection. -/
def rows (z : FVec Ideal S8704x6144 .f32) : FVec Ideal S512x6144 .f32 :=
  extractStridedSlice S512x6144 ![8192, 0] z slices_S8704x6144_S512x6144_8192_0

/-- The gate's argument. -/
def lin (z : FVec Ideal S8704x6144 .f32) (w : FVec Ideal S1x16x512 .f32) (b : FVec Ideal S1x512 .f32) : FVec Ideal S512x512 .f32 :=
  addf (Host.dotGeneral dot_S512x16_S16x512_S512x512_1_0_0_1_n_n none (extractStridedSlice S512x16 ![0, 5632] (rows z) slices_S512x6144_S512x16_0_5632) (shapeCast _ w shapeCasts_S1x16x512_S16x512))
    (broadcastInDim S512x512 ![0, 1] bcast_S1x512_S512x512_0_1 (broadcastInDim S1x512 ![1] bcast_S512_S1x512_1 (shapeCast _ b shapeCasts_S1x512_S512)))

/-- The logarithm of the logistic function, as the reference writes it. -/
def logsig (x : FVec Ideal S512x512 .f32) : FVec Ideal S512x512 .f32 :=
  Host.negf (select (cmpf .une (subf (Host.negf x) (broadcastInDim S512x512 ![] bcast_S_S512x512 (constant (F := Ideal) S_ .f32 0x00000000#32))) (subf (Host.negf x) (broadcastInDim S512x512 ![] bcast_S_S512x512 (constant (F := Ideal) S_ .f32 0x00000000#32))))
    (addf (Host.negf x) (broadcastInDim S512x512 ![] bcast_S_S512x512 (constant (F := Ideal) S_ .f32 0x00000000#32)))
    (addf (maximumf (Host.negf x) (broadcastInDim S512x512 ![] bcast_S_S512x512 (constant (F := Ideal) S_ .f32 0x00000000#32)))
      (Host.log1p (Host.exp (Host.negf (Host.absf (subf (Host.negf x) (broadcastInDim S512x512 ![] bcast_S_S512x512 (constant (F := Ideal) S_ .f32 0x00000000#32)))))))))

/-- The gates of a chunk. -/
def gates (x : FVec Ideal S512x512 .f32) : FVec Ideal S128x4x4x128 .f32 :=
  shapeCast _ (Host.divf (logsig x) (broadcastInDim S512x512 ![] bcast_S_S512x512 (constant (F := Ideal) S_ .f32 0x41800000#32))) shapeCasts_S512x512_S128x4x4x128

/-- The running sums of the gates. -/
def cum (a : FVec Ideal S128x4x4x128 .f32) : FVec Ideal S128x4x4x128 .f32 :=
  Host.reduceWindowAdd (F := Ideal) (φ := .f32) ![1, 4, 1, 1] ![1, 1, 1, 1] ![0, 3, 0, 0] ![0, 0, 0, 0] a (broadcastInDim S_ ![] bcast_S_S_ (constant (F := Ideal) S_ .f32 0x00000000#32)) reduceWindows_S128x4x4x128_S128x4x4x128_w1s1p0_0_w4s1p3_0_w1s1p0_0_w1s1p0_0 h_S_

/-- The queries, scaled. -/
def qs (z : FVec Ideal S8704x6144 .f32) : FVec Ideal S128x4x4x128 .f32 :=
  mulf (shapeCast _ (extractStridedSlice S512x512 ![0, 0] (rows z) slices_S512x6144_S512x512_0_0) shapeCasts_S512x512_S128x4x4x128) (broadcastInDim S128x4x4x128 ![] bcast_S_S128x4x4x128 (constant (F := Ideal) S_ .f32 0x3DB504F3#32))

/-- The keys. -/
def ks (z : FVec Ideal S8704x6144 .f32) : FVec Ideal S128x4x4x128 .f32 :=
  shapeCast _ (extractStridedSlice S512x512 ![0, 512] (rows z) slices_S512x6144_S512x512_0_512) shapeCasts_S512x512_S128x4x4x128

/-- The values. -/
def vs (z : FVec Ideal S8704x6144 .f32) : FVec Ideal S128x4x4x256 .f32 :=
  shapeCast _ (extractStridedSlice S512x1024 ![0, 1024] (rows z) slices_S512x6144_S512x1024_0_1024) shapeCasts_S512x1024_S128x4x4x256

/-- The part of the result that comes from the state. -/
def inter (s : FVec Ideal S128x4x128x256 .f32) (q cm : FVec Ideal S128x4x4x128 .f32) : FVec Ideal S128x4x4x256 .f32 :=
  transpose S128x4x4x256 [0, 3, 1, 2] (Host.dotGeneral dot_S128x4x128x256_S128x4x4x128_S128x4x256x4_2_3_3_1_01_02 none s (mulf q (Host.exp cm))) transposes_S128x4x256x4_S128x4x4x256_0_3_1_2

/-- The mask of the tokens up to a token. -/
def mask : IVec S128x4x4x4x128 1 :=
  broadcastInDim S128x4x4x4x128 ![0, 1, 2, 3, 4] bcast_S1x4x4x1x1_S128x4x4x4x128_0_1_2_3_4 (broadcastInDim S1x4x4x1x1 ![1, 2] bcast_S4x4_S1x4x4x1x1_1_2
    (select (cmpi .sge (addi (iotaInDim S4x4 32 0) (broadcastInDim S4x4 ![] bcast_S_S4x4 (constantI S_ 32 0#32))) (iotaInDim S4x4 32 1))
      (broadcastInDim S4x4 ![] bcast_S_S4x4 (constantI S_ 1 1#1)) (broadcastInDim S4x4 ![] bcast_S_S4x4 (constantI S_ 1 0#1))))

/-- The decay between two tokens. -/
def decay (cm : FVec Ideal S128x4x4x128 .f32) : FVec Ideal S128x4x4x4x128 .f32 :=
  Host.exp (select mask
    (subf (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 cm))
      (broadcastInDim S128x4x4x4x128 ![0, 1, 2, 3, 4] bcast_S128x1x4x4x128_S128x4x4x4x128_0_1_2_3_4 (broadcastInDim S128x1x4x4x128 ![0, 2, 3, 4] bcast_S128x4x4x128_S128x1x4x4x128_0_2_3_4 cm)))
    (broadcastInDim S128x4x4x4x128 ![] bcast_S_S128x4x4x4x128 (constant (F := Ideal) S_ .f32 0xFF800000#32)))

/-- The attention of a token to a token. -/
def att (q k cm : FVec Ideal S128x4x4x128 .f32) : FVec Ideal S128x4x4x4 .f32 :=
  Host.reduceAdd (mulf (mulf (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 q))
      (broadcastInDim S128x4x4x4x128 ![0, 1, 2, 3, 4] bcast_S128x1x4x4x128_S128x4x4x4x128_0_1_2_3_4 (broadcastInDim S128x1x4x4x128 ![0, 2, 3, 4] bcast_S128x4x4x128_S128x1x4x4x128_0_2_3_4 k))) (decay cm))
    (constant (F := Ideal) S_ .f32 0x00000000#32) reducesTo_S128x4x4x4x128_S128x4x4x4_d4 h_S_

/-- The result before the gate. -/
def mixed (s : FVec Ideal S128x4x128x256 .f32) (q k cm : FVec Ideal S128x4x4x128 .f32) (v : FVec Ideal S128x4x4x256 .f32) : FVec Ideal S128x4x4x256 .f32 :=
  addf (inter s q cm) (transpose S128x4x4x256 [0, 3, 1, 2] (Host.dotGeneral dot_S128x4x4x256_S128x4x4x4_S128x4x256x4_1_2_3_1_02_03 none v (att q k cm)) transposes_S128x4x256x4_S128x4x4x256_0_3_1_2)

/-- The last running sum of a chunk. -/
def last (cm : FVec Ideal S128x4x4x128 .f32) : FVec Ideal S128x4x128 .f32 :=
  shapeCast _ (extractStridedSlice S128x1x4x128 ![0, 3, 0, 0] cm slices_S128x4x4x128_S128x1x4x128_0_3_0_0) shapeCasts_S128x1x4x128_S128x4x128

/-- The state after a chunk. -/
def after (s : FVec Ideal S128x4x128x256 .f32) (k cm : FVec Ideal S128x4x4x128 .f32) (v : FVec Ideal S128x4x4x256 .f32) : FVec Ideal S128x4x128x256 .f32 :=
  addf (mulf (broadcastInDim S128x4x128x256 ![0, 1, 2, 3] bcast_S128x4x128x1_S128x4x128x256_0_1_2_3 (broadcastInDim S128x4x128x1 ![0, 1, 2] bcast_S128x4x128_S128x4x128x1_0_1_2 (Host.exp (last cm)))) s)
    (Host.dotGeneral dot_S128x4x4x128_S128x4x4x256_S128x4x128x256_1_1_3_3_02_02 none (mulf k (Host.exp (subf (broadcastInDim S128x4x4x128 ![0, 1, 2, 3] bcast_S128x1x4x128_S128x4x4x128_0_1_2_3 (broadcastInDim S128x1x4x128 ![0, 2, 3] bcast_S128x4x128_S128x1x4x128_0_2_3 (last cm))) cm))) v)

/-- The gate on the result. -/
def gated (x : FVec Ideal S128x4x4x256 .f32) (z : FVec Ideal S8704x6144 .f32) (g : FVec Ideal S1x256 .f32) : FVec Ideal S128x4x4x256 .f32 :=
  mulf (mulf (mulf x (broadcastInDim S128x4x4x256 ![0, 1, 2, 3] bcast_S128x4x4x1_S128x4x4x256_0_1_2_3 (Host.rsqrt (addf (Host.divf (broadcastInDim S128x4x4x1 ![0, 1, 2] bcast_S128x4x4_S128x4x4x1_0_1_2 (Host.reduceAdd (mulf x x) (constant (F := Ideal) S_ .f32 0x00000000#32) reducesTo_S128x4x4x256_S128x4x4_d3 h_S_)) (broadcastInDim S128x4x4x1 ![] bcast_S_S128x4x4x1 (constant (F := Ideal) S_ .f32 0x43800000#32))) (broadcastInDim S128x4x4x1 ![] bcast_S_S128x4x4x1 (constant (F := Ideal) S_ .f32 0x358637BD#32))))))
      (broadcastInDim S128x4x4x256 ![0, 1, 2, 3] bcast_S1x1x1x256_S128x4x4x256_0_1_2_3 (broadcastInDim S1x1x1x256 ![3] bcast_S256_S1x1x1x256_3 (shapeCast _ g shapeCasts_S1x256_S256))))
    (mulf (shapeCast _ (extractStridedSlice S512x1024 ![8192, 2048] z slices_S8704x6144_S512x1024_8192_2048) shapeCasts_S512x1024_S128x4x4x256)
      (Host.divf (broadcastInDim S128x4x4x256 ![] bcast_S_S128x4x4x256 (constant (F := Ideal) S_ .f32 0x3F800000#32)) (addf (broadcastInDim S128x4x4x256 ![] bcast_S_S128x4x4x256 (constant (F := Ideal) S_ .f32 0x3F800000#32))
        (Host.exp (Host.negf (shapeCast _ (extractStridedSlice S512x1024 ![8192, 2048] z slices_S8704x6144_S512x1024_8192_2048) shapeCasts_S512x1024_S128x4x4x256))))))

/-- The running sums from the arguments. -/
def sums (z : FVec Ideal S8704x6144 .f32) (w : FVec Ideal S1x16x512 .f32) (b : FVec Ideal S1x512 .f32) : FVec Ideal S128x4x4x128 .f32 := cum (gates (lin z w b))

/-- The states of the samples, without the layer's axis. -/
def old (s : FVec Ideal S1x128x4x128x256 .f32) : FVec Ideal S128x4x128x256 .f32 := shapeCast _ s shapeCasts_S1x128x4x128x256_S128x4x128x256

/-- The reference's result over its arguments. -/
def res (z : FVec Ideal S8704x6144 .f32) (s : FVec Ideal S1x128x4x128x256 .f32) (w : FVec Ideal S1x16x512 .f32) (b : FVec Ideal S1x512 .f32) (g : FVec Ideal S1x256 .f32) : FVec Ideal S128x8x1024 .bf16 :=
  truncf .bf16 (pad S128x8x1024 ![0, 0, 0] ![0, 4, 0] ![0, 0, 0] (shapeCast _ (gated (mixed (old s) (qs z) (ks z) (sums z w b) (vs z)) z g) shapeCasts_S128x4x4x256_S128x4x1024) (sitofp (F := Ideal) .f32 (constantI S_ 32 0#32)) pads_S128x4x1024_S128x8x1024_000_040_000 h_S_) bitsLt_bf16_f32

/-- The reference's new states over its arguments. -/
def res' (z : FVec Ideal S8704x6144 .f32) (s : FVec Ideal S1x128x4x128x256 .f32) (w : FVec Ideal S1x16x512 .f32) (b : FVec Ideal S1x512 .f32) : FVec Ideal S128x4x128x256 .f32 :=
  after (old s) (ks z) (sums z w b) (vs z)

set_option maxHeartbeats 4000000 in
/-- The reference program's new states are `res'` of its arguments. -/
theorem ref_state (m : (ℓ : Loc nD τ sig) → Buf (Elt Ideal) ℓ) (c : Dev nD) : Value.res_main_v57 m c
    = res' (m ((c : Thread nD τ).loc main_arg0)) (m ((c : Thread nD τ).loc main_arg1)) (m ((c : Thread nD τ).loc main_arg2)) (m ((c : Thread nD τ).loc main_arg3)) := rfl

set_option maxHeartbeats 4000000 in
/-- The reference program's result is `res` of its arguments. -/
theorem ref_res (m : (ℓ : Loc nD τ sig) → Buf (Elt Ideal) ℓ) (c : Dev nD) : Value.res_main_v79 m c
    = res (m ((c : Thread nD τ).loc main_arg0)) (m ((c : Thread nD τ).loc main_arg1)) (m ((c : Thread nD τ).loc main_arg2)) (m ((c : Thread nD τ).loc main_arg3)) (m ((c : Thread nD τ).loc main_arg4)) := rfl

/-- The bits that compare two tokens. -/
theorem bit_le : ∀ t x : Fin 4, Scalar.select (IntOp.cmpi CmpIPredicate.sge (IntOp.addi (BitVec.ofNat 32 t.val) 0#32) (BitVec.ofNat 32 x.val)) 1#1 0#1 = if x.val ≤ t.val then 1#1 else 0#1 := by decide +kernel

/-- A choice by the bit of a fact is a choice by the fact. -/
theorem select_bit (p : Prop) [Decidable p] (a b : EReal) : Scalar.select (if p then 1#1 else 0#1) a b = if p then a else b := by split <;> rfl

/-- The two ways to write the logarithm of the logistic function agree. -/
theorem logsig_eq (x : EReal) : -(max (-x) 0 + Ideal.log1p (Ideal.exp (-FloatOps.absf (F := Ideal) (φ := .f32) (-x))))
    = min x 0 - Ideal.log (1 + Ideal.exp (0 - FloatOps.absf (F := Ideal) (φ := .f32) x)) := by
  have ha : FloatOps.absf (F := Ideal) (φ := .f32) (-x) = max x (-x) := by
    change max (-x) (- -x) = _
    rw [neg_neg, max_comm]
  have hb : FloatOps.absf (F := Ideal) (φ := .f32) x = max x (-x) := rfl
  have hm : -(max (-x) 0) = min x 0 := by
    rcases le_total x 0 with h | h
    · rw [max_eq_left (EReal.neg_nonneg.mpr h), min_eq_left h, neg_neg]
    · rw [max_eq_right (by rw [← neg_zero]; exact EReal.neg_le_neg_iff.mpr h), min_eq_right h, neg_zero]
  have hl (y : EReal) : Ideal.log (1 + Ideal.exp y) ≠ ⊥ := by
    induction y using EReal.rec with
    | bot => rw [Ideal.exp_bot, add_zero]; change Ideal.log ((1 : ℝ) : EReal) ≠ ⊥; rw [Ideal.log_coe, if_neg (by norm_num)]; exact EReal.coe_ne_bot _
    | top => rw [Ideal.exp_top, EReal.add_top_of_ne_bot (show (1 : EReal) ≠ ⊥ from EReal.coe_ne_bot 1)]; simp
    | coe r =>
      rw [Ideal.exp_coe]; change Ideal.log ((1 : ℝ) + (Real.exp r : ℝ) : EReal) ≠ ⊥
      rw [← EReal.coe_add, Ideal.log_coe, if_neg (by have := Real.exp_pos r; linarith)]; exact EReal.coe_ne_bot _
  rw [ha, hb, zero_sub]
  unfold Ideal.log1p
  rw [EReal.neg_add (.inl ?_) (.inr (hl _)), hm]
  exact (lt_of_lt_of_le EReal.bot_lt_zero (le_max_right _ _)).ne'

/-- The gate's logarithm, over its argument. -/
def ls (x : EReal) : EReal := Ideal.div (min x 0 - Ideal.log (1 + Ideal.exp (0 - FloatOps.absf (F := Ideal) (φ := .f32) x))) (Ideal.ofBits .f32 0x41800000#32)

/-- A gate of a sample's token, from the arguments. -/
def gate (z : FVec Ideal S8704x6144 .f32) (w : FVec Ideal S1x16x512 .f32) (b : FVec Ideal S1x512 .f32) (s : Fin 128) (t : Fin 4) (j : Fin 512) : EReal :=
  ls (∑ x : Fin 16, z (ix2 ⟨8192 + (s.val * 4 + t.val), by omega⟩ ⟨5632 + x.val, by omega⟩) * w (ix3 0 x j) + b (ix2 0 j))

/-- The gates of the chunk of a sample. -/
theorem gates_at (z w b) (s : Fin 128) (t h : Fin 4) (k : Fin 128) : gates (lin z w b) (ix4 s t h k) = gate z w b s t ⟨h.val * 128 + k.val, by omega⟩ := by
  have e (i j : Fin 512) : lin z w b (ix2 i j) = ∑ x : Fin 16, z (ix2 ⟨8192 + i.val, by omega⟩ ⟨5632 + x.val, by omega⟩) * w (ix3 0 x j) + b (ix2 0 j) := by
    pointwise [lin, rows]
  have f (y : FVec Ideal S512x512 .f32) (i j : Fin 512) : logsig y (ix2 i j) = min (y (ix2 i j)) 0 - Ideal.log (1 + Ideal.exp (0 - FloatOps.absf (F := Ideal) (φ := .f32) (y (ix2 i j)))) := by
    rw [← logsig_eq]
    pointwise [logsig]
    rw [if_neg (by simp)]
  pointwise [gates]
  rw [f, e]
  rfl

/-- A window that ends at a token, four tokens long, sums the tokens up to it. -/
theorem cum_at (a : FVec Ideal S128x4x4x128 .f32) (s : Fin 128) (t h : Fin 4) (k : Fin 128) :
    cum a (ix4 s t h k) = ∑ i : Fin 4, if i.val ≤ t.val then a (ix4 s i h k) else 0 := by
  have hv : (broadcastInDim S_ ![] bcast_S_S_ (constant (F := Ideal) S_ .f32 0x00000000#32)) (Shape.Idx.first h_S_) = (0 : EReal) := by pointwise
  have val : ∀ (n : Fin (⟨4, ![1, 4, 1, 1]⟩ : Shape).numel) (d : Fin 4), ((⟨4, ![1, 4, 1, 1]⟩ : Shape).rowMajor.symm n d).val = ![0, n.val, 0, 0] d := by decide +kernel
  unfold cum Host.reduceWindowAdd
  rw [hv]
  change Ideal.hostReduceWindowAdd _ _ _ _ _ a 0 _ = _
  unfold Ideal.hostReduceWindowAdd Host.reduceWindow
  have fin : List.finRange (⟨4, ![1, 4, 1, 1]⟩ : Shape).numel = [⟨0, by decide⟩, ⟨1, by decide⟩, ⟨2, by decide⟩, ⟨3, by decide⟩] := by decide +kernel
  refine (List.foldl_ext _ (fun (r : EReal) n => r + if g : 3 ≤ t.val + n.val then a (ix4 s ⟨t.val + n.val - 3, by have := t.isLt; have : n.val < 4 := n.isLt; omega⟩ h k) else 0) _ fun r n _ => ?_).trans ?_
  · refine congrArg (r + ·) ?_
    have hn : n.val < 4 := n.isLt
    by_cases g : 3 ≤ t.val + n.val
    · rw [dif_pos g, dif_pos]
      · refine congrArg a (funext fun d => Fin.ext ?_)
        have := val n d
        fin_cases d <;> simp_all [ix4]
      · intro d
        have := val n d
        have := s.isLt; have := t.isLt; have := h.isLt; have := k.isLt
        fin_cases d <;> simp_all [ix4] <;> omega
    · rw [dif_neg g, dif_neg]
      intro hin
      have := val n 1
      have := (hin 1).1
      simp_all [ix4]
      omega
  · have e (G : Fin (⟨4, ![1, 4, 1, 1]⟩ : Shape).numel → EReal) : List.foldl (fun (r : EReal) n => r + G n) 0 (List.finRange _) = G ⟨0, by decide⟩ + G ⟨1, by decide⟩ + G ⟨2, by decide⟩ + G ⟨3, by decide⟩ := by
      rw [fin]
      simp only [List.foldl_cons, List.foldl_nil, zero_add]
    refine (e _).trans ?_
    rw [Fin.sum_univ_four]
    clear e fin val hv
    dsimp only
    have c : t = 0 ∨ t = 1 ∨ t = 2 ∨ t = 3 := by omega
    rcases c with rfl | rfl | rfl | rfl <;> simp

/-- The result before the gate, at an index. -/
theorem mixed_at (s q k cm v) (b : Fin 128) (t h : Fin 4) (j : Fin 256) : mixed s q k cm v (ix4 b t h j)
    = ∑ x : Fin 128, s (ix4 b h x j) * (q (ix4 b t h x) * Ideal.exp (cm (ix4 b t h x)))
      + ∑ i : Fin 4, v (ix4 b i h j) * ∑ x : Fin 128, q (ix4 b t h x) * k (ix4 b i h x) * Ideal.exp (if i.val ≤ t.val then cm (ix4 b t h x) - cm (ix4 b i h x) else ⊥) := by
  pointwise [mixed, inter, att, decay, mask]
  have e : Ideal.ofBits FTy.f32 4286578688#32 = ⊥ := by simp [Ideal.ofBits, Ideal.ieee]
  simp only [bit_le, select_bit, e]

/-- The state after a chunk, at an index. -/
theorem after_at (s k cm v) (b : Fin 128) (h : Fin 4) (x : Fin 128) (j : Fin 256) : after s k cm v (ix4 b h x j)
    = Ideal.exp (cm (ix4 b 3 h x)) * s (ix4 b h x j) + ∑ i : Fin 4, k (ix4 b i h x) * Ideal.exp (cm (ix4 b 3 h x) - cm (ix4 b i h x)) * v (ix4 b i h j) := by
  pointwise [after, last]

/-- The queries, scaled, at an index. -/
theorem qs_at (z) (b : Fin 128) (t h : Fin 4) (k : Fin 128) : qs z (ix4 b t h k) = z (ix2 ⟨8192 + (b.val * 4 + t.val), by omega⟩ ⟨h.val * 128 + k.val, by omega⟩) * Ideal.ofBits .f32 0x3DB504F3#32 := by
  pointwise [qs, rows]

/-- The keys at an index. -/
theorem ks_at (z) (b : Fin 128) (t h : Fin 4) (k : Fin 128) : ks z (ix4 b t h k) = z (ix2 ⟨8192 + (b.val * 4 + t.val), by omega⟩ ⟨512 + (h.val * 128 + k.val), by omega⟩) := by
  pointwise [ks, rows]

/-- The values at an index. -/
theorem vs_at (z) (b : Fin 128) (t h : Fin 4) (j : Fin 256) : vs z (ix4 b t h j) = z (ix2 ⟨8192 + (b.val * 4 + t.val), by omega⟩ ⟨1024 + (h.val * 256 + j.val), by omega⟩) := by
  pointwise [vs, rows]

/-- The states at an index. -/
theorem old_at (s) (b : Fin 128) (h : Fin 4) (k : Fin 128) (j : Fin 256) : old s (ix4 b h k j) = s (ix5 0 b h k j) := by
  pointwise [old]

/-- The gated result at an index. -/
theorem gated_at (x z g) (b : Fin 128) (t h : Fin 4) (j : Fin 256) : gated x z g (ix4 b t h j)
    = x (ix4 b t h j) * Ideal.rsqrt (Ideal.div (∑ i : Fin 256, x (ix4 b t h i) * x (ix4 b t h i)) (Ideal.ofBits .f32 0x43800000#32) + Ideal.ofBits .f32 0x358637BD#32) * g (ix2 0 j)
      * (z (ix2 ⟨8192 + (b.val * 4 + t.val), by omega⟩ ⟨2048 + (h.val * 256 + j.val), by omega⟩)
        * Ideal.div 1 (1 + Ideal.exp (-z (ix2 ⟨8192 + (b.val * 4 + t.val), by omega⟩ ⟨2048 + (h.val * 256 + j.val), by omega⟩)))) := by
  pointwise [gated]

/-- The result at an index: four rows of each sample's block of eight hold its tokens, the others zeros. -/
theorem res_at (z s w b g) (i : Fin 128) (t : Fin 8) (j : Fin 1024) : res z s w b g (ix3 i t j)
    = if h : t.val < 4 then gated (mixed (old s) (qs z) (ks z) (sums z w b) (vs z)) z g (ix4 i ⟨t.val, h⟩ ⟨j.val / 256, by omega⟩ ⟨j.val % 256, by omega⟩) else 0 := by
  have e : FloatOps.sitofp (F := Ideal) .f32 0#32 = (0 : EReal) := by show (((0#32 : BitVec 32).toInt : ℝ) : EReal) = 0; simp
  pointwise [res]
  rw [e]

/-- The running sums from the arguments, at an index. -/
theorem sums_at (z w b) (s : Fin 128) (t h : Fin 4) (k : Fin 128) :
    sums z w b (ix4 s t h k) = ∑ i : Fin 4, if i.val ≤ t.val then gate z w b s i ⟨h.val * 128 + k.val, by omega⟩ else 0 := by
  unfold sums
  rw [cum_at]
  simp only [gates_at]

end Cert.GlaSRef

end
-- ==== Proof.GlaSHead.lean ====
module

public import proofs.«01_k».proof.Defs
public import proofs.«01_k».proof.Proof.Gen.GlaSIdeal.Value
public import proofs.«01_k».proof.Proof.GlaSRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaSHead

open Cert.GlaSIdeal Cert.GlaSIdeal.Gen

variable (m : (ℓ : Loc nD τ sig) → Buf (Elt Ideal) ℓ)

/-- The bits that compare a row with a token. -/
theorem bit8 : ∀ r s : Fin 8, IntOp.cmpi CmpIPredicate.sge (BitVec.ofNat 32 r.val) (BitVec.ofNat 32 s.val) = if s.val ≤ r.val then 1#1 else 0#1 := by decide +kernel

/-- A choice by the bit of a fact is a choice by the fact. -/
theorem select_bit (p : Prop) [Decidable p] (a b : EReal) : Scalar.select (if p then 1#1 else 0#1) a b = if p then a else b := by split <;> rfl

/-- The mask's constant is the least value. -/
theorem mask_eq : (Named.named (F := Ideal) (φ := .f32) κ "mask" 0xF149F2CA#32 : EReal) = ⊥ := rfl

/-- One weight: how much of the value of row `s` reaches row `r`. -/
def kw (Q K : FVec Ideal S1x8x128 .f32) (C : FVec Ideal S8x128 .f32) (r s : Fin 8) : EReal :=
  ∑ x : Fin 128, Q (ix3 0 r x) * Ideal.ofBits .f32 0x3DB504F3#32 * K (ix3 0 s x) * Ideal.exp (if s.val ≤ r.val then C (ix2 r x) - C (ix2 s x) else ⊥)

/-- A head's result before the gate. -/
def ko (Q K : FVec Ideal S1x8x128 .f32) (V : FVec Ideal S1x8x256 .f32) (C : FVec Ideal S8x128 .f32) (S : FVec Ideal S1x256x128 .f32) (r : Fin 8) (j : Fin 256) : EReal :=
  ∑ x : Fin 128, Q (ix3 0 r x) * Ideal.ofBits .f32 0x3DB504F3#32 * Ideal.exp (C (ix2 r x)) * S (ix3 0 j x) + kw Q K C r 0 * V (ix3 0 0 j) + kw Q K C r 1 * V (ix3 0 1 j)
    + kw Q K C r 2 * V (ix3 0 2 j) + kw Q K C r 3 * V (ix3 0 3 j) + kw Q K C r 4 * V (ix3 0 4 j) + kw Q K C r 5 * V (ix3 0 5 j) + kw Q K C r 6 * V (ix3 0 6 j) + kw Q K C r 7 * V (ix3 0 7 j)

/-- The gate over a head's result. -/
def kg (o : Fin 256 → EReal) (R : FVec Ideal S1x8x256 .f32) (G : FVec Ideal S1x256 .f32) (r : Fin 8) (j : Fin 256) : EReal :=
  o j * Ideal.rsqrt (Ideal.div (∑ i : Fin 256, o i * o i) (Ideal.ofBits .f32 0x43800000#32) + Ideal.ofBits .f32 0x358637BD#32) * G (ix2 0 j)
    * (R (ix3 0 r j) * Ideal.div 1 (1 + Ideal.exp (-R (ix3 0 r j))))

/-- A head's state after the chunk. -/
def kst (K : FVec Ideal S1x8x128 .f32) (V : FVec Ideal S1x8x256 .f32) (C : FVec Ideal S8x128 .f32) (S : FVec Ideal S1x256x128 .f32) (x : Fin 128) (j : Fin 256) : EReal :=
  S (ix3 0 j x) * Ideal.exp (C (ix2 7 x)) + ∑ s : Fin 8, V (ix3 0 s j) * (K (ix3 0 s x) * Ideal.exp (C (ix2 7 x) - C (ix2 s x)))

/-- Head 0: its result before the gate. -/
theorem head0 (Q K : FVec Ideal S1x8x128 .f32) (V : FVec Ideal S1x8x256 .f32) (C : FVec Ideal S8x128 .f32) (S : FVec Ideal S1x256x128 .f32) (r : Fin 8) (j : Fin 256) :
    (k0_pay23 (F := Ideal) (iota Kind.tc S8x1 32 [0] iota_S8x1_d0_w32) (k0_pay11 Q) (k0_pay12 K) (k0_pay13 V) C (k0_pay20 (iota Kind.tc S8x1 32 [0] iota_S8x1_d0_w32) (k0_pay11 Q) (k0_pay12 K) (k0_pay13 V) C (k0_pay18 (iota Kind.tc S8x1 32 [0] iota_S8x1_d0_w32) (k0_pay11 Q) (k0_pay12 K) (k0_pay13 V) C (k0_pay15 (iota Kind.tc S8x1 32 [0] iota_S8x1_d0_w32) Q K V C S) (k0_pay16 (iota Kind.tc S8x1 32 [0] iota_S8x1_d0_w32)) (k0_pay17 C) (Named.named κ "mask" 0xF149F2CA#32)) (k0_pay19 (iota Kind.tc S8x1 32 [0] iota_S8x1_d0_w32) (k0_pay11 Q) (k0_pay12 K) C)) (k0_pay21 (iota Kind.tc S8x1 32 [0] iota_S8x1_d0_w32)) (k0_pay22 C) (Named.named κ "mask" 0xF149F2CA#32)) (ix2 r j) = (ko Q K V C S r j : EReal) := by
  pointwise [k0_pay11, k0_pay12, k0_pay13, k0_pay14, k0_pay15, k0_pay16, k0_pay17, k0_pay18, k0_pay19, k0_pay20, k0_pay21, k0_pay22, k0_pay23]
  unfold ko kw
  have e (s : Fin 8) (a : EReal) : Scalar.select (IntOp.cmpi CmpIPredicate.sge (BitVec.ofNat 32 r.val) (BitVec.ofNat 32 s.val)) a (Named.named (F := Ideal) (φ := .f32) κ "mask" 0xF149F2CA#32 : EReal) = if s.val ≤ r.val then a else ⊥ := by
    rw [bit8, select_bit, mask_eq]
  simp only [← e]
  rfl

/-- Head 0: the gate over any result. -/
theorem gate0 (X : FVec Ideal S8x256 .f32) (R : FVec Ideal S1x8x256 .f32) (G : FVec Ideal S1x256 .f32) (r : Fin 8) (j : Fin 256) :
    (shapeCast S1x8x256 (truncf .bf16 (mulf (mulf (mulf (X) (broadcastTo S8x256 (rsqrt (addf (divf (shapeCast S8x1 (multiReduction (F := Ideal) .add [1] S8 (mulf (X) (X)) 0x00000000#32 reduces_S8x256_S8 (.inl rfl) rfl) shapeCasts_S8_S8x1) (broadcast S8x1 (FloatOps.ofBits .f32 0x43800000#32))) (broadcast S8x1 (FloatOps.ofBits .f32 0x358637BD#32)))) broadcasts_S8x1_S8x256)) (broadcastTo S8x256 (shapeCast S1x256 G shapeCasts_S1x256_S1x256) broadcasts_S1x256_S8x256)) (mulf (shapeCast S8x256 R shapeCasts_S1x8x256_S8x256) (logistic (shapeCast S8x256 R shapeCasts_S1x8x256_S8x256)))) bitsLt_bf16_f32) shapeCasts_S8x256_S1x8x256) (ix3 0 r j) = (kg (fun i => X (ix2 r i)) R G r j : EReal) := by
  pointwise
  rfl

/-- Head 0: its part of the output. -/
theorem out0 (Q K : FVec Ideal S1x8x128 .f32) (V R : FVec Ideal S1x8x256 .f32) (G : FVec Ideal S1x256 .f32) (C : FVec Ideal S8x128 .f32) (S : FVec Ideal S1x256x128 .f32) (r : Fin 8) (j : Fin 256) :
    (shapeCast S1x8x256 (truncf .bf16 (mulf (mulf (mulf (k0_pay23 (F := Ideal) (iota Kind.tc S8x1 32 [0] iota_S8x1_d0_w32) (k0_pay11 Q) (k0_pay12 K) (k0_pay13 V) C (k0_pay20 (iota Kind.tc S8x1 32 [0] iota_S8x1_d0_w32) (k0_pay11 Q) (k0_pay12 K) (k0_pay13 V) C (k0_pay18 (iota Kind.tc S8x1 32 [0] iota_S8x1_d0_w32) (k0_pay11 Q) (k0_pay12 K) (k0_pay13 V) C (k0_pay15 (iota Kind.tc S8x1 32 [0] iota_S8x1_d0_w32) Q K V C S) (k0_pay16 (iota Kind.tc S8x1 32 [0] iota_S8x1_d0_w32)) (k0_pay17 C) (Named.named κ "mask" 0xF149F2CA#32)) (k0_pay19 (iota Kind.tc S8x1 32 [0] iota_S8x1_d0_w32) (k0_pay11 Q) (k0_pay12 K) C)) (k0_pay21 (iota Kind.tc S8x1 32 [0] iota_S8x1_d0_w32)) (k0_pay22 C) (Named.named κ "mask" 0xF149F2CA#32)) (broadcastTo S8x256 (rsqrt (addf (divf (shapeCast S8x1 (multiReduction (F := Ideal) .add [1] S8 (mulf (k0_pay23 (F := Ideal) (iota Kind.tc S8x1 32 [0] iota_S8x1_d0_w32) (k0_pay11 Q) (k0_pay12 K) (k0_pay13 V) C (k0_pay20 (iota Kind.tc S8x1 32 [0] iota_S8x1_d0_w32) (k0_pay11 Q) (k0_pay12 K) (k0_pay13 V) C (k0_pay18 (iota Kind.tc S8x1 32 [0] iota_S8x1_d0_w32) (k0_pay11 Q) (k0_pay12 K) (k0_pay13 V) C (k0_pay15 (iota Kind.tc S8x1 32 [0] iota_S8x1_d0_w32) Q K V C S) (k0_pay16 (iota Kind.tc S8x1 32 [0] iota_S8x1_d0_w32)) (k0_pay17 C) (Named.named κ "mask" 0xF149F2CA#32)) (k0_pay19 (iota Kind.tc S8x1 32 [0] iota_S8x1_d0_w32) (k0_pay11 Q) (k0_pay12 K) C)) (k0_pay21 (iota Kind.tc S8x1 32 [0] iota_S8x1_d0_w32)) (k0_pay22 C) (Named.named κ "mask" 0xF149F2CA#32)) (k0_pay23 (F := Ideal) (iota Kind.tc S8x1 32 [0] iota_S8x1_d0_w32) (k0_pay11 Q) (k0_pay12 K) (k0_pay13 V) C (k0_pay20 (iota Kind.tc S8x1 32 [0] iota_S8x1_d0_w32) (k0_pay11 Q) (k0_pay12 K) (k0_pay13 V) C (k0_pay18 (iota Kind.tc S8x1 32 [0] iota_S8x1_d0_w32) (k0_pay11 Q) (k0_pay12 K) (k0_pay13 V) C (k0_pay15 (iota Kind.tc S8x1 32 [0] iota_S8x1_d0_w32) Q K V C S) (k0_pay16 (iota Kind.tc S8x1 32 [0] iota_S8x1_d0_w32)) (k0_pay17 C) (Named.named κ "mask" 0xF149F2CA#32)) (k0_pay19 (iota Kind.tc S8x1 32 [0] iota_S8x1_d0_w32) (k0_pay11 Q) (k0_pay12 K) C)) (k0_pay21 (iota Kind.tc S8x1 32 [0] iota_S8x1_d0_w32)) (k0_pay22 C) (Named.named κ "mask" 0xF149F2CA#32))) 0x00000000#32 reduces_S8x256_S8 (.inl rfl) rfl) shapeCasts_S8_S8x1) (broadcast S8x1 (FloatOps.ofBits .f32 0x43800000#32))) (broadcast S8x1 (FloatOps.ofBits .f32 0x358637BD#32)))) broadcasts_S8x1_S8x256)) (broadcastTo S8x256 (shapeCast S1x256 G shapeCasts_S1x256_S1x256) broadcasts_S1x256_S8x256)) (mulf (shapeCast S8x256 R shapeCasts_S1x8x256_S8x256) (logistic (shapeCast S8x256 R shapeCasts_S1x8x256_S8x256)))) bitsLt_bf16_f32) shapeCasts_S8x256_S1x8x256) (ix3 0 r j) = (kg (ko Q K V C S r) R G r j : EReal) :=
  (gate0 _ R G r j).trans (congrArg (fun o => kg o R G r j) (funext fun i => head0 Q K V C S r i))

/-- Head 0: its state after the chunk. -/
theorem state0 (K : FVec Ideal S1x8x128 .f32) (V : FVec Ideal S1x8x256 .f32) (C : FVec Ideal S8x128 .f32) (S : FVec Ideal S1x256x128 .f32) (x : Fin 128) (j : Fin 256) :
    (k0_pay78 (F := Ideal) (k0_pay24 (F := Ideal) (k0_pay12 K) (k0_pay13 V) C (k0_pay14 S))) (ix4 0 0 x j) = (kst K V C S x j : EReal) := by
  pointwise [k0_pay78, k0_pay24, k0_pay12, k0_pay13, k0_pay14]
  rfl

/-- Head 1: its result before the gate. -/
theorem head1 (Q K : FVec Ideal S1x8x128 .f32) (V : FVec Ideal S1x8x256 .f32) (C : FVec Ideal S8x128 .f32) (S : FVec Ideal S1x256x128 .f32) (r : Fin 8) (j : Fin 256) :
    (k0_pay38 (F := Ideal) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay35 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay33 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay30 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C S) (k0_pay31 (iota Kind.tc S8x1 32 [0] iota_S8x1_d0_w32)) (k0_pay32 C)) (k0_pay34 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) C)) (k0_pay36 (iota Kind.tc S8x1 32 [0] iota_S8x1_d0_w32)) (k0_pay37 C)) (ix2 r j) = (ko Q K V C S r j : EReal) := by
  pointwise [k0_pay26, k0_pay27, k0_pay28, k0_pay29, k0_pay30, k0_pay31, k0_pay32, k0_pay33, k0_pay34, k0_pay35, k0_pay36, k0_pay37, k0_pay38]
  unfold ko kw
  have e (s : Fin 8) (a : EReal) : Scalar.select (IntOp.cmpi CmpIPredicate.sge (BitVec.ofNat 32 r.val) (BitVec.ofNat 32 s.val)) a (Named.named (F := Ideal) (φ := .f32) κ "mask" 0xF149F2CA#32 : EReal) = if s.val ≤ r.val then a else ⊥ := by
    rw [bit8, select_bit, mask_eq]
  simp only [← e]
  rfl

/-- Head 1: the gate over any result. -/
theorem gate1 (q k : FVec Ideal S8x128 .f32) (v : FVec Ideal S8x256 .f32) (C : FVec Ideal S8x128 .f32) (X : FVec Ideal S8x256 .f32) (a : IVec S8x1 1) (b : FVec Ideal S1x128 .f32) (R : FVec Ideal S1x8x256 .f32) (G : FVec Ideal S1x256 .f32) (r : Fin 8) (j : Fin 256) :
    (k0_pay43 (F := Ideal) (k0_pay38 (F := Ideal) q k v C X a b) (k0_pay40 R) (k0_pay41 G) (k0_pay42 (F := Ideal) q k v C X a b)) (ix3 0 r j) = (kg (fun i => k0_pay38 (F := Ideal) q k v C X a b (ix2 r i)) R G r j : EReal) := by
  unfold k0_pay42
  generalize k0_pay38 (F := Ideal) q k v C X a b = Y
  pointwise [k0_pay43, k0_pay40, k0_pay41]
  rfl

/-- Head 1: its part of the output. -/
theorem out1 (Q K : FVec Ideal S1x8x128 .f32) (V R : FVec Ideal S1x8x256 .f32) (G : FVec Ideal S1x256 .f32) (C : FVec Ideal S8x128 .f32) (S : FVec Ideal S1x256x128 .f32) (r : Fin 8) (j : Fin 256) :
    (k0_pay43 (F := Ideal) (k0_pay38 (F := Ideal) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay35 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay33 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay30 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C S) (k0_pay31 (iota Kind.tc S8x1 32 [0] iota_S8x1_d0_w32)) (k0_pay32 C)) (k0_pay34 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) C)) (k0_pay36 (iota Kind.tc S8x1 32 [0] iota_S8x1_d0_w32)) (k0_pay37 C)) (k0_pay40 R) (k0_pay41 G) (k0_pay42 (F := Ideal) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay35 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay33 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C (k0_pay30 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) (shapeCast S8x256 V shapeCasts_S1x8x256_S8x256) C S) (k0_pay31 (iota Kind.tc S8x1 32 [0] iota_S8x1_d0_w32)) (k0_pay32 C)) (k0_pay34 (iota Kind.tc S8x1 32 [0] iota_S8x1_d0_w32) (mulf (shapeCast S8x128 Q shapeCasts_S1x8x128_S8x128) (broadcast S8x128 (FloatOps.ofBits .f32 0x3DB504F3#32))) (shapeCast S8x128 K shapeCasts_S1x8x128_S8x128) C)) (k0_pay36 (iota Kind.tc S8x1 32 [0] iota_S8x1_d0_w32)) (k0_pay37 C))) (ix3 0 r j) = (kg (ko Q K V C S r) R G r j : EReal) :=
  (gate1 _ _ _ _ _ _ _ R G r j).trans (congrArg (fun o => kg o R G r j) (funext fun i => head1 Q K V C S r i))

/-- Head 1: its state after the chunk. -/
theorem state1 (K : FVec Ideal S1x8x128 .f32) (V : FVec Ideal S1x8x256 .f32) (C : FVec Ideal S8x128 .f32) (S : FVec Ideal S1x256x128 .f32) (x : Fin 128) (j : Fin 256) :
    (k0_pay79 (F := Ideal) (k0_pay39 (F := Ideal) (shapeCast S8x128 K shapeCasts_S1x8x128_S8x128) (shapeCast S8x256 V shapeCasts_S1x8x256_S8x256) C (k0_pay29 S))) (ix4 0 0 x j) = (kst K V C S x j : EReal) := by
  pointwise [k0_pay79, k0_pay39, k0_pay29]
  rfl

/-- Head 2: its result before the gate. -/
theorem head2 (Q K : FVec Ideal S1x8x128 .f32) (V : FVec Ideal S1x8x256 .f32) (C : FVec Ideal S8x128 .f32) (S : FVec Ideal S1x256x128 .f32) (r : Fin 8) (j : Fin 256) :
    (k0_pay55 (F := Ideal) (iota Kind.tc S8x1 32 [0] iota_S8x1_d0_w32) (k0_pay44 Q) (k0_pay45 K) (k0_pay46 V) C (k0_pay52 (iota Kind.tc S8x1 32 [0] iota_S8x1_d0_w32) (k0_pay44 Q) (k0_pay45 K) (k0_pay46 V) C (k0_pay51 (iota Kind.tc S8x1 32 [0] iota_S8x1_d0_w32) (k0_pay44 Q) (k0_pay45 K) (k0_pay46 V) C (k0_pay48 Q C S) (k0_pay49 (iota Kind.tc S8x1 32 [0] iota_S8x1_d0_w32) C) (k0_pay50 K)) 3#32) (k0_pay53 (iota Kind.tc S8x1 32 [0] iota_S8x1_d0_w32) C) (k0_pay54 (k0_pay45 K))) (ix2 r j) = (ko Q K V C S r j : EReal) := by
  pointwise [k0_pay44, k0_pay45, k0_pay46, k0_pay47, k0_pay48, k0_pay49, k0_pay50, k0_pay51, k0_pay52, k0_pay53, k0_pay54, k0_pay55]
  unfold ko kw
  have e (s : Fin 8) (a : EReal) : Scalar.select (IntOp.cmpi CmpIPredicate.sge (BitVec.ofNat 32 r.val) (BitVec.ofNat 32 s.val)) a (Named.named (F := Ideal) (φ := .f32) κ "mask" 0xF149F2CA#32 : EReal) = if s.val ≤ r.val then a else ⊥ := by
    rw [bit8, select_bit, mask_eq]
  simp only [← e]
  rfl

/-- Head 2: the gate over any result. -/
theorem gate2 (X : FVec Ideal S8x256 .f32) (R : FVec Ideal S1x8x256 .f32) (G : FVec Ideal S1x256 .f32) (r : Fin 8) (j : Fin 256) :
    (shapeCast S1x8x256 (truncf .bf16 (mulf (mulf (mulf (X) (broadcastTo S8x256 (rsqrt (addf (divf (shapeCast S8x1 (multiReduction (F := Ideal) .add [1] S8 (mulf (X) (X)) 0x00000000#32 reduces_S8x256_S8 (.inl rfl) rfl) shapeCasts_S8_S8x1) (broadcast S8x1 (FloatOps.ofBits .f32 0x43800000#32))) (broadcast S8x1 (FloatOps.ofBits .f32 0x358637BD#32)))) broadcasts_S8x1_S8x256)) (broadcastTo S8x256 (shapeCast S1x256 G shapeCasts_S1x256_S1x256) broadcasts_S1x256_S8x256)) (mulf (shapeCast S8x256 R shapeCasts_S1x8x256_S8x256) (logistic (shapeCast S8x256 R shapeCasts_S1x8x256_S8x256)))) bitsLt_bf16_f32) shapeCasts_S8x256_S1x8x256) (ix3 0 r j) = (kg (fun i => X (ix2 r i)) R G r j : EReal) := by
  pointwise
  rfl

/-- Head 2: its part of the output. -/
theorem out2 (Q K : FVec Ideal S1x8x128 .f32) (V R : FVec Ideal S1x8x256 .f32) (G : FVec Ideal S1x256 .f32) (C : FVec Ideal S8x128 .f32) (S : FVec Ideal S1x256x128 .f32) (r : Fin 8) (j : Fin 256) :
    (shapeCast S1x8x256 (truncf .bf16 (mulf (mulf (mulf (k0_pay55 (F := Ideal) (iota Kind.tc S8x1 32 [0] iota_S8x1_d0_w32) (k0_pay44 Q) (k0_pay45 K) (k0_pay46 V) C (k0_pay52 (iota Kind.tc S8x1 32 [0] iota_S8x1_d0_w32) (k0_pay44 Q) (k0_pay45 K) (k0_pay46 V) C (k0_pay51 (iota Kind.tc S8x1 32 [0] iota_S8x1_d0_w32) (k0_pay44 Q) (k0_pay45 K) (k0_pay46 V) C (k0_pay48 Q C S) (k0_pay49 (iota Kind.tc S8x1 32 [0] iota_S8x1_d0_w32) C) (k0_pay50 K)) 3#32) (k0_pay53 (iota Kind.tc S8x1 32 [0] iota_S8x1_d0_w32) C) (k0_pay54 (k0_pay45 K))) (broadcastTo S8x256 (rsqrt (addf (divf (shapeCast S8x1 (multiReduction (F := Ideal) .add [1] S8 (mulf (k0_pay55 (F := Ideal) (iota Kind.tc S8x1 32 [0] iota_S8x1_d0_w32) (k0_pay44 Q) (k0_pay45 K) (k0_pay46 V) C (k0_pay52 (iota Kind.tc S8x1 32 [0] iota_S8x1_d0_w32) (k0_pay44 Q) (k0_pay45 K) (k0_pay46 V) C (k0_pay51 (iota Kind.tc S8x1 32 [0] iota_S8x1_d0_w32) (k0_pay44 Q) (k0_pay45 K) (k0_pay46 V) C (k0_pay48 Q C S) (k0_pay49 (iota Kind.tc S8x1 32 [0] iota_S8x1_d0_w32) C) (k0_pay50 K)) 3#32) (k0_pay53 (iota Kind.tc S8x1 32 [0] iota_S8x1_d0_w32) C) (k0_pay54 (k0_pay45 K))) (k0_pay55 (F := Ideal) (iota Kind.tc S8x1 32 [0] iota_S8x1_d0_w32) (k0_pay44 Q) (k0_pay45 K) (k0_pay46 V) C (k0_pay52 (iota Kind.tc S8x1 32 [0] iota_S8x1_d0_w32) (k0_pay44 Q) (k0_pay45 K) (k0_pay46 V) C (k0_pay51 (iota Kind.tc S8x1 32 [0] iota_S8x1_d0_w32) (k0_pay44 Q) (k0_pay45 K) (k0_pay46 V) C (k0_pay48 Q C S) (k0_pay49 (iota Kind.tc S8x1 32 [0] iota_S8x1_d0_w32) C) (k0_pay50 K)) 3#32) (k0_pay53 (iota Kind.tc S8x1 32 [0] iota_S8x1_d0_w32) C) (k0_pay54 (k0_pay45 K)))) 0x00000000#32 reduces_S8x256_S8 (.inl rfl) rfl) shapeCasts_S8_S8x1) (broadcast S8x1 (FloatOps.ofBits .f32 0x43800000#32))) (broadcast S8x1 (FloatOps.ofBits .f32 0x358637BD#32)))) broadcasts_S8x1_S8x256)) (broadcastTo S8x256 (shapeCast S1x256 G shapeCasts_S1x256_S1x256) broadcasts_S1x256_S8x256)) (mulf (shapeCast S8x256 R shapeCasts_S1x8x256_S8x256) (logistic (shapeCast S8x256 R shapeCasts_S1x8x256_S8x256)))) bitsLt_bf16_f32) shapeCasts_S8x256_S1x8x256) (ix3 0 r j) = (kg (ko Q K V C S r) R G r j : EReal) :=
  (gate2 _ R G r j).trans (congrArg (fun o => kg o R G r j) (funext fun i => head2 Q K V C S r i))

/-- Head 2: its state after the chunk. -/
theorem state2 (K : FVec Ideal S1x8x128 .f32) (V : FVec Ideal S1x8x256 .f32) (C : FVec Ideal S8x128 .f32) (S : FVec Ideal S1x256x128 .f32) (x : Fin 128) (j : Fin 256) :
    (k0_pay80 (F := Ideal) (k0_pay57 (F := Ideal) (k0_pay45 K) (k0_pay46 V) C (k0_pay47 S) (k0_pay56 C))) (ix4 0 0 x j) = (kst K V C S x j : EReal) := by
  pointwise [k0_pay80, k0_pay57, k0_pay45, k0_pay46, k0_pay47, k0_pay56]
  rfl

/-- Head 3: its result before the gate. -/
theorem head3 (Q K : FVec Ideal S1x8x128 .f32) (V : FVec Ideal S1x8x256 .f32) (C : FVec Ideal S8x128 .f32) (S : FVec Ideal S1x256x128 .f32) (r : Fin 8) (j : Fin 256) :
    (k0_pay75 (F := Ideal) (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay71 (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay68 (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay64 (iota Kind.tc S8x1 32 [0] iota_S8x1_d0_w32) (shapeCast S8x128 Q shapeCasts_S1x8x128_S8x128) (FloatOps.ofBits .f32 0x3DB504F3#32) K V C S) (k0_pay65 C) (k0_pay66 (iota Kind.tc S8x1 32 [0] iota_S8x1_d0_w32)) k0_pay67) (k0_pay69 (iota Kind.tc S8x1 32 [0] iota_S8x1_d0_w32) (k0_pay60 (shapeCast S8x128 Q shapeCasts_S1x8x128_S8x128) (FloatOps.ofBits .f32 0x3DB504F3#32)) (k0_pay61 K) C) (k0_pay70 (k0_pay62 V))) (k0_pay72 C) (k0_pay73 (iota Kind.tc S8x1 32 [0] iota_S8x1_d0_w32)) k0_pay74) (ix2 r j) = (ko Q K V C S r j : EReal) := by
  pointwise [k0_pay60, k0_pay61, k0_pay62, k0_pay63, k0_pay64, k0_pay65, k0_pay66, k0_pay67, k0_pay68, k0_pay69, k0_pay70, k0_pay71, k0_pay72, k0_pay73, k0_pay74, k0_pay75]
  unfold ko kw
  have e (s : Fin 8) (a : EReal) : Scalar.select (IntOp.cmpi CmpIPredicate.sge (BitVec.ofNat 32 r.val) (BitVec.ofNat 32 s.val)) a (Named.named (F := Ideal) (φ := .f32) κ "mask" 0xF149F2CA#32 : EReal) = if s.val ≤ r.val then a else ⊥ := by
    rw [bit8, select_bit, mask_eq]
  simp only [← e]
  rfl

/-- Head 3: the gate over any result. -/
theorem gate3 (X : FVec Ideal S8x256 .f32) (R : FVec Ideal S1x8x256 .f32) (G : FVec Ideal S1x256 .f32) (r : Fin 8) (j : Fin 256) :
    (k0_pay77 (F := Ideal) X R G) (ix3 0 r j) = (kg (fun i => X (ix2 r i)) R G r j : EReal) := by
  pointwise [k0_pay77]
  rfl

/-- Head 3: its part of the output. -/
theorem out3 (Q K : FVec Ideal S1x8x128 .f32) (V R : FVec Ideal S1x8x256 .f32) (G : FVec Ideal S1x256 .f32) (C : FVec Ideal S8x128 .f32) (S : FVec Ideal S1x256x128 .f32) (r : Fin 8) (j : Fin 256) :
    (k0_pay77 (F := Ideal) (k0_pay75 (F := Ideal) (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay71 (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay68 (iota Kind.tc S8x1 32 [0] iota_S8x1_d0_w32) (k0_pay60 (shapeCast S8x128 Q shapeCasts_S1x8x128_S8x128) (FloatOps.ofBits .f32 0x3DB504F3#32)) (k0_pay61 K) (k0_pay62 V) C (k0_pay64 (iota Kind.tc S8x1 32 [0] iota_S8x1_d0_w32) (shapeCast S8x128 Q shapeCasts_S1x8x128_S8x128) (FloatOps.ofBits .f32 0x3DB504F3#32) K V C S) (k0_pay65 C) (k0_pay66 (iota Kind.tc S8x1 32 [0] iota_S8x1_d0_w32)) k0_pay67) (k0_pay69 (iota Kind.tc S8x1 32 [0] iota_S8x1_d0_w32) (k0_pay60 (shapeCast S8x128 Q shapeCasts_S1x8x128_S8x128) (FloatOps.ofBits .f32 0x3DB504F3#32)) (k0_pay61 K) C) (k0_pay70 (k0_pay62 V))) (k0_pay72 C) (k0_pay73 (iota Kind.tc S8x1 32 [0] iota_S8x1_d0_w32)) k0_pay74) R G) (ix3 0 r j) = (kg (ko Q K V C S r) R G r j : EReal) :=
  (gate3 _ R G r j).trans (congrArg (fun o => kg o R G r j) (funext fun i => head3 Q K V C S r i))

/-- Head 3: its state after the chunk. -/
theorem state3 (K : FVec Ideal S1x8x128 .f32) (V : FVec Ideal S1x8x256 .f32) (C : FVec Ideal S8x128 .f32) (S : FVec Ideal S1x256x128 .f32) (x : Fin 128) (j : Fin 256) :
    (k0_pay81 (F := Ideal) (k0_pay76 (F := Ideal) (k0_pay61 K) (k0_pay62 V) C (k0_pay63 S))) (ix4 0 0 x j) = (kst K V C S x j : EReal) := by
  pointwise [k0_pay81, k0_pay76, k0_pay61, k0_pay62, k0_pay63]
  rfl

/-- The gates of the eight rows, as the kernel makes them. -/
theorem gates_at (x : FVec Ideal S1x8x128 .f32) (w : FVec Ideal S128x512 .bf16) (b : FVec Ideal S1x512 .f32) (r : Fin 8) (j : Fin 512) :
    (k0_pay5 (F := Ideal) x w b (ix2 r j) : EReal) = Cert.GlaSRef.ls (∑ l : Fin 128, x (ix3 0 r l) * w (ix2 l j) + b (ix2 0 j)) := by
  pointwise [k0_pay5]
  rfl

/-- The place of a row in its block of eight is the row. -/
theorem place (n : Nat) (h : n < 8) : Scalar.select (IntOp.andi (IntOp.xori (IntOp.cmpi CmpIPredicate.slt (IntOp.remsi ArithUnit.vector (BitVec.ofNat 32 n) (Scalar.select (Scalar.cmpi CmpIPredicate.eq 8#32 0#32) 1#32 8#32)) 0#32) (Scalar.cmpi CmpIPredicate.slt (Scalar.select (Scalar.cmpi CmpIPredicate.eq 8#32 0#32) 1#32 8#32) 0#32)) (IntOp.cmpi CmpIPredicate.ne (IntOp.remsi ArithUnit.vector (BitVec.ofNat 32 n) (Scalar.select (Scalar.cmpi CmpIPredicate.eq 8#32 0#32) 1#32 8#32)) 0#32)) (IntOp.addi (IntOp.remsi ArithUnit.vector (BitVec.ofNat 32 n) (Scalar.select (Scalar.cmpi CmpIPredicate.eq 8#32 0#32) 1#32 8#32)) 8#32) (IntOp.remsi ArithUnit.vector (BitVec.ofNat 32 n) (Scalar.select (Scalar.cmpi CmpIPredicate.eq 8#32 0#32) 1#32 8#32)) = BitVec.ofNat 32 n := by
  interval_cases n <;> decide +kernel

/-- The bit that says that a row is before the fifth. -/
theorem below (n : Nat) (h : n < 8) : IntOp.cmpi CmpIPredicate.slt (BitVec.ofNat 32 n) 4#32 = if n < 4 then 1#1 else 0#1 := by
  interval_cases n <;> decide +kernel

/-- The bits that say that a row is past the first one, two, four. -/
theorem above1 (n : Nat) (h : n < 8) : IntOp.cmpi CmpIPredicate.sge (BitVec.ofNat 32 n) 1#32 = if 1 ≤ n then 1#1 else 0#1 := by
  interval_cases n <;> decide +kernel
/-- As above, for two. -/
theorem above2 (n : Nat) (h : n < 8) : IntOp.cmpi CmpIPredicate.sge (BitVec.ofNat 32 n) 2#32 = if 2 ≤ n then 1#1 else 0#1 := by
  interval_cases n <;> decide +kernel
/-- As above, for four. -/
theorem above4 (n : Nat) (h : n < 8) : IntOp.cmpi CmpIPredicate.sge (BitVec.ofNat 32 n) 4#32 = if 4 ≤ n then 1#1 else 0#1 := by
  interval_cases n <;> decide +kernel

set_option maxHeartbeats 4000000 in
/-- The kernel's running sums: over the first four rows alone. -/
theorem cum_at (A : FVec Ideal S8x512 .f32) (r : Fin 8) (j : Fin 512) :
    (k0_pay10 (F := Ideal) A 8#32 k0_pay6 k0_pay7 k0_pay8 k0_pay9 (ix2 r j) : EReal) = ∑ i : Fin 4, if i.val ≤ r.val then A (ix2 ⟨i.val, by omega⟩ j) else 0 := by
  pointwise [k0_pay10, k0_pay6, k0_pay7, k0_pay8, k0_pay9]
  have hr := r.isLt
  simp (disch := omega) only [place, below, above1, above2, above4, select_bit]
  obtain ⟨r, h⟩ := r
  interval_cases r <;> simp [Fin.sum_univ_four]

  all_goals abel

end Cert.GlaSHead

end
-- ==== Proof.GlaSBlk.lean ====
module

public import proofs.«01_k».proof.Defs
public import proofs.«01_k».proof.Proof.Gen.GlaSIdeal.Value
public import proofs.«01_k».proof.Proof.GlaSRef
public import proofs.«01_k».proof.Proof.GlaSHead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! A head's values in the kernel are those of the reference: the kernel works over eight rows of which the last four are zeros. -/
namespace Cert.GlaSMath

open Cert.GlaSIdeal Cert.GlaSHead Cert.GlaSRef

/-- A row of the block of eight: a token of the sample, or zeros. -/
def zp (z : FVec Ideal S8704x6144 .f32) (i : Fin 128) (r : Fin 8) (c : Fin 6144) : EReal :=
  if hr : r.val < 4 then z (ix2 ⟨8192 + (i.val * 4 + r.val), by omega⟩ c) else 0

variable (z : FVec Ideal S8704x6144 .f32) (s : FVec Ideal Cert.GlaSRefIdeal.S1x128x4x128x256 .f32) (w : FVec Ideal Cert.GlaSRefIdeal.S1x16x512 .f32) (b : FVec Ideal Cert.GlaSRefIdeal.S1x512 .f32) (g : FVec Ideal S1x256 .f32)
  (i : Fin 128) (h : Fin 4)
  {Q K : FVec Ideal S1x8x128 .f32} {V R : FVec Ideal S1x8x256 .f32} {G : FVec Ideal S1x256 .f32} {C : FVec Ideal S8x128 .f32} {S : FVec Ideal S1x256x128 .f32}
  (hQ : ∀ r x, Q (ix3 0 r x) = zp z i r ⟨h.val * 128 + x.val, by omega⟩)
  (hK : ∀ r x, K (ix3 0 r x) = zp z i r ⟨512 + (h.val * 128 + x.val), by omega⟩)
  (hV : ∀ r j, V (ix3 0 r j) = zp z i r ⟨1024 + (h.val * 256 + j.val), by omega⟩)
  (hR : ∀ r j, R (ix3 0 r j) = zp z i r ⟨2048 + (h.val * 256 + j.val), by omega⟩)
  (hG : ∀ j, G (ix2 0 j) = g (ix2 0 j))
  (hC : ∀ (r : Fin 8) x, C (ix2 r x) = ∑ k : Fin 4, if k.val ≤ r.val then gate z w b i k ⟨h.val * 128 + x.val, by omega⟩ else 0)
  (hS : ∀ x j, S (ix3 0 j x) = s (ix5 0 i h x j))

include hC in
/-- The kernel's running sum at a token is the reference's. -/
theorem sum_low (t : Fin 4) (x : Fin 128) : C (ix2 ⟨t.val, by omega⟩ x) = sums z w b (ix4 i t h x) := by
  rw [hC, sums_at]

include hC in
/-- The kernel's running sum at the last row is the reference's at the last token. -/
theorem sum_last (x : Fin 128) : C (ix2 7 x) = sums z w b (ix4 i 3 h x) := by
  rw [hC, sums_at]
  simp [Fin.sum_univ_four]

include hQ hK hC in
/-- The weight of a token's value in another's result. -/
theorem kw_low (t k : Fin 4) : kw Q K C ⟨t.val, by omega⟩ ⟨k.val, by omega⟩
    = ∑ x : Fin 128, qs z (ix4 i t h x) * ks z (ix4 i k h x) * Ideal.exp (if k.val ≤ t.val then sums z w b (ix4 i t h x) - sums z w b (ix4 i k h x) else ⊥) := by
  unfold kw
  refine Fin.sum_fin_congr fun x => ?_
  rw [hQ, hK, sum_low z w b i h hC, sum_low z w b i h hC, qs_at, ks_at]
  simp only [zp, t.isLt, k.isLt, dif_pos]

/-- A row past a token gives it nothing. -/
theorem kw_high (t : Fin 4) (r : Fin 8) (hr : 4 ≤ r.val) : kw Q K C ⟨t.val, by omega⟩ r = 0 := by
  unfold kw
  refine Finset.sum_eq_zero fun x _ => ?_
  rw [if_neg (by dsimp only; omega), Ideal.exp_bot, mul_zero]

include hQ hK hV hC hS in
/-- A head's result at a token, before the gate. -/
theorem ko_low (t : Fin 4) (j : Fin 256) : ko Q K V C S ⟨t.val, by omega⟩ j = mixed (old s) (qs z) (ks z) (sums z w b) (vs z) (ix4 i t h j) := by
  rw [mixed_at]
  have e (k : Fin 4) : kw Q K C ⟨t.val, by omega⟩ ⟨k.val, by omega⟩ * V (ix3 0 ⟨k.val, by omega⟩ j)
      = vs z (ix4 i k h j) * ∑ x : Fin 128, qs z (ix4 i t h x) * ks z (ix4 i k h x) * Ideal.exp (if k.val ≤ t.val then sums z w b (ix4 i t h x) - sums z w b (ix4 i k h x) else ⊥) := by
    rw [kw_low z w b i h hQ hK hC, hV, vs_at, mul_comm]
    simp only [zp, k.isLt, dif_pos]
  have e0 := e 0
  have e1 := e 1
  have e2 := e 2
  have e3 := e 3
  have f : ∑ x : Fin 128, Q (ix3 0 ⟨t.val, by omega⟩ x) * Ideal.ofBits .f32 0x3DB504F3#32 * Ideal.exp (C (ix2 ⟨t.val, by omega⟩ x)) * S (ix3 0 j x)
      = ∑ x : Fin 128, old s (ix4 i h x j) * (qs z (ix4 i t h x) * Ideal.exp (sums z w b (ix4 i t h x))) := by
    refine Fin.sum_fin_congr fun x => ?_
    rw [hQ, hS, sum_low z w b i h hC, old_at, qs_at, mul_comm]
    simp only [zp, t.isLt, dif_pos]
  unfold ko
  rw [kw_high t 4 (by decide), kw_high t 5 (by decide), kw_high t 6 (by decide), kw_high t 7 (by decide), f, Fin.sum_univ_four, ← e0, ← e1, ← e2, ← e3]
  simp only [zero_mul, add_zero, ← add_assoc]
  rfl

include hQ hK hV hC hS hR hG in
/-- A head's output at a token. -/
theorem kg_low (t : Fin 4) (j : Fin 256) : kg (ko Q K V C S ⟨t.val, by omega⟩) R G ⟨t.val, by omega⟩ j
    = gated (mixed (old s) (qs z) (ks z) (sums z w b) (vs z)) z g (ix4 i t h j) := by
  rw [gated_at]
  unfold kg
  simp only [ko_low z s w b i h hQ hK hV hC hS, hR, hG, zp, t.isLt, dif_pos]

include hR in
/-- The output past the tokens is zero. -/
theorem kg_high (o : Fin 256 → EReal) (r : Fin 8) (hr : ¬ r.val < 4) (j : Fin 256) : kg o R G r j = 0 := by
  unfold kg
  rw [hR]
  unfold zp
  rw [dif_neg hr, zero_mul, mul_zero]

include hK hV hC hS in
/-- A head's state after the chunk. -/
theorem kst_eq (x : Fin 128) (j : Fin 256) : kst K V C S x j = after (old s) (ks z) (sums z w b) (vs z) (ix4 i h x j) := by
  rw [after_at]
  have e (k : Fin 4) : V (ix3 0 ⟨k.val, by omega⟩ j) * (K (ix3 0 ⟨k.val, by omega⟩ x) * Ideal.exp (C (ix2 7 x) - C (ix2 ⟨k.val, by omega⟩ x)))
      = ks z (ix4 i k h x) * Ideal.exp (sums z w b (ix4 i 3 h x) - sums z w b (ix4 i k h x)) * vs z (ix4 i k h j) := by
    rw [hV, hK, sum_last z w b i h hC, sum_low z w b i h hC, ks_at, vs_at, mul_comm]
    simp only [zp, k.isLt, dif_pos]
  have n (r : Fin 8) (hr : ¬ r.val < 4) : V (ix3 0 r j) * (K (ix3 0 r x) * Ideal.exp (C (ix2 7 x) - C (ix2 r x))) = 0 := by
    rw [hV]
    unfold zp
    rw [dif_neg hr, zero_mul]
  have e0 := e 0
  have e1 := e 1
  have e2 := e 2
  have e3 := e 3
  unfold kst
  rw [Fin.sum_univ_eight, n 4 (by decide), n 5 (by decide), n 6 (by decide), n 7 (by decide), Fin.sum_univ_four, ← e0, ← e1, ← e2, ← e3, hS, sum_last z w b i h hC, old_at, mul_comm]
  simp only [add_zero]
  rfl

end Cert.GlaSMath

namespace Cert.GlaSAlg

open Cert.GlaSIdeal Cert.GlaSIdeal.Gen Cert.GlaSMath

variable (m : (ℓ : Loc nD τ sig) → Buf (Elt Ideal) ℓ)

/-- Every window's block index at every grid point. -/
theorem idx : ∀ t : Fin cfg0.N, win0_0.index t = ![t.val, 0, 0]
    ∧ win0_1.index t = ![t.val, 0, 1]
    ∧ win0_2.index t = ![t.val, 0, 1]
    ∧ win0_3.index t = ![t.val, 0, 2]
    ∧ win0_4.index t = ![t.val, 0, 44]
    ∧ win0_5.index t = ![0, 0]
    ∧ win0_6.index t = ![0, 0]
    ∧ win0_7.index t = ![0, 0]
    ∧ win0_8.index t = ![t.val, 0, 0, 0]
    ∧ win0_9.index t = ![t.val, 0, 0]
    ∧ win0_10.index t = ![t.val, 0, 0, 0] :=
  (by decide +kernel : ∀ t : Fin grid0.N, _)

/-- The padding's value is zero. -/
theorem pad_zero : FloatOps.sitofp (F := Ideal) .f32 0#32 = (0 : EReal) := by
  show (((0#32 : BitVec 32).toInt : ℝ) : EReal) = 0
  simp

/-- The padded rows. -/
theorem rows_at (c : Dev nD) (i : Fin 128) (r : Fin 8) (k : Fin 6144) : V (F := Ideal) m c main_v2 (ix3 i r k) = zp (m ((c : Thread nD τ).loc main_arg0)) i r k := by
  have e : V (F := Ideal) m c main_v2 = pad S128x8x6144 ![0, 0, 0] ![0, 4, 0] ![0, 0, 0] (shapeCast _ (extractStridedSlice S512x6144 ![8192, 0] (m ((c : Thread nD τ).loc main_arg0)) slices_S8704x6144_S512x6144_8192_0) shapeCasts_S512x6144_S128x4x6144) (sitofp (F := Ideal) .f32 (constantI S_ 32 0#32)) pads_S128x4x6144_S128x8x6144_000_040_000 h_S_ := rfl
  rw [e]
  pointwise
  unfold zp
  rw [pad_zero]

/-- The padded second factor of the gate. -/
theorem w2_at (c : Dev nD) (l : Fin 128) (k : Fin 512) : V (F := Ideal) m c main_v5 (ix2 l k) = if h : l.val < 16 then m ((c : Thread nD τ).loc main_arg2) (ix3 0 ⟨l.val, h⟩ k) else (0 : EReal) := by
  have e : V (F := Ideal) m c main_v5 = truncf .bf16 (pad S128x512 ![0, 0] ![112, 0] ![0, 0] (shapeCast _ (m ((c : Thread nD τ).loc main_arg2)) shapeCasts_S1x16x512_S16x512) (sitofp (F := Ideal) .f32 (constantI S_ 32 0#32)) pads_S16x512_S128x512_01120_000 h_S_) bitsLt_bf16_f32 := rfl
  rw [e]
  pointwise
  rw [pad_zero]

/-- The gate's bias. -/
theorem b_at (c : Dev nD) (k : Fin 512) : V (F := Ideal) m c main_v9 (ix2 0 k) = m ((c : Thread nD τ).loc main_arg3) (ix2 0 k) := by
  have e : V (F := Ideal) m c main_v9 = shapeCast S1x512 (shapeCast S512 (m ((c : Thread nD τ).loc main_arg3)) shapeCasts_S1x512_S512) shapeCasts_S512_S1x512 := rfl
  rw [e]
  pointwise

/-- The scale of the result. -/
theorem g_at (c : Dev nD) (k : Fin 256) : V (F := Ideal) m c main_v10 (ix2 0 k) = m ((c : Thread nD τ).loc main_arg4) (ix2 0 k) := by
  have e : V (F := Ideal) m c main_v10 = shapeCast S1x256 (shapeCast S256 (m ((c : Thread nD τ).loc main_arg4)) shapeCasts_S1x256_S256) shapeCasts_S256_S1x256 := rfl
  rw [e]
  pointwise

/-- The states. -/
theorem s_at (c : Dev nD) (i : Fin 128) (h : Fin 4) (x : Fin 128) (j : Fin 256) : V (F := Ideal) m c main_v6 (ix4 i h x j) = m ((c : Thread nD τ).loc main_arg1) (ix5 0 i h x j) := by
  have e : V (F := Ideal) m c main_v6 = shapeCast S128x4x128x256 (m ((c : Thread nD τ).loc main_arg1)) shapeCasts_S1x128x4x128x256_S128x4x128x256 := rfl
  rw [e]
  exact Cert.GlaSRef.old_at _ i h x j

/-- The sample of a grid point. -/
abbrev smp (t : Fin cfg0.N) : Fin 128 := ⟨t.val, t.isLt⟩

/-- The block of the queries. -/
theorem blk0 (c : Dev nD) (t : Fin cfg0.N) (r : Fin 8) (k : Fin 512) : iblk m c 0 t (ix3 0 r k) = zp (m ((c : Thread nD τ).loc main_arg0)) (smp t) r ⟨k.val, by omega⟩ := by
  rw [← rows_at]
  unfold iblk; rw [View.read_apply]; exact congrArg (V (F := Ideal) m c main_v2) (by blk_ext [idx t])

/-- The block of the keys. -/
theorem blk1 (c : Dev nD) (t : Fin cfg0.N) (r : Fin 8) (k : Fin 512) : iblk m c 1 t (ix3 0 r k) = zp (m ((c : Thread nD τ).loc main_arg0)) (smp t) r ⟨512 + k.val, by omega⟩ := by
  rw [← rows_at]
  unfold iblk; rw [View.read_apply]; exact congrArg (V (F := Ideal) m c main_v2) (by blk_ext [idx t])

/-- The block of the values. -/
theorem blk2 (c : Dev nD) (t : Fin cfg0.N) (r : Fin 8) (k : Fin 1024) : iblk m c 2 t (ix3 0 r k) = zp (m ((c : Thread nD τ).loc main_arg0)) (smp t) r ⟨1024 + k.val, by omega⟩ := by
  rw [← rows_at]
  unfold iblk; rw [View.read_apply]; exact congrArg (V (F := Ideal) m c main_v2) (by blk_ext [idx t])

/-- The block of the output's gate. -/
theorem blk3 (c : Dev nD) (t : Fin cfg0.N) (r : Fin 8) (k : Fin 1024) : iblk m c 3 t (ix3 0 r k) = zp (m ((c : Thread nD τ).loc main_arg0)) (smp t) r ⟨2048 + k.val, by omega⟩ := by
  rw [← rows_at]
  unfold iblk; rw [View.read_apply]; exact congrArg (V (F := Ideal) m c main_v2) (by blk_ext [idx t])

/-- The block of the gates' first factor. -/
theorem blk4 (c : Dev nD) (t : Fin cfg0.N) (r : Fin 8) (k : Fin 128) : iblk m c 4 t (ix3 0 r k) = zp (m ((c : Thread nD τ).loc main_arg0)) (smp t) r ⟨5632 + k.val, by omega⟩ := by
  rw [← rows_at]
  unfold iblk; rw [View.read_apply]; exact congrArg (V (F := Ideal) m c main_v2) (by blk_ext [idx t])

/-- The block of the gates' second factor. -/
theorem blk5 (c : Dev nD) (t : Fin cfg0.N) (l : Fin 128) (k : Fin 512) : iblk m c 5 t (ix2 l k) = if h : l.val < 16 then m ((c : Thread nD τ).loc main_arg2) (ix3 0 ⟨l.val, h⟩ k) else (0 : EReal) := by
  rw [← w2_at]
  unfold iblk; rw [View.read_apply]; exact congrArg (V (F := Ideal) m c main_v5) (by blk_ext [idx t])

/-- The block of the gates' bias. -/
theorem blk6 (c : Dev nD) (t : Fin cfg0.N) (k : Fin 512) : iblk m c 6 t (ix2 0 k) = m ((c : Thread nD τ).loc main_arg3) (ix2 0 k) := by
  rw [← b_at m c k]
  unfold iblk; rw [View.read_apply]; exact congrArg (V (F := Ideal) m c main_v9) (by blk_ext [idx t])

/-- The block of the result's scale. -/
theorem blk7 (c : Dev nD) (t : Fin cfg0.N) (k : Fin 256) : iblk m c 7 t (ix2 0 k) = m ((c : Thread nD τ).loc main_arg4) (ix2 0 k) := by
  rw [← g_at m c k]
  unfold iblk; rw [View.read_apply]; exact congrArg (V (F := Ideal) m c main_v10) (by blk_ext [idx t])

/-- The block of the states. -/
theorem blk8 (c : Dev nD) (t : Fin cfg0.N) (h : Fin 4) (x : Fin 128) (j : Fin 256) : iblk m c 8 t (ix4 0 h x j) = m ((c : Thread nD τ).loc main_arg1) (ix5 0 (smp t) h x j) := by
  rw [← s_at m c (smp t) h x j]
  unfold iblk; rw [View.read_apply]; exact congrArg (V (F := Ideal) m c main_v6) (by blk_ext [idx t])

/-- A head's part of a block of 512 columns. -/
theorem ld512 (X : S1x8x512.Idx → Elt Ideal .f32) (o : Fin 3 → ℕ) (hb) (h : Fin 4) (ho : o = ![0, 0, 128 * h.val]) (r : Fin 8) (x : Fin 128) :
    View.ld (Val := Elt Ideal) X (Rect.unit o ![1, 8, 128] hb) (ix3 0 r x) = X (ix3 0 r ⟨h.val * 128 + x.val, by omega⟩) := by
  subst ho
  refine congrArg X (funext fun a => Fin.ext ((Rect.idx_unit_val _ _ _ _ a).trans ?_))
  fin_cases a <;> simp [ix2, ix3, ix4] <;> omega

/-- A head's part of a block of 1024 columns. -/
theorem ld1024 (X : S1x8x1024.Idx → Elt Ideal .f32) (o : Fin 3 → ℕ) (hb) (h : Fin 4) (ho : o = ![0, 0, 256 * h.val]) (r : Fin 8) (j : Fin 256) :
    View.ld (Val := Elt Ideal) X (Rect.unit o ![1, 8, 256] hb) (ix3 0 r j) = X (ix3 0 r ⟨h.val * 256 + j.val, by omega⟩) := by
  subst ho
  refine congrArg X (funext fun a => Fin.ext ((Rect.idx_unit_val _ _ _ _ a).trans ?_))
  fin_cases a <;> simp [ix2, ix3, ix4] <;> omega

/-- A head's part of the running sums. -/
theorem ldc (X : S8x512.Idx → Elt Ideal .f32) (o : Fin 2 → ℕ) (hb) (h : Fin 4) (ho : o = ![0, 128 * h.val]) (r : Fin 8) (x : Fin 128) :
    View.ld (Val := Elt Ideal) X (Rect.unit o ![8, 128] hb) (ix2 r x) = X (ix2 r ⟨h.val * 128 + x.val, by omega⟩) := by
  subst ho
  refine congrArg X (funext fun a => Fin.ext ((Rect.idx_unit_val _ _ _ _ a).trans ?_))
  fin_cases a <;> simp [ix2, ix3, ix4] <;> omega

/-- A head's part of the states. -/
theorem lds (X : S1x4x128x256.Idx → Elt Ideal .f32) (h : Fin 4) (hb : ∀ a : Fin 4, (![0, h.val, 0, 0] : Fin 4 → ℕ) a + (![1, 1, 128, 256] : Fin 4 → ℕ) a ≤ S1x4x128x256.size a) (x : Fin 128) (j : Fin 256) :
    View.ld (Val := Elt Ideal) X (Rect.unit ![0, h.val, 0, 0] ![1, 1, 128, 256] hb) (ix4 0 0 x j) = X (ix4 0 h x j) := by
  refine congrArg X (funext fun a => Fin.ext ((Rect.idx_unit_val _ _ _ _ a).trans ?_))
  fin_cases a <;> simp [ix2, ix3, ix4] <;> omega

/-- The running sums of the kernel. -/
def cums (c : Dev nD) (t : Fin cfg0.N) : FVec Ideal S8x512 .f32 :=
  k0_pay10 (F := Ideal) (k0_pay5 (F := Ideal) (iblk m c 4 t) (iblk m c 5 t) (iblk m c 6 t)) 8#32 k0_pay6 k0_pay7 k0_pay8 k0_pay9

/-- The running sums are those of the gates. -/
theorem cums_at (c : Dev nD) (t : Fin cfg0.N) (r : Fin 8) (k : Fin 512) : cums m c t (ix2 r k)
    = ∑ i : Fin 4, if i.val ≤ r.val then Cert.GlaSRef.gate (m ((c : Thread nD τ).loc main_arg0)) (m ((c : Thread nD τ).loc main_arg2)) (m ((c : Thread nD τ).loc main_arg3)) (smp t) i k else 0 := by
  unfold cums
  rw [Cert.GlaSHead.cum_at]
  refine Fin.sum_fin_congr fun i => ?_
  refine congrArg (fun a => if i.val ≤ r.val then a else (0 : EReal)) ?_
  rw [Cert.GlaSHead.gates_at]
  unfold Cert.GlaSRef.gate
  refine congrArg Cert.GlaSRef.ls ?_
  rw [blk6]
  refine Ideal.add_congr ?_ rfl
  refine (Fin.sum_univ_add (a := 16) (b := 112) _).trans ?_
  refine (Ideal.add_congr (Fin.sum_fin_congr fun x => ?_) (Finset.sum_eq_zero fun x _ => ?_)).trans (add_zero _)
  · rw [blk4, blk5]
    unfold zp
    rw [dif_pos i.isLt]
    exact Ideal.mul_congr rfl (dif_pos x.isLt)
  · rw [blk5, dif_neg (by simp), mul_zero]

/-- A head's queries. -/
theorem gQ (c : Dev nD) (t : Fin cfg0.N) (o : Fin 3 → ℕ) (hb) (h : Fin 4) (ho : o = ![0, 0, 128 * h.val]) (r : Fin 8) (x : Fin 128) :
    View.ld (Val := Elt Ideal) (iblk m c 0 t) (Rect.unit o ![1, 8, 128] hb) (ix3 0 r x) = zp (m ((c : Thread nD τ).loc main_arg0)) (smp t) r ⟨h.val * 128 + x.val, by omega⟩ :=
  (ld512 _ o hb h ho r x).trans (blk0 m c t r _)

/-- A head's keys. -/
theorem gK (c : Dev nD) (t : Fin cfg0.N) (o : Fin 3 → ℕ) (hb) (h : Fin 4) (ho : o = ![0, 0, 128 * h.val]) (r : Fin 8) (x : Fin 128) :
    View.ld (Val := Elt Ideal) (iblk m c 1 t) (Rect.unit o ![1, 8, 128] hb) (ix3 0 r x) = zp (m ((c : Thread nD τ).loc main_arg0)) (smp t) r ⟨512 + (h.val * 128 + x.val), by omega⟩ :=
  (ld512 _ o hb h ho r x).trans (blk1 m c t r _)

/-- A head's values. -/
theorem gV (c : Dev nD) (t : Fin cfg0.N) (o : Fin 3 → ℕ) (hb) (h : Fin 4) (ho : o = ![0, 0, 256 * h.val]) (r : Fin 8) (j : Fin 256) :
    View.ld (Val := Elt Ideal) (iblk m c 2 t) (Rect.unit o ![1, 8, 256] hb) (ix3 0 r j) = zp (m ((c : Thread nD τ).loc main_arg0)) (smp t) r ⟨1024 + (h.val * 256 + j.val), by omega⟩ :=
  (ld1024 _ o hb h ho r j).trans (blk2 m c t r _)

/-- A head's part of the output's gate. -/
theorem gR (c : Dev nD) (t : Fin cfg0.N) (o : Fin 3 → ℕ) (hb) (h : Fin 4) (ho : o = ![0, 0, 256 * h.val]) (r : Fin 8) (j : Fin 256) :
    View.ld (Val := Elt Ideal) (iblk m c 3 t) (Rect.unit o ![1, 8, 256] hb) (ix3 0 r j) = zp (m ((c : Thread nD τ).loc main_arg0)) (smp t) r ⟨2048 + (h.val * 256 + j.val), by omega⟩ :=
  (ld1024 _ o hb h ho r j).trans (blk3 m c t r _)

/-- A head's running sums. -/
theorem gC (c : Dev nD) (t : Fin cfg0.N) (o : Fin 2 → ℕ) (hb) (h : Fin 4) (ho : o = ![0, 128 * h.val]) (r : Fin 8) (x : Fin 128) :
    View.ld (Val := Elt Ideal) (S := S8x512) (e' := .f32) (cums m c t) (Rect.unit o ![8, 128] hb) (ix2 r x) = ∑ k : Fin 4, if k.val ≤ r.val then Cert.GlaSRef.gate (m ((c : Thread nD τ).loc main_arg0)) (m ((c : Thread nD τ).loc main_arg2)) (m ((c : Thread nD τ).loc main_arg3)) (smp t) k ⟨h.val * 128 + x.val, by omega⟩ else 0 :=
  (ldc _ o hb h ho r x).trans (cums_at m c t r _)

/-- A head's state, turned. -/
theorem gS (c : Dev nD) (t : Fin cfg0.N) (h : Fin 4) (hb) (x : Fin 128) (j : Fin 256) :
    k0_pay1 (F := Ideal) (View.ld (Val := Elt Ideal) (iblk m c 8 t) (Rect.unit (s := S1x4x128x256) ![0, h.val, 0, 0] ![1, 1, 128, 256] hb)) (ix3 0 j x) = m ((c : Thread nD τ).loc main_arg1) (ix5 0 (smp t) h x j) := by
  have e (X : FVec Ideal S1x1x128x256 .f32) : (k0_pay1 (F := Ideal) X (ix3 0 j x) : EReal) = X (ix4 0 0 x j) := by
    pointwise [k0_pay1]
  exact (e _).trans ((lds _ h hb x j).trans (blk8 m c t h x j))

/-- A state of a head after the chunk is the reference's. -/
theorem st (c : Dev nD) (t : Fin cfg0.N) (h : Fin 4) (o1 o2 : Fin 3 → ℕ) (o3 : Fin 2 → ℕ) (h1 : o1 = ![0, 0, 128 * h.val]) (h2 : o2 = ![0, 0, 256 * h.val]) (h3 : o3 = ![0, 128 * h.val]) (b1 b2 b3 b4) (x : Fin 128) (j : Fin 256) :
    Cert.GlaSHead.kst (View.ld (Val := Elt Ideal) (iblk m c 1 t) (Rect.unit o1 ![1, 8, 128] b1)) (View.ld (Val := Elt Ideal) (iblk m c 2 t) (Rect.unit o2 ![1, 8, 256] b2)) (View.ld (Val := Elt Ideal) (S := S8x512) (e' := .f32) (cums m c t) (Rect.unit o3 ![8, 128] b3))
      (k0_pay1 (F := Ideal) (View.ld (Val := Elt Ideal) (iblk m c 8 t) (Rect.unit (s := S1x4x128x256) ![0, h.val, 0, 0] ![1, 1, 128, 256] b4))) x j
      = Cert.GlaSRef.res' (m ((c : Thread nD τ).loc main_arg0)) (m ((c : Thread nD τ).loc main_arg1)) (m ((c : Thread nD τ).loc main_arg2)) (m ((c : Thread nD τ).loc main_arg3)) (ix4 (smp t) h x j) :=
  kst_eq _ _ _ _ (smp t) h (gK m c t o1 b1 h h1) (gV m c t o2 b2 h h2) (gC m c t o3 b3 h h3) (gS m c t h b4) x j

/-- An output of a head is the reference's. -/
theorem out (c : Dev nD) (t : Fin cfg0.N) (h : Fin 4) (o1 o2 : Fin 3 → ℕ) (o3 : Fin 2 → ℕ) (h1 : o1 = ![0, 0, 128 * h.val]) (h2 : o2 = ![0, 0, 256 * h.val]) (h3 : o3 = ![0, 128 * h.val]) (b0 b1 b2 b3 b4 b5) (r : Fin 8) (j : Fin 256) :
    Cert.GlaSHead.kg (Cert.GlaSHead.ko (View.ld (Val := Elt Ideal) (iblk m c 0 t) (Rect.unit o1 ![1, 8, 128] b0)) (View.ld (Val := Elt Ideal) (iblk m c 1 t) (Rect.unit o1 ![1, 8, 128] b1)) (View.ld (Val := Elt Ideal) (iblk m c 2 t) (Rect.unit o2 ![1, 8, 256] b2)) (View.ld (Val := Elt Ideal) (S := S8x512) (e' := .f32) (cums m c t) (Rect.unit o3 ![8, 128] b3))
      (k0_pay1 (F := Ideal) (View.ld (Val := Elt Ideal) (iblk m c 8 t) (Rect.unit (s := S1x4x128x256) ![0, h.val, 0, 0] ![1, 1, 128, 256] b4))) r) (View.ld (Val := Elt Ideal) (iblk m c 3 t) (Rect.unit o2 ![1, 8, 256] b5)) (iblk m c 7 t) r j
      = Cert.GlaSRef.res (m ((c : Thread nD τ).loc main_arg0)) (m ((c : Thread nD τ).loc main_arg1)) (m ((c : Thread nD τ).loc main_arg2)) (m ((c : Thread nD τ).loc main_arg3)) (m ((c : Thread nD τ).loc main_arg4)) (ix3 (smp t) r ⟨h.val * 256 + j.val, by omega⟩) := by
  rw [Cert.GlaSRef.res_at]
  by_cases hr : r.val < 4
  · rw [dif_pos hr]
    refine (kg_low _ _ _ _ _ (smp t) h (gQ m c t o1 b0 h h1) (gK m c t o1 b1 h h1) (gV m c t o2 b2 h h2) (gR m c t o2 b5 h h2) (blk7 m c t) (gC m c t o3 b3 h h3) (gS m c t h b4) ⟨r.val, hr⟩ j).trans ?_
    refine congrArg _ ?_
    have e1 : h = ⟨(h.val * 256 + j.val) / 256, by omega⟩ := Fin.ext (by dsimp only; omega)
    have e2 : j = ⟨(h.val * 256 + j.val) % 256, by omega⟩ := Fin.ext (by dsimp only; omega)
    exact congrArg₂ (fun (a : Fin 4) (b : Fin 256) => ix4 (smp t) (⟨r.val, hr⟩ : Fin 4) a b) e1 e2
  · rw [dif_neg hr]
    exact kg_high _ (smp t) h (gR m c t o2 b5 h h2) _ r hr j

end Cert.GlaSAlg

end
-- ==== Proof.GlaSAlg.lean ====
module

public import proofs.«01_k».proof.Defs
public import proofs.«01_k».proof.Proof.Gen.GlaSIdeal.Value
public import proofs.«01_k».proof.Proof.GlaSBlk
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaSAlg

open Cert.GlaSIdeal Cert.GlaSIdeal.Gen

variable (m : (ℓ : Loc nD τ sig) → Buf (Elt Ideal) ℓ)

set_option maxHeartbeats 4000000 in
/-- The states after the run. -/
theorem final10 (c : Dev nD) : (dats m 0 c).arrAt 10 (cfgs 0).N = Cert.GlaSRef.res' (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]; unfold outsAt0; frame_open
  simp (disch := decide) only [↓ View.readCov_skip, ↓ View.readCov_cons_toLoadRect, ↓ View.readCov_fill]
  frame_out
  have he : ((cfg0.win 10).blk t).view.emb y = ix4 (smp t) (y 1) (y 2) (y 3) := by
    idx_vars y
    blk_ext [idx t]
  rw [he]
  canon_tiles y h
  · have hy : y = ix4 0 0 (y 2) (y 3) := by
      idx_vars y
      blk_ext
    rw [hy]
    refine (Cert.GlaSHead.state3 _ _ _ _ _ _).trans ((st m c t 3 k0_off10 k0_off11 k0_off12 rfl rfl rfl _ _ _ _ _ _).trans (congrArg _ ?_))
    refine funext fun a => Fin.ext ?_
    fin_cases a <;> simp [ix4] <;> omega
  · have hy : y = ix4 0 0 (y 2) (y 3) := by
      idx_vars y
      blk_ext
    rw [hy]
    refine (Cert.GlaSHead.state2 _ _ _ _ _ _).trans ((st m c t 2 k0_off7 k0_off8 k0_off9 rfl rfl rfl _ _ _ _ _ _).trans (congrArg _ ?_))
    refine funext fun a => Fin.ext ?_
    fin_cases a <;> simp [ix4] <;> omega
  · have hy : y = ix4 0 0 (y 2) (y 3) := by
      idx_vars y
      blk_ext
    rw [hy]
    refine (Cert.GlaSHead.state1 _ _ _ _ _ _).trans ((st m c t 1 k0_off4 k0_off5 k0_off6 rfl rfl rfl _ _ _ _ _ _).trans (congrArg _ ?_))
    refine funext fun a => Fin.ext ?_
    fin_cases a <;> simp [ix4] <;> omega
  · have hy : y = ix4 0 0 (y 2) (y 3) := by
      idx_vars y
      blk_ext
    rw [hy]
    refine (Cert.GlaSHead.state0 _ _ _ _ _ _).trans ((st m c t 0 k0_off1 k0_off2 k0_off3 rfl rfl rfl _ _ _ _ _ _).trans (congrArg _ ?_))
    refine funext fun a => Fin.ext ?_
    fin_cases a <;> simp [ix4] <;> omega

set_option maxHeartbeats 4000000 in
/-- The outputs after the run. -/
theorem final9 (c : Dev nD) : (dats m 0 c).arrAt 9 (cfgs 0).N = Cert.GlaSRef.res (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]; unfold outsAt0; frame_open
  simp (disch := decide) only [↓ View.readCov_skip, ↓ View.readCov_cons_toLoadRect, ↓ View.readCov_fill]
  frame_out
  have he : ((cfg0.win 9).blk t).view.emb y = ix3 (smp t) (y 1) (y 2) := by
    idx_vars y
    blk_ext [idx t]
  rw [he]
  canon_tiles y h
  · have hy : y = ix3 0 (y 1) (y 2) := by
      idx_vars y
      blk_ext
    rw [hy]
    refine (Cert.GlaSHead.out3 _ _ _ _ _ _ _ _ _).trans ((out m c t 3 k0_off10 k0_off11 k0_off12 rfl rfl rfl _ _ _ _ _ _ _ _).trans (congrArg _ ?_))
    have q1 : k0_off11 1 = 0 := rfl
    have q2 : k0_off11 2 = 768 := rfl
    refine funext fun a => Fin.ext ?_
    fin_cases a <;> simp [ix3] <;> omega
  · have hy : y = ix3 0 (y 1) (y 2) := by
      idx_vars y
      blk_ext
    rw [hy]
    refine (Cert.GlaSHead.out2 _ _ _ _ _ _ _ _ _).trans ((out m c t 2 k0_off7 k0_off8 k0_off9 rfl rfl rfl _ _ _ _ _ _ _ _).trans (congrArg _ ?_))
    have q1 : k0_off8 1 = 0 := rfl
    have q2 : k0_off8 2 = 512 := rfl
    refine funext fun a => Fin.ext ?_
    fin_cases a <;> simp [ix3] <;> omega
  · have hy : y = ix3 0 (y 1) (y 2) := by
      idx_vars y
      blk_ext
    rw [hy]
    refine (Cert.GlaSHead.out1 _ _ _ _ _ _ _ _ _).trans ((out m c t 1 k0_off4 k0_off5 k0_off6 rfl rfl rfl _ _ _ _ _ _ _ _).trans (congrArg _ ?_))
    have q1 : k0_off5 1 = 0 := rfl
    have q2 : k0_off5 2 = 256 := rfl
    refine funext fun a => Fin.ext ?_
    fin_cases a <;> simp [ix3] <;> omega
  · have hy : y = ix3 0 (y 1) (y 2) := by
      idx_vars y
      blk_ext
    rw [hy]
    refine (Cert.GlaSHead.out0 _ _ _ _ _ _ _ _ _).trans ((out m c t 0 k0_off1 k0_off2 k0_off3 rfl rfl rfl _ _ _ _ _ _ _ _).trans (congrArg _ ?_))
    have q1 : k0_off2 1 = 0 := rfl
    have q2 : k0_off2 2 = 0 := rfl
    refine funext fun a => Fin.ext ?_
    fin_cases a <;> simp [ix3] <;> omega

/-- The claim. -/
theorem algebraic : Cert.algebraic_GlaSIdeal_GlaSRefIdeal := by
  pair_intro
  · run_from Cert.GlaSIdeal.Value.run_blocks m g
  · run_from Cert.GlaSRefIdeal.Value.run m' g'
    · rw [Cert.GlaSRef.ref_res, (hagree c).1, (hagree c).2.1, (hagree c).2.2.1,
        (hagree c).2.2.2.1, (hagree c).2.2.2.2]
      exact (final9 m c).symm
    · rw [Cert.GlaSRef.ref_state, (hagree c).1, (hagree c).2.1, (hagree c).2.2.1,
        (hagree c).2.2.2.1]
      exact (final10 m c).symm

end Cert.GlaSAlg

end
-- ==== Proof.FfnUpAlg.lean ====
/- The feed-forward up projection behind its root-mean-square norm: the scratch holds the normed rows through a row tile's
   column tiles, so the call is the reference's one contraction of the normed rows, on the extended reals. -/
module

public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pointwise
public import Idealize.ShloMosaic.Lib.Claim
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnUpAlg

section reference
open Cert.FfnUpRefIdeal Cert.FfnUpRefIdeal.Gen

/-- The normed rows, of the reference. -/
def normed (x : FVec Ideal S8704x2048 .f32) (g : FVec Ideal S2048 .f32) : FVec Ideal S8704x2048 .f32 :=
  mulf (mulf x (broadcastInDim S8704x2048 ![0, 1] bcast_S8704x1_S8704x2048_0_1 (Host.rsqrt (addf (Host.divf
    (broadcastInDim S8704x1 ![0] bcast_S8704_S8704x1_0 (Host.reduceAdd (mulf x x) (constant S_ .f32 0x00000000#32)
      reducesTo_S8704x2048_S8704_d1 h_S_))
    (broadcastInDim S8704x1 ![] bcast_S_S8704x1 (constant S_ .f32 0x45000000#32)))
    (broadcastInDim S8704x1 ![] bcast_S_S8704x1 (constant S_ .f32 0x358637BD#32))))))
    (broadcastInDim S8704x2048 ![0, 1] bcast_S1x2048_S8704x2048_0_1 (broadcastInDim S1x2048 ![1] bcast_S2048_S1x2048_1 g))

/-- The reference's result over its three arguments. -/
def res (x : FVec Ideal S8704x2048 .f32) (g : FVec Ideal S2048 .f32) (w : FVec Ideal S2048x11264 .f32) : FVec Ideal S8704x11264 .f32 :=
  Host.dotGeneral dot_S8704x2048_S2048x11264_S8704x11264_1_0_0_1_n_n none (normed x g) w

/-- The result at an index is the contraction of a normed row with a column. -/
theorem res_apply (x g w) (i : S8704x11264.Idx) : res x g w i = ∑ k : Fin 2048, normed x g (ix2 (i 0) k) * w (ix2 k (i 1)) := by
  pointwise [res]

end reference

open Cert.FfnUpIdeal Cert.FfnUpIdeal.Gen

variable (m : (ℓ : Loc nD τ sig) → Buf (Elt Ideal) ℓ)

/-- Every window's block index at every grid point. -/
theorem idx : ∀ t : Fin cfg0.N, win0_0.index t = ![t.val / 11, 0]
    ∧ win0_1.index t = ![0, 0]
    ∧ win0_2.index t = ![0, t.val % 11]
    ∧ win0_3.index t = ![t.val / 11, t.val % 11] :=
  (by decide +kernel : ∀ t : Fin grid0.N, _)

/-- The stored product: a contraction of a scratch row with a weight column. -/
theorem pay_dot (a b j) : k0_pay2 (F := Ideal) a b j = ∑ k : Fin 2048, a (ix2 (j 0) k) * b (ix2 k (j 1)) := by
  pointwise [k0_pay2]

/-- The scratch after point `t` holds what the first point of its row tile wrote. -/
theorem held (c : Dev nD) (t : Fin cfg0.N) (i) : (outsAt0 m c t.val t.isLt).2 i
    = k0_pay1 (F := Ideal) (iblk m c 0 ⟨11 * (t.val / 11), Pipeline.run_start_lt t⟩) (iblk m c 1 ⟨11 * (t.val / 11), Pipeline.run_start_lt t⟩) i :=
  Pipeline.eq_of_write_hold_apply (fun n h => (outsAt0 m c n h).2) 11 (fun t => k0_pay1 (F := Ideal) (iblk m c 0 t) (iblk m c 1 t))
    (fun t h i => by rw [outsAt0_A m c t h]; frame_out)
    (fun t h i => by rw [outsAt0_B m c t h]; rfl)
    t i

/-- The output block after point `t`: the product of the held scratch and the point's weight block. -/
theorem block (c : Dev nD) (t : Fin cfg0.N) (i) : (outsAt0 m c t.val t.isLt).1 i
    = k0_pay2 (F := Ideal) (outsAt0 m c t.val t.isLt).2 (iblk m c 2 t) i := by
  by_cases h : t.val % 11 = 0
  · rw [outsAt0_A m c t h]
    frame_out
  · rw [outsAt0_B m c t h]
    frame_out
    exact congrArg (fun s => k0_pay2 (F := Ideal) s (iblk m c 2 t) i) (read_unread_whole cc0_scratch0 _ _)

/-- The scratch entry at row `i` of point `t`'s row tile is the reference's normed row. -/
theorem scratch_at (c : Dev nD) (t : Fin cfg0.N) (i : S512x2048.Idx) (j : Cert.FfnUpRefIdeal.S8704x2048.Idx)
    (h0 : (j 0 : ℕ) = t.val / 11 * 512 + i 0) (h1 : (j 1 : ℕ) = i 1) :
    k0_pay1 (F := Ideal) (iblk m c 0 ⟨11 * (t.val / 11), Pipeline.run_start_lt t⟩) (iblk m c 1 ⟨11 * (t.val / 11), Pipeline.run_start_lt t⟩) i
      = normed (m ((c : Thread nD τ).loc main_arg0)) (m ((c : Thread nD τ).loc main_arg1)) j := by
  pointwise [k0_pay1, normed]
  blk_point [iblk, V, idx ⟨_, Pipeline.run_start_lt t⟩]

/-- The result array after the run. -/
theorem final (c : Dev nD) : (dats m 0 c).arrAt 3 (cfgs 0).N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block, pay_dot, res_apply]
  show (_ : EReal) = _
  refine Fin.sum_fin_congr fun k => ?_
  refine Ideal.mul_congr ?_ ?_
  · rw [held]
    refine scratch_at m c t _ _ ?_ ?_ <;> (blk_simp [idx t] <;> try omega)
  · blk_point [iblk, V, idx t]

/-- The claim. -/
theorem algebraic : Cert.algebraic_FfnUpIdeal_FfnUpRefIdeal := by
  pair_intro
  · run_from Cert.FfnUpIdeal.Gen.run_main m g
  · run_from Cert.FfnUpRefIdeal.Value.run m' g'
    exact (final m c).symm

end Cert.FfnUpAlg

end
-- ==== Proof.QkvCAlg.lean ====
/- The query-key-value projection of the second layer behind its root-mean-square norm: the scratch holds the normed rows through a row tile's
   column tiles, so the call is the reference's one contraction of the normed rows, on the extended reals. -/
module

public import proofs.«01_k».proof.Defs
public import proofs.«01_k».proof.Proof.Gen.QkvCIdeal.Value
public import proofs.«01_k».proof.Proof.Gen.QkvCRefIdeal.Run
public import Idealize.ShloMosaic.Lib.Pipeline.ValueKit
public import Idealize.ShloMosaic.Lib.Pointwise
public import Idealize.ShloMosaic.Lib.Claim
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QkvCAlg

section reference
open Cert.QkvCRefIdeal Cert.QkvCRefIdeal.Gen

/-- The normed rows, of the reference. -/
def normed (x : FVec Ideal S8704x2048 .f32) (g : FVec Ideal S2048 .f32) : FVec Ideal S8704x2048 .f32 :=
  mulf (mulf x (broadcastInDim S8704x2048 ![0, 1] bcast_S8704x1_S8704x2048_0_1 (Host.rsqrt (addf (Host.divf
    (broadcastInDim S8704x1 ![0] bcast_S8704_S8704x1_0 (Host.reduceAdd (mulf x x) (constant S_ .f32 0x00000000#32)
      reducesTo_S8704x2048_S8704_d1 h_S_))
    (broadcastInDim S8704x1 ![] bcast_S_S8704x1 (constant S_ .f32 0x45000000#32)))
    (broadcastInDim S8704x1 ![] bcast_S_S8704x1 (constant S_ .f32 0x358637BD#32))))))
    (broadcastInDim S8704x2048 ![0, 1] bcast_S1x2048_S8704x2048_0_1 (broadcastInDim S1x2048 ![1] bcast_S2048_S1x2048_1 g))

/-- The reference's result over its three arguments. -/
def res (x : FVec Ideal S8704x2048 .f32) (g : FVec Ideal S2048 .f32) (w : FVec Ideal S2048x3072 .f32) : FVec Ideal S8704x3072 .f32 :=
  Host.dotGeneral dot_S8704x2048_S2048x3072_S8704x3072_1_0_0_1_n_n none (normed x g) w

/-- The result at an index is the contraction of a normed row with a column. -/
theorem res_apply (x g w) (i : S8704x3072.Idx) : res x g w i = ∑ k : Fin 2048, normed x g (ix2 (i 0) k) * w (ix2 k (i 1)) := by
  pointwise [res]

end reference

open Cert.QkvCIdeal Cert.QkvCIdeal.Gen

variable (m : (ℓ : Loc nD τ sig) → Buf (Elt Ideal) ℓ)

/-- Every window's block index at every grid point. -/
theorem idx : ∀ t : Fin cfg0.N, win0_0.index t = ![t.val / 3, 0]
    ∧ win0_1.index t = ![0, 0]
    ∧ win0_2.index t = ![0, t.val % 3]
    ∧ win0_3.index t = ![t.val / 3, t.val % 3] :=
  (by decide +kernel : ∀ t : Fin grid0.N, _)

/-- The stored product: a contraction of a scratch row with a weight column. -/
theorem pay_dot (a b j) : k0_pay2 (F := Ideal) a b j = ∑ k : Fin 2048, a (ix2 (j 0) k) * b (ix2 k (j 1)) := by
  pointwise [k0_pay2]

/-- The scratch after point `t` holds what the first point of its row tile wrote. -/
theorem held (c : Dev nD) (t : Fin cfg0.N) (i) : (outsAt0 m c t.val t.isLt).2 i
    = k0_pay1 (F := Ideal) (iblk m c 0 ⟨3 * (t.val / 3), Pipeline.run_start_lt t⟩) (iblk m c 1 ⟨3 * (t.val / 3), Pipeline.run_start_lt t⟩) i :=
  Pipeline.eq_of_write_hold_apply (fun n h => (outsAt0 m c n h).2) 3 (fun t => k0_pay1 (F := Ideal) (iblk m c 0 t) (iblk m c 1 t))
    (fun t h i => by rw [outsAt0_A m c t h]; frame_out)
    (fun t h i => by rw [outsAt0_B m c t h]; rfl)
    t i

/-- The output block after point `t`: the product of the held scratch and the point's weight block. -/
theorem block (c : Dev nD) (t : Fin cfg0.N) (i) : (outsAt0 m c t.val t.isLt).1 i
    = k0_pay2 (F := Ideal) (outsAt0 m c t.val t.isLt).2 (iblk m c 2 t) i := by
  by_cases h : t.val % 3 = 0
  · rw [outsAt0_A m c t h]
    frame_out
  · rw [outsAt0_B m c t h]
    frame_out
    exact congrArg (fun s => k0_pay2 (F := Ideal) s (iblk m c 2 t) i) (read_unread_whole cc0_scratch0 _ _)

/-- The scratch entry at row `i` of point `t`'s row tile is the reference's normed row. -/
theorem scratch_at (c : Dev nD) (t : Fin cfg0.N) (i : S512x2048.Idx) (j : Cert.QkvCRefIdeal.S8704x2048.Idx)
    (h0 : (j 0 : ℕ) = t.val / 3 * 512 + i 0) (h1 : (j 1 : ℕ) = i 1) :
    k0_pay1 (F := Ideal) (iblk m c 0 ⟨3 * (t.val / 3), Pipeline.run_start_lt t⟩) (iblk m c 1 ⟨3 * (t.val / 3), Pipeline.run_start_lt t⟩) i
      = normed (m ((c : Thread nD τ).loc main_arg0)) (m ((c : Thread nD τ).loc main_arg1)) j := by
  pointwise [k0_pay1, normed]
  blk_point [iblk, V, idx ⟨_, Pipeline.run_start_lt t⟩]

/-- The result array after the run. -/
theorem final (c : Dev nD) : (dats m 0 c).arrAt 3 (cfgs 0).N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block, pay_dot, res_apply]
  show (_ : EReal) = _
  refine Fin.sum_fin_congr fun k => ?_
  refine Ideal.mul_congr ?_ ?_
  · rw [held]
    refine scratch_at m c t _ _ ?_ ?_ <;> (blk_simp [idx t] <;> try omega)
  · blk_point [iblk, V, idx t]

/-- The claim. -/
theorem algebraic : Cert.algebraic_QkvCIdeal_QkvCRefIdeal := by
  pair_intro
  · run_from Cert.QkvCIdeal.Gen.run_main m g
  · run_from Cert.QkvCRefIdeal.Value.run m' g'
    exact (final m c).symm

end Cert.QkvCAlg

end
-- ==== Proof.ProjABAlg.lean ====
/- The first layer's input projection behind its root-mean-square norm: the host lays the weight's columns out
   with zero columns in the gaps, the call multiplies the normed rows by them, and the reference multiplies first and
   lays out the result's columns, on the extended reals. -/
module

public import proofs.«01_k».proof.Defs
public import proofs.«01_k».proof.Proof.Gen.ProjABIdeal.Value
public import proofs.«01_k».proof.Proof.Gen.ProjABRefIdeal.Run
public import Idealize.ShloMosaic.Lib.Pipeline.ValueKit
public import Idealize.ShloMosaic.Lib.Pointwise
public import Idealize.ShloMosaic.Lib.Claim
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjABAlg

/-- The columns of the result's row: eight stretches taken from `f`, and zeros in the gaps. -/
def place (f : Fin 5672 → EReal) (j : Fin 6144) : EReal :=
  if h : j.val < 3072 then f ⟨j.val, by omega⟩
  else if h : j.val < 4096 then f ⟨j.val - 3072 + 3088, by omega⟩
  else if h : j.val < 5632 then f ⟨j.val - 4096 + 4136, by omega⟩
  else if h : j.val < 5648 then f ⟨j.val - 5632 + 3072, by omega⟩
  else if h : j.val < 5660 then f ⟨j.val - 5648 + 4112, by omega⟩
  else if h : j.val < 5776 then 0
  else if h : j.val < 5788 then f ⟨j.val - 5776 + 4124, by omega⟩
  else 0

/-- Laying out a contraction's columns is contracting with the laid-out columns. -/
theorem place_sum (a : Fin 2048 → EReal) (f : Fin 2048 → Fin 5672 → EReal) (j : Fin 6144) :
    place (fun c => ∑ k, a k * f k c) j = ∑ k, a k * place (f k) j := by
  unfold place
  split_ifs <;> simp

section reference
open Cert.ProjABRefIdeal Cert.ProjABRefIdeal.Gen

/-- The normed rows, of the reference. -/
def normed (h : FVec Ideal S8704x2048 .f32) (g : FVec Ideal S2048 .f32) : FVec Ideal S8704x2048 .f32 :=
  (mulf (mulf h (broadcastInDim S8704x2048 ![0, 1] bcast_S8704x1_S8704x2048_0_1 (Host.rsqrt (addf (Host.divf (broadcastInDim S8704x1 ![0] bcast_S8704_S8704x1_0 (Host.reduceAdd (mulf h h) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g)))

/-- The prompt's rows and the samples' rows, one after the other. -/
def rows (p : FVec Ideal S2x4096x2048 .f32) (s : FVec Ideal S128x4x2048 .f32) : FVec Ideal S8704x2048 .f32 :=
  (concatenate S8704x2048 0 [⟨S8192x2048, (shapeCast _ p shapeCasts_S2x4096x2048_S8192x2048)⟩, ⟨S512x2048, (shapeCast _ s shapeCasts_S128x4x2048_S512x2048)⟩] concatenates_S8192x2048_S512x2048_S8704x2048_d0)

/-- The layout of the result's columns, of the reference. -/
def placed (y : FVec Ideal S8704x5672 .f32) : FVec Ideal S8704x6144 .f32 :=
  (concatenate S8704x6144 1 [⟨S8704x3072, ((extractStridedSlice S8704x3072 ![0, 0] y slices_S8704x5672_S8704x3072_0_0) : (⟨S8704x3072, .f32⟩ : BufTy).Contents (Elt Ideal))⟩, ⟨S8704x1024, ((extractStridedSlice S8704x1024 ![0, 3088] y slices_S8704x5672_S8704x1024_0_3088) : (⟨S8704x1024, .f32⟩ : BufTy).Contents (Elt Ideal))⟩, ⟨S8704x1536, ((extractStridedSlice S8704x1536 ![0, 4136] y slices_S8704x5672_S8704x1536_0_4136) : (⟨S8704x1536, .f32⟩ : BufTy).Contents (Elt Ideal))⟩, ⟨S8704x16, ((extractStridedSlice S8704x16 ![0, 3072] y slices_S8704x5672_S8704x16_0_3072) : (⟨S8704x16, .f32⟩ : BufTy).Contents (Elt Ideal))⟩, ⟨S8704x12, ((extractStridedSlice S8704x12 ![0, 0] (extractStridedSlice S8704x24 ![0, 4112] y slices_S8704x5672_S8704x24_0_4112) slices_S8704x24_S8704x12_0_0) : (⟨S8704x12, .f32⟩ : BufTy).Contents (Elt Ideal))⟩, ⟨S8704x116, ((broadcastInDim S8704x116 ![] bcast_S_S8704x116 (constant (F := Ideal) S_ .f32 0x00000000#32)) : (⟨S8704x116, .f32⟩ : BufTy).Contents (Elt Ideal))⟩, ⟨S8704x12, ((extractStridedSlice S8704x12 ![0, 12] (extractStridedSlice S8704x24 ![0, 4112] y slices_S8704x5672_S8704x24_0_4112) slices_S8704x24_S8704x12_0_12) : (⟨S8704x12, .f32⟩ : BufTy).Contents (Elt Ideal))⟩, ⟨S8704x356, ((broadcastInDim S8704x356 ![] bcast_S_S8704x356 (constant (F := Ideal) S_ .f32 0x00000000#32)) : (⟨S8704x356, .f32⟩ : BufTy).Contents (Elt Ideal))⟩] concatenates_S8704x3072_S8704x1024_S8704x1536_S8704x16_S8704x12_S8704x116_S8704x12_S8704x356_S8704x6144_d1 : (⟨S8704x6144, .f32⟩ : BufTy).Contents (Elt Ideal))

/-- The gain of the first norm. -/
def gain (g : FVec Ideal S2x2048 .f32) : FVec Ideal S2048 .f32 :=
  (shapeCast _ (extractStridedSlice S1x2048 ![0, 0] g slices_S2x2048_S1x2048_0_0) shapeCasts_S1x2048_S2048)

/-- The reference's result over its four arguments. -/
def res (p : FVec Ideal S2x4096x2048 .f32) (s : FVec Ideal S128x4x2048 .f32) (g : FVec Ideal S2x2048 .f32)
    (w : FVec Ideal S1x2048x5672 .f32) : FVec Ideal S8704x6144 .f32 :=
  placed (Host.dotGeneral dot_S8704x2048_S2048x5672_S8704x5672_1_0_0_1_n_n none (normed (rows p s) (gain g))
    (shapeCast _ w shapeCasts_S1x2048x5672_S2048x5672))

/-- The layout at an index. -/
theorem placed_apply (y) (i : S8704x6144.Idx) : placed y i = place (fun c => y (ix2 (i 0) c)) (i 1) := by
  idx_vars i
  have hi := i1.isLt
  have hc : i1.val < 3072 ∨ (3072 ≤ i1.val ∧ i1.val < 4096) ∨ (4096 ≤ i1.val ∧ i1.val < 5632) ∨ (5632 ≤ i1.val ∧ i1.val < 5648)
      ∨ (5648 ≤ i1.val ∧ i1.val < 5660) ∨ (5660 ≤ i1.val ∧ i1.val < 5776)
      ∨ (5776 ≤ i1.val ∧ i1.val < 5788) ∨ (5788 ≤ i1.val) := by omega
  pointwise [placed, place]
  rcases hc with hc | hc | hc | hc | hc | hc | hc | hc <;>
    (repeat first | refine (dif_pos (by omega)).trans ?_ | refine (dif_neg (by omega)).trans ?_) <;>
    (repeat first | refine Eq.trans ?_ (dif_pos (by omega)).symm | refine Eq.trans ?_ (dif_neg (by omega)).symm) <;> first
    | with_reducible rfl
    | exact congrArg y (congrArg (ix2 _) (Fin.ext (by dsimp only; omega)))

/-- The result at an index. -/
theorem res_apply (p s g w) (i : S8704x6144.Idx) : res p s g w i
    = ∑ k : Fin 2048, normed (rows p s) (gain g) (ix2 (i 0) k) * place (fun c => w (ix3 0 k c)) (i 1) := by
  unfold res
  refine (placed_apply _ i).trans ((congrArg (place · (i 1)) (funext fun c => ?_)).trans (place_sum _ _ _))
  pointwise

/-- The reference program's result is `res` of its arguments. -/
theorem ref_res (m : (ℓ : Loc nD τ sig) → Buf (Elt Ideal) ℓ) (c : Dev nD) : Value.res_main_v29 m c
    = res (m ((c : Thread nD τ).loc main_arg0)) (m ((c : Thread nD τ).loc main_arg1)) (m ((c : Thread nD τ).loc main_arg2)) (m ((c : Thread nD τ).loc main_arg3)) := rfl

end reference

open Cert.ProjABIdeal Cert.ProjABIdeal.Gen

/-- The laid-out weight, as the host builds it. -/
def laid (w : FVec Ideal S2048x5672 .f32) : FVec Ideal S2048x6144 .f32 :=
  concatenate S2048x6144 1 [⟨S2048x512, (extractStridedSlice S2048x512 ![0, 0] w slices_S2048x5672_S2048x512_0_0)⟩, ⟨S2048x512, (extractStridedSlice S2048x512 ![0, 512] w slices_S2048x5672_S2048x512_0_512)⟩, ⟨S2048x1024, (extractStridedSlice S2048x1024 ![0, 1024] w slices_S2048x5672_S2048x1024_0_1024)⟩, ⟨S2048x1024, (extractStridedSlice S2048x1024 ![0, 2048] w slices_S2048x5672_S2048x1024_0_2048)⟩, ⟨S2048x1024, (extractStridedSlice S2048x1024 ![0, 3088] w slices_S2048x5672_S2048x1024_0_3088)⟩, ⟨S2048x1536, (extractStridedSlice S2048x1536 ![0, 4136] w slices_S2048x5672_S2048x1536_0_4136)⟩, ⟨S2048x128, (concatenate S2048x128 1 [⟨S2048x16, (extractStridedSlice S2048x16 ![0, 3072] w slices_S2048x5672_S2048x16_0_3072)⟩, ⟨S2048x12, (extractStridedSlice S2048x12 ![0, 0] (extractStridedSlice S2048x24 ![0, 4112] w slices_S2048x5672_S2048x24_0_4112) slices_S2048x24_S2048x12_0_0)⟩, ⟨S2048x100, (broadcastInDim S2048x100 ![] bcast_S_S2048x100 (constant S_ .f32 0x00000000#32))⟩] concatenates_S2048x16_S2048x12_S2048x100_S2048x128_d1)⟩, ⟨S2048x128, (concatenate S2048x128 1 [⟨S2048x16, (broadcastInDim S2048x16 ![] bcast_S_S2048x16 (constant S_ .f32 0x00000000#32))⟩, ⟨S2048x12, (extractStridedSlice S2048x12 ![0, 12] (extractStridedSlice S2048x24 ![0, 4112] w slices_S2048x5672_S2048x24_0_4112) slices_S2048x24_S2048x12_0_12)⟩, ⟨S2048x100, (broadcastInDim S2048x100 ![] bcast_S_S2048x100 (constant S_ .f32 0x00000000#32))⟩] concatenates_S2048x16_S2048x12_S2048x100_S2048x128_d1)⟩, ⟨S2048x256, (broadcastInDim S2048x256 ![] bcast_S_S2048x256 (constant S_ .f32 0x00000000#32))⟩] concatenates_S2048x512_S2048x512_S2048x1024_S2048x1024_S2048x1024_S2048x1536_S2048x128_S2048x128_S2048x256_S2048x6144_d1

set_option maxHeartbeats 2000000 in
/-- The laid-out weight at an index. -/
theorem laid_apply (w) (i : S2048x6144.Idx) : laid w i = place (fun c => w (ix2 (i 0) c)) (i 1) := by
  idx_vars i
  have hi := i1.isLt
  have hc : i1.val < 512 ∨ (512 ≤ i1.val ∧ i1.val < 1024) ∨ (1024 ≤ i1.val ∧ i1.val < 2048) ∨ (2048 ≤ i1.val ∧ i1.val < 3072)
      ∨ (3072 ≤ i1.val ∧ i1.val < 4096) ∨ (4096 ≤ i1.val ∧ i1.val < 5632) ∨ (5632 ≤ i1.val ∧ i1.val < 5648)
      ∨ (5648 ≤ i1.val ∧ i1.val < 5660) ∨ (5660 ≤ i1.val ∧ i1.val < 5760) ∨ (5760 ≤ i1.val ∧ i1.val < 5776)
      ∨ (5776 ≤ i1.val ∧ i1.val < 5788) ∨ (5788 ≤ i1.val ∧ i1.val < 5888) ∨ (5888 ≤ i1.val) := by omega
  pointwise [laid, place]
  rcases hc with hc | hc | hc | hc | hc | hc | hc | hc | hc | hc | hc | hc | hc <;>
    (repeat first | refine (dif_pos (by omega)).trans ?_ | refine (dif_neg (by omega)).trans ?_) <;>
    (repeat first | refine Eq.trans ?_ (dif_pos (by omega)).symm | refine Eq.trans ?_ (dif_neg (by omega)).symm) <;> first
    | with_reducible rfl
    | exact congrArg w (congrArg (ix2 _) (Fin.ext (by dsimp only; omega)))

variable (m : (ℓ : Loc nD τ sig) → Buf (Elt Ideal) ℓ)

/-- Every window's block index at every grid point. -/
theorem idx : ∀ t : Fin cfg0.N, win0_0.index t = ![t.val / 6, 0]
    ∧ win0_1.index t = ![0, 0]
    ∧ win0_2.index t = ![0, t.val % 6]
    ∧ win0_3.index t = ![t.val / 6, t.val % 6] :=
  (by decide +kernel : ∀ t : Fin grid0.N, _)

/-- The stored product: a contraction of a scratch row with a weight column. -/
theorem pay_dot (a b j) : k0_pay2 (F := Ideal) a b j = ∑ k : Fin 2048, a (ix2 (j 0) k) * b (ix2 k (j 1)) := by
  pointwise [k0_pay2]

/-- The scratch after point `t` holds what the first point of its row tile wrote. -/
theorem held (c : Dev nD) (t : Fin cfg0.N) (i) : (outsAt0 m c t.val t.isLt).2 i
    = k0_pay1 (F := Ideal) (iblk m c 0 ⟨6 * (t.val / 6), Pipeline.run_start_lt t⟩) (iblk m c 1 ⟨6 * (t.val / 6), Pipeline.run_start_lt t⟩) i :=
  Pipeline.eq_of_write_hold_apply (fun n h => (outsAt0 m c n h).2) 6 (fun t => k0_pay1 (F := Ideal) (iblk m c 0 t) (iblk m c 1 t))
    (fun t h i => by rw [outsAt0_A m c t h]; frame_out)
    (fun t h i => by rw [outsAt0_B m c t h]; rfl)
    t i

/-- The output block after point `t`: the product of the held scratch and the point's weight block. -/
theorem block (c : Dev nD) (t : Fin cfg0.N) (i) : (outsAt0 m c t.val t.isLt).1 i
    = k0_pay2 (F := Ideal) (outsAt0 m c t.val t.isLt).2 (iblk m c 2 t) i := by
  by_cases h : t.val % 6 = 0
  · rw [outsAt0_A m c t h]
    frame_out
  · rw [outsAt0_B m c t h]
    frame_out
    exact congrArg (fun s => k0_pay2 (F := Ideal) s (iblk m c 2 t) i) (read_unread_whole cc0_scratch0 _ _)

/-- The scratch entry at row `i` of point `t`'s row tile is the reference's normed row. -/
theorem scratch_at (c : Dev nD) (t : Fin cfg0.N) (i : S512x2048.Idx) (j : Cert.ProjABRefIdeal.S8704x2048.Idx)
    (h0 : (j 0 : ℕ) = t.val / 6 * 512 + i 0) (h1 : (j 1 : ℕ) = i 1) :
    k0_pay1 (F := Ideal) (iblk m c 0 ⟨6 * (t.val / 6), Pipeline.run_start_lt t⟩) (iblk m c 1 ⟨6 * (t.val / 6), Pipeline.run_start_lt t⟩) i
      = normed (rows (m ((c : Thread nD τ).loc main_arg0)) (m ((c : Thread nD τ).loc main_arg1))) (gain (m ((c : Thread nD τ).loc main_arg2))) j := by
  have e0 : V (F := Ideal) m c main_v2 = rows (m ((c : Thread nD τ).loc main_arg0)) (m ((c : Thread nD τ).loc main_arg1)) := by
    entry_read
    rfl
  have e1 : ∀ k : Fin 2048, V (F := Ideal) m c main_v24 (ix2 0 k) = gain (m ((c : Thread nD τ).loc main_arg2)) (ix1 k) := fun k => by
    entry_read
    pointwise [gain]
  have p0 : ∀ (r : S512x2048.Idx) (s : Cert.ProjABRefIdeal.S8704x2048.Idx), (s 0 : ℕ) = t.val / 6 * 512 + r 0 → (s 1 : ℕ) = r 1 →
      ((cfg0.win 0).blk ⟨6 * (t.val / 6), Pipeline.run_start_lt t⟩).view.emb r = s := fun r s h0 h1 => by
    blk_ext [idx ⟨_, Pipeline.run_start_lt t⟩]
  have p1 : ((cfg0.win 1).blk ⟨6 * (t.val / 6), Pipeline.run_start_lt t⟩).view.emb (ix2 0 (i 1)) = ix2 0 (i 1) := by
    blk_ext [idx ⟨_, Pipeline.run_start_lt t⟩]
  pointwise [k0_pay1, normed]
  unfold iblk
  simp only [View.read_apply, e0]
  refine Ideal.mul_congr (Ideal.mul_congr ?_ (congrArg Ideal.rsqrt (Ideal.add_congr
    (congrArg (Ideal.div · _) (Fin.sum_fin_congr fun x => Ideal.mul_congr ?_ ?_)) rfl))) ?_
  · exact congrArg (rows _ _) (p0 _ _ h0 h1)
  · exact congrArg (rows _ _) (p0 _ _ h0 rfl)
  · exact congrArg (rows _ _) (p0 _ _ h0 rfl)
  · rw [p1]
    refine (e1 _).trans (congrArg (gain _) ?_)
    blk_ext

/-- The weight without its first axis. -/
theorem flat (w : FVec Ideal S1x2048x5672 .f32) (k : Fin 2048) (j : Fin 5672) :
    shapeCast S2048x5672 w shapeCasts_S1x2048x5672_S2048x5672 (ix2 k j) = w (ix3 0 k j) := by
  pointwise

set_option maxHeartbeats 1000000 in
/-- The weight block's entry. -/
theorem weight_at (c : Dev nD) (t : Fin cfg0.N) (k : Fin 2048) (i : Fin 1024) (j : Fin 6144) (h : j.val = t.val % 6 * 1024 + i) :
    iblk m c 2 t (ix2 k i) = place (fun c' => m ((c : Thread nD τ).loc main_arg3) (ix3 0 k c')) j := by
  have e : V (F := Ideal) m c main_v23 = laid (shapeCast _ (m ((c : Thread nD τ).loc main_arg3)) shapeCasts_S1x2048x5672_S2048x5672) := rfl
  have p : ((cfg0.win 2).blk t).view.emb (ix2 k i) = ix2 k j := by
    blk_ext [idx t]
  unfold iblk
  rw [View.read_apply, e, p]
  exact (laid_apply _ _).trans (congrArg (place · j) (funext fun c' => flat _ k c'))

/-- The result array after the run. -/
theorem final (c : Dev nD) : (dats m 0 c).arrAt 3 (cfgs 0).N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, block, pay_dot, res_apply]
  show (_ : EReal) = _
  refine Fin.sum_fin_congr fun k => ?_
  refine Ideal.mul_congr ?_ ?_
  · rw [held]
    refine scratch_at m c t _ _ ?_ ?_ <;> (blk_simp [idx t] <;> try omega)
  · refine weight_at m c t _ _ _ ?_
    blk_simp [idx t]

/-- The claim. -/
theorem algebraic : Cert.algebraic_ProjABIdeal_ProjABRefIdeal := by
  pair_intro
  · run_from Cert.ProjABIdeal.Gen.run_main m g
  · run_from Cert.ProjABRefIdeal.Value.run m' g'
    rw [ref_res, (hagree c).1, (hagree c).2.1, (hagree c).2.2.1, (hagree c).2.2.2]
    exact (final m c).symm

end Cert.ProjABAlg

end
-- ==== Proof.DownAlg.lean ====
/- The feed-forward down projection with its residual: the tiled product of the call is the reference's one contraction plus the residual, on the extended reals. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownAlg

/-- The reference's result over its three arguments. -/
def res (a : FVec Ideal Cert.DownRefIdeal.S8704x5632 .bf16) (w : FVec Ideal Cert.DownRefIdeal.S5632x2048 .f32)
    (r : FVec Ideal Cert.DownRefIdeal.S8704x2048 .f32) : FVec Ideal Cert.DownRefIdeal.S8704x2048 .f32 :=
  addf r (Host.dotGeneral Cert.DownRefIdeal.dot_S8704x5632_S5632x2048_S8704x2048_1_0_0_1_n_n none
    (extf .f32 a Cert.DownRefIdeal.Gen.bitsLt_bf16_f32) w)

open Cert.DownIdeal Cert.DownIdeal.Gen

variable (m : (ℓ : Loc nD τ sig) → Buf (Elt Ideal) ℓ)

/-- Every window's block index at every grid point. -/
theorem idx : ∀ t : Fin cfg0.N, win0_0.index t = ![t.val / 44, t.val % 11]
    ∧ win0_1.index t = ![t.val % 11, t.val / 11 % 4]
    ∧ win0_2.index t = ![t.val / 44, t.val / 11 % 4]
    ∧ win0_3.index t = ![t.val / 44, t.val / 11 % 4] :=
  (by decide +kernel : ∀ t : Fin grid0.N, _)

/-- The first step's store: the residual block plus the product of the two blocks. -/
theorem pay_first (a b r j) : k0_pay3 (F := Ideal) a b r j = r j + ∑ k : Fin 512, a (ix2 (j 0) k) * b (ix2 k (j 1)) := by
  pointwise [k0_pay1, k0_pay3]

/-- A later step's store: what the block held plus the product of the two blocks. -/
theorem pay_later (a b r j) : k0_pay2 (F := Ideal) a b r j = r j + ∑ k : Fin 512, a (ix2 (j 0) k) * b (ix2 k (j 1)) := by
  pointwise [k0_pay1, k0_pay2]

/-- What point `t` adds to its block: its product of two blocks, and at a run's first point the residual block too. -/
def part (c : Dev nD) (t : Fin cfg0.N) (j : S512x512.Idx) : EReal :=
  (if t.val % 11 = 0 then (show EReal from iblk m c 2 t j) else 0)
    + ∑ k : Fin 512, (show EReal from iblk m c 0 t (ix2 (j 0) k)) * (show EReal from iblk m c 1 t (ix2 k (j 1)))

/-- The result array after the run is the residual plus the product. -/
theorem final (c : Dev nD) : (dats m 0 c).arrAt 3 (cfgs 0).N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hl : t.val % 11 = 11 - 1 := (flush0_3 t).mp hf
  rw [after0_3, Pipeline.eq_sum_fin_of_reset_step_apply_of_flush (fun n h => outsAt0 m c n h) 11 (fun _ => (0 : EReal)) (part m c)
    (fun t h j => by
      rw [outsAt0_A m c t h (by omega)]; frame_out; rw [pay_later]; unfold part; rw [if_pos h, zero_add])
    (fun t h j => by
      rw [outsAt0_B m c t h (by omega)]; frame_out; rw [pay_first]; unfold part; rw [if_neg h, zero_add])
    t hl _, zero_add]
  unfold part
  show (_ : EReal) = _
  rw [Finset.sum_add_distrib]
  pointwise [res]
  refine Ideal.add_congr ?_ ?_
  · rw [Finset.sum_eq_single_of_mem (0 : Fin 11) (Finset.mem_univ _) (fun s _ hs => if_neg (by
      have : s.val ≠ 0 := fun h => hs (Fin.ext h)
      have := s.isLt
      show ¬ (11 * (t.val / 11) + s.val) % 11 = 0
      omega)), if_pos (by simp)]
    blk_ext [iblk, V, idx t, idx ⟨_, Pipeline.run_point_lt_of_flush t hl 0⟩]
  · refine Fin.sum_mul_add_congr fun s k hk => ?_
    blk_point [iblk, V, idx t, idx ⟨_, Pipeline.run_point_lt_of_flush t hl s⟩]

/-- The claim. -/
theorem algebraic : Cert.algebraic_DownIdeal_DownRefIdeal := by
  pair_intro
  · run_from Cert.DownIdeal.Gen.run_main m g
  · run_from Cert.DownRefIdeal.Value.run m' g'
    exact (final m c).symm

end Cert.DownAlg

end
-- ==== Proof.MixOutAlg.lean ====
/- The mixer output projection with its residual: the tiled product of the call is the reference's one contraction plus the residual, on the extended reals. -/
module

public import proofs.«01_k».proof.Defs
public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutAlg

/-- The reference's result over its three arguments. -/
def res (a : FVec Ideal Cert.MixOutRefIdeal.S8704x2048 .bf16) (w : FVec Ideal Cert.MixOutRefIdeal.S2048x2048 .f32)
    (r : FVec Ideal Cert.MixOutRefIdeal.S8704x2048 .f32) : FVec Ideal Cert.MixOutRefIdeal.S8704x2048 .f32 :=
  addf r (Host.dotGeneral Cert.MixOutRefIdeal.dot_S8704x2048_S2048x2048_S8704x2048_1_0_0_1_n_n none
    (extf .f32 a Cert.MixOutRefIdeal.Gen.bitsLt_bf16_f32) w)

open Cert.MixOutIdeal Cert.MixOutIdeal.Gen

variable (m : (ℓ : Loc nD τ sig) → Buf (Elt Ideal) ℓ)

/-- Every window's block index at every grid point. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- The result array after the run is the residual plus the product. -/
theorem final (c : Dev nD) : (dats m 0 c).arrAt 3 (cfgs 0).N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, k0_pay2, k0_pay3, res]
  blk_point [iblk, V, idx t]

/-- The claim. -/
theorem algebraic : Cert.algebraic_MixOutIdeal_MixOutRefIdeal := by
  pair_intro
  · run_from Cert.MixOutIdeal.Gen.run_main m g
  · run_from Cert.MixOutRefIdeal.Value.run m' g'
    exact (final m c).symm

end Cert.MixOutAlg

end
-- ==== Proof.ActPAlg.lean ====
/- The prompt's gated activation of the feed-forward layer: each tile's causal convolution of three taps reads the two
   rows before it from a halo block, so the call is the reference's convolution of the padded sequence, on the extended reals. -/
module

public import proofs.«01_k».proof.Defs
public import proofs.«01_k».proof.Proof.Gen.ActPIdeal.Value
public import proofs.«01_k».proof.Proof.Gen.ActPRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActPAlg

section reference
open Cert.ActPRefIdeal Cert.ActPRefIdeal.Gen

/-- The gate columns with two rows before them. -/
def padded (u : FVec Ideal S8704x11264 .f32) : FVec Ideal S2x4098x5632 .f32 :=
  concatenate S2x4098x5632 1 [⟨S2x2x5632, (broadcastInDim S2x2x5632 ![] bcast_S_S2x2x5632 (constant (F := Ideal) S_ .f32 0x00000000#32))⟩, ⟨S2x4096x5632, (extractStridedSlice S2x4096x5632 ![0, 0, 0] (shapeCast _ (extractStridedSlice S8192x11264 ![0, 0] u slices_S8704x11264_S8192x11264_0_0) shapeCasts_S8192x11264_S2x4096x11264) slices_S2x4096x11264_S2x4096x5632_0_0_0)⟩] concatenates_S2x2x5632_S2x4096x5632_S2x4098x5632_d1

/-- The convolution of three taps. -/
def conv (u : FVec Ideal S8704x11264 .f32) (w : FVec Ideal S3x5632 .f32) (b : FVec Ideal S5632 .f32) : FVec Ideal S2x4096x5632 .f32 :=
  addf (broadcastInDim S2x4096x5632 ![0, 1, 2] bcast_S1x1x5632_S2x4096x5632_0_1_2 (broadcastInDim S1x1x5632 ![2] bcast_S5632_S1x1x5632_2 b)) (addf (addf (addf (broadcastInDim S2x4096x5632 ![] bcast_S_S2x4096x5632 (constant (F := Ideal) S_ .f32 0x00000000#32)) (mulf (broadcastInDim S2x4096x5632 ![0, 1, 2] bcast_S1x1x5632_S2x4096x5632_0_1_2 (broadcastInDim S1x1x5632 ![2] bcast_S5632_S1x1x5632_2 (shapeCast _ (extractStridedSlice S1x5632 ![0, 0] w slices_S3x5632_S1x5632_0_0) shapeCasts_S1x5632_S5632))) (extractStridedSlice S2x4096x5632 ![0, 0, 0] (padded u) slices_S2x4098x5632_S2x4096x5632_0_0_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![1, 0] w slices_S3x5632_S1x5632_1_0) shapeCasts_S1x5632_S5632))) (extractStridedSlice S2x4096x5632 ![0, 1, 0] (padded u) slices_S2x4098x5632_S2x4096x5632_0_1_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![2, 0] w slices_S3x5632_S1x5632_2_0) shapeCasts_S1x5632_S5632))) (extractStridedSlice S2x4096x5632 ![0, 2, 0] (padded u) slices_S2x4098x5632_S2x4096x5632_0_2_0)))

/-- The reference's result over its arguments. -/
def res (u : FVec Ideal S8704x11264 .f32) (w : FVec Ideal S3x5632 .f32) (b : FVec Ideal S5632 .f32) : FVec Ideal S8192x5632 .bf16 :=
  truncf .bf16 (shapeCast _ (mulf (mulf (conv u w b) (Host.divf (broadcastInDim S2x4096x5632 ![] bcast_S_S2x4096x5632 (constant (F := Ideal) S_ .f32 0x3F800000#32)) (addf (broadcastInDim S2x4096x5632 ![] bcast_S_S2x4096x5632 (constant (F := Ideal) S_ .f32 0x3F800000#32)) (Host.exp (Host.negf (conv u w b)))))) (extractStridedSlice S2x4096x5632 ![0, 0, 5632] (shapeCast _ (extractStridedSlice S8192x11264 ![0, 0] u slices_S8704x11264_S8192x11264_0_0) shapeCasts_S8192x11264_S2x4096x11264) slices_S2x4096x11264_S2x4096x5632_0_0_5632)) shapeCasts_S2x4096x5632_S8192x5632) bitsLt_bf16_f32

/-- The reference program's result is `res` of its arguments. -/
theorem ref_res (m : (ℓ : Loc nD τ sig) → Buf (Elt Ideal) ℓ) (c : Dev nD) : Value.res_main_v34 m c
    = res (m ((c : Thread nD τ).loc main_arg0)) (m ((c : Thread nD τ).loc main_arg1)) (m ((c : Thread nD τ).loc main_arg2)) := rfl

/-- The gate column `j` of the row `d` before row `r` of its sequence: zero before the sequence's first row. -/
def tap (u : FVec Ideal S8704x11264 .f32) (d : ℕ) (r : Fin 8192) (j : Fin 5632) : EReal :=
  if r.val % 4096 < d then 0 else u (ix2 ⟨r.val - d, by omega⟩ ⟨j.val, by omega⟩)

/-- The padded columns at row `2 + t - d`. -/
theorem padded_tap (u : FVec Ideal S8704x11264 .f32) (d : ℕ) (hd : d ≤ 2) (r : Fin 8192) (j : Fin 5632) (i : S2x4098x5632.Idx) (h0 : (i 0 : ℕ) = r.val / 4096)
    (h1 : (i 1 : ℕ) = 2 + r.val % 4096 - d) (h2 : (i 2 : ℕ) = j) : padded u i = tap u d r j := by
  idx_vars i
  change _ = r.val / 4096 at h0
  change _ = 2 + r.val % 4096 - d at h1
  change _ = j.val at h2
  unfold tap
  pointwise [padded]
  have hm := Nat.mod_lt r.val (show 0 < 4096 by norm_num)
  have hr := Nat.div_add_mod r.val 4096
  split <;> split <;> first | with_reducible rfl | (exfalso; omega) | blk_ext

/-- The argument of the activation at row `r`: the bias plus three taps. -/
def pre (u : FVec Ideal S8704x11264 .f32) (w : FVec Ideal S3x5632 .f32) (b : FVec Ideal S5632 .f32) (r : Fin 8192) (j : Fin 5632) : EReal :=
  b (ix1 j) + (w (ix2 0 j) * tap u 2 r j + w (ix2 1 j) * tap u 1 r j + w (ix2 2 j) * tap u 0 r j)

/-- The result at an index. -/
theorem res_apply (u : FVec Ideal S8704x11264 .f32) (w : FVec Ideal S3x5632 .f32) (b : FVec Ideal S5632 .f32) (r : Fin 8192) (j : Fin 5632) : res u w b (ix2 r j)
    = pre u w b r j * Ideal.logistic (pre u w b r j) * u (ix2 ⟨r.val, by omega⟩ ⟨5632 + j.val, by omega⟩) := by
  have hc : conv u w b (ix3 ⟨r.val / 4096, by omega⟩ ⟨r.val % 4096, Nat.mod_lt _ (by norm_num)⟩ j) = pre u w b r j := by
    unfold pre
    rw [← padded_tap u 2 le_rfl r j (ix3 ⟨r.val / 4096, by omega⟩ ⟨r.val % 4096, by omega⟩ j) rfl (by dsimp only [ix3]; omega) rfl,
      ← padded_tap u 1 (by norm_num) r j (ix3 ⟨r.val / 4096, by omega⟩ ⟨1 + r.val % 4096, by omega⟩ j) rfl (by dsimp only [ix3]; omega) rfl,
      ← padded_tap u 0 (by norm_num) r j (ix3 ⟨r.val / 4096, by omega⟩ ⟨2 + r.val % 4096, by omega⟩ j) rfl (by dsimp only [ix3]; omega) rfl]
    pointwise [conv]
  pointwise [res]
  rw [hc]
  rfl

end reference

open Cert.ActPIdeal Cert.ActPIdeal.Gen

variable (m : (ℓ : Loc nD τ sig) → Buf (Elt Ideal) ℓ)

/-- A selection on a decided bit. -/
theorem select_bit (p : Prop) [Decidable p] (a b : EReal) : Scalar.select (if p then 1#1 else 0#1) a b = if p then a else b := by
  split <;> rfl

/-- Every window's block index at every grid point. -/
theorem idx : ∀ t : Fin cfg0.N, win0_0.index t = ![(t.val / 176) * 16 + (t.val / 11 % 16), t.val % 11]
    ∧ win0_1.index t = ![(t.val / 176) * 16 + (t.val / 11 % 16), 11 + (t.val % 11)]
    ∧ win0_2.index t = ![((t.val / 176) * 16 + (t.val / 11 % 16)) * 32 - 1, t.val % 11]
    ∧ win0_3.index t = ![0, t.val % 11]
    ∧ win0_4.index t = ![0, t.val % 11]
    ∧ win0_5.index t = ![(t.val / 176) * 16 + (t.val / 11 % 16), t.val % 11] :=
  (by decide +kernel : ∀ t : Fin grid0.N, _)

/-- The tile's number along its sequence. -/
theorem coord : ∀ t : Fin cfg0.N, (grid0.coords t 1).val = t.val / 11 % 16 :=
  (by decide +kernel : ∀ t : Fin grid0.N, _)

/-- The bit that marks row `n` of a tile. -/
theorem bit0 : ∀ y : Fin 256, IntOp.cmpi CmpIPredicate.eq (BitVec.ofNat 32 y.val) 0#32 = if y.val = 0 then 1#1 else 0#1 := by decide +kernel

/-- The bit that marks row `n` of a tile. -/
theorem bit1 : ∀ y : Fin 256, IntOp.cmpi CmpIPredicate.eq (BitVec.ofNat 32 y.val) 1#32 = if y.val = 1 then 1#1 else 0#1 := by decide +kernel

/-- The bit that marks a sequence's first tile. -/
theorem bitT : ∀ y : Fin 16, IntOp.cmpi CmpIPredicate.eq (BitVec.ofNat 32 y.val) 0#32 = if y.val = 0 then 1#1 else 0#1 := by decide +kernel

/-- The halo's rows: zero at a sequence's first tile. -/
theorem halo (c : Dev nD) (t : Fin cfg0.N) (k : Fin 8) (y1 : Fin 512) : k0_pay2 (F := Ideal) (grid0.coords t) (iblk m c 2 t) (ix2 k y1)
    = if t.val / 11 % 16 = 0 then (0 : EReal) else iblk m c 2 t (ix2 k y1) := by
  have hb := bitT ⟨t.val / 11 % 16, Nat.mod_lt _ (by norm_num)⟩
  pointwise [k0_pay2]
  rw [coord]
  dsimp only at hb
  rw [show (Scalar.cmpi CmpIPredicate.eq (BitVec.ofNat 32 (t.val / 11 % 16)) 0#32) = _ from hb]
  split
  · rfl
  · rfl

/-- What point `t` stores at a row and a column is the reference there. -/
theorem point (c : Dev nD) (t : Fin cfg0.N) (y0 : Fin 256) (y1 : Fin 512) :
    k0_pay1 (F := Ideal) (iblk m c 0 t) (k0_pay3 (grid0.coords t) (iblk m c 0 t) (iblk m c 2 t)) (iblk m c 1 t) (k0_pay4 (grid0.coords t) (iblk m c 0 t) (iblk m
      c 2 t) (iblk m c 4 t) (View.ld (iblk m c 3 t) r0_3)) (View.ld (iblk m c 3 t) r0_4) (View.ld (iblk m c 3 t) r0_5) (ix2 y0 y1)
      = res (m ((c : Thread nD τ).loc main_arg0)) (m ((c : Thread nD τ).loc main_arg1)) (m ((c : Thread nD τ).loc main_arg2)) (((cfg0.win 5).blk t).view.emb (ix2 y0 y1)) := by
  have hN : t.val < 352 := t.isLt
  obtain ⟨r, hr⟩ : ∃ r : Fin 8192, r.val = ((t.val / 176) * 16 + (t.val / 11 % 16)) * 256 + y0.val := ⟨⟨((t.val / 176) * 16 + (t.val / 11 % 16)) * 256 + y0.val, by omega⟩, rfl⟩
  obtain ⟨j, hj⟩ : ∃ j : Fin 5632, j.val = (t.val % 11) * 512 + y1.val := ⟨⟨(t.val % 11) * 512 + y1.val, by omega⟩, rfl⟩
  have he : ((cfg0.win 5).blk t).view.emb (ix2 y0 y1) = ix2 r j := by blk_ext [idx t]
  have t0 : iblk m c 0 t (ix2 y0 y1) = tap (m ((c : Thread nD τ).loc main_arg0)) 0 r j := by
    unfold tap
    rw [if_neg (by omega)]
    blk_point [iblk, V, idx t]
  have t1 : (if y0.val = 0 then k0_pay2 (F := Ideal) (grid0.coords t) (iblk m c 2 t) (ix2 7 y1) else iblk m c 0 t (ix2 ⟨(y0.val + 256 - 1) % 256, Nat.mod_lt _ (by norm_num)⟩ y1)) = tap (m ((c : Thread nD τ).loc main_arg0)) 1 r j := by
    unfold tap
    rw [halo]
    split_ifs <;> first
      | rfl
      | (exfalso; omega)
      | blk_point [iblk, V, idx t]
  have t2 : (if y0.val = 0 then k0_pay2 (F := Ideal) (grid0.coords t) (iblk m c 2 t) (ix2 6 y1) else if y0.val = 1 then k0_pay2 (F := Ideal) (grid0.coords t) (iblk m c 2 t) (ix2 7 y1) else iblk m c 0 t (ix2 ⟨(y0.val + 256 - 2) % 256, Nat.mod_lt _ (by norm_num)⟩ y1)) = tap (m ((c : Thread nD τ).loc main_arg0)) 2 r j := by
    unfold tap
    rw [halo, halo]
    split_ifs <;> first
      | rfl
      | (exfalso; omega)
      | blk_point [iblk, V, idx t]
  have hw : ∀ k : Fin 3, iblk m c 3 t (ix2 k y1) = m ((c : Thread nD τ).loc main_arg1) (ix2 k j) := fun k => by
    blk_point [iblk, V, idx t]
  have hbias : iblk m c 4 t (ix2 0 y1) = m ((c : Thread nD τ).loc main_arg2) (ix1 j) := by
    have e : ∀ k : Fin 5632, V (F := Ideal) m c main_v0 (ix2 0 k) = m ((c : Thread nD τ).loc main_arg2) (ix1 k) := fun k => by
      entry_read
      pointwise
    refine Eq.trans ?_ (e j)
    unfold iblk
    rw [View.read_apply]
    exact congrArg (V (F := Ideal) m c main_v0) (by blk_ext [idx t])
  have hv : iblk m c 1 t (ix2 y0 y1) = m ((c : Thread nD τ).loc main_arg0) (ix2 ⟨r.val, by omega⟩ ⟨5632 + j.val, by omega⟩) := by
    blk_point [iblk, V, idx t]
  rw [he, res_apply]
  pointwise [k0_pay1, k0_pay3, k0_pay4]
  simp only [bit0, bit1, select_bit, t0, t1, t2, hw, hbias, hv]
  unfold pre
  simp only [add_assoc]

/-- The result array after the run. -/
theorem final (c : Dev nD) : (dats m 0 c).arrAt 5 (cfgs 0).N = res (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact point m c t _ _

/-- The claim. -/
theorem algebraic : Cert.algebraic_ActPIdeal_ActPRefIdeal := by
  pair_intro
  · run_from Cert.ActPIdeal.Gen.run_main m g
  · run_from Cert.ActPRefIdeal.Value.run m' g'
    rw [ref_res, (hagree c).1, (hagree c).2.1, (hagree c).2.2]
    exact (final m c).symm

end Cert.ActPAlg

end
-- ==== Proof.ActSAlg.lean ====
/- The samples' gated activation of the feed-forward layer: rows are shifted within the tile and the first rows of a
   sample come from its kept state, so the call is the reference's convolution of the extended sequence, on the extended reals. -/
module

public import proofs.«01_k».proof.Defs
public import proofs.«01_k».proof.Proof.Gen.ActSIdeal.Value
public import proofs.«01_k».proof.Proof.Gen.ActSRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActSAlg

section reference
open Cert.ActSRefIdeal Cert.ActSRefIdeal.Gen

/-- The gate columns with two rows before them. -/
def padded (u : FVec Ideal S8704x11264 .f32) (s : FVec Ideal S128x2x5632 .f32) : FVec Ideal S128x6x5632 .f32 :=
  concatenate S128x6x5632 1 [⟨S128x2x5632, s⟩, ⟨S128x4x5632, (extractStridedSlice S128x4x5632 ![0, 0, 0] (shapeCast _ (extractStridedSlice S512x11264 ![8192, 0] u slices_S8704x11264_S512x11264_8192_0) shapeCasts_S512x11264_S128x4x11264) slices_S128x4x11264_S128x4x5632_0_0_0)⟩] concatenates_S128x2x5632_S128x4x5632_S128x6x5632_d1

/-- The convolution of three taps. -/
def conv (u : FVec Ideal S8704x11264 .f32) (s : FVec Ideal S128x2x5632 .f32) (w : FVec Ideal S3x5632 .f32) (b : FVec Ideal S5632 .f32) : FVec Ideal S128x4x5632 .f32 :=
  addf (broadcastInDim S128x4x5632 ![0, 1, 2] bcast_S1x1x5632_S128x4x5632_0_1_2 (broadcastInDim S1x1x5632 ![2] bcast_S5632_S1x1x5632_2 b)) (addf (addf (addf (broadcastInDim S128x4x5632 ![] bcast_S_S128x4x5632 (constant (F := Ideal) S_ .f32 0x00000000#32)) (mulf (broadcastInDim S128x4x5632 ![0, 1, 2] bcast_S1x1x5632_S128x4x5632_0_1_2 (broadcastInDim S1x1x5632 ![2] bcast_S5632_S1x1x5632_2 (shapeCast _ (extractStridedSlice S1x5632 ![0, 0] w slices_S3x5632_S1x5632_0_0) shapeCasts_S1x5632_S5632))) (extractStridedSlice S128x4x5632 ![0, 0, 0] (padded u s) slices_S128x6x5632_S128x4x5632_0_0_0))) (mulf (broadcastInDim S128x4x5632 ![0, 1, 2] bcast_S1x1x5632_S128x4x5632_0_1_2 (broadcastInDim S1x1x5632 ![2] bcast_S5632_S1x1x5632_2 (shapeCast _ (extractStridedSlice S1x5632 ![1, 0] w slices_S3x5632_S1x5632_1_0) shapeCasts_S1x5632_S5632))) (extractStridedSlice S128x4x5632 ![0, 1, 0] (padded u s) slices_S128x6x5632_S128x4x5632_0_1_0))) (mulf (broadcastInDim S128x4x5632 ![0, 1, 2] bcast_S1x1x5632_S128x4x5632_0_1_2 (broadcastInDim S1x1x5632 ![2] bcast_S5632_S1x1x5632_2 (shapeCast _ (extractStridedSlice S1x5632 ![2, 0] w slices_S3x5632_S1x5632_2_0) shapeCasts_S1x5632_S5632))) (extractStridedSlice S128x4x5632 ![0, 2, 0] (padded u s) slices_S128x6x5632_S128x4x5632_0_2_0)))

/-- The reference's result over its arguments. -/
def res (u : FVec Ideal S8704x11264 .f32) (s : FVec Ideal S128x2x5632 .f32) (w : FVec Ideal S3x5632 .f32) (b : FVec Ideal S5632 .f32) : FVec Ideal S512x5632 .bf16 :=
  truncf .bf16 (shapeCast _ (mulf (mulf (conv u s w b) (Host.divf (broadcastInDim S128x4x5632 ![] bcast_S_S128x4x5632 (constant (F := Ideal) S_ .f32 0x3F800000#32)) (addf (broadcastInDim S128x4x5632 ![] bcast_S_S128x4x5632 (constant (F := Ideal) S_ .f32 0x3F800000#32)) (Host.exp (Host.negf (conv u s w b)))))) (extractStridedSlice S128x4x5632 ![0, 0, 5632] (shapeCast _ (extractStridedSlice S512x11264 ![8192, 0] u slices_S8704x11264_S512x11264_8192_0) shapeCasts_S512x11264_S128x4x11264) slices_S128x4x11264_S128x4x5632_0_0_5632)) shapeCasts_S128x4x5632_S512x5632) bitsLt_bf16_f32

/-- The reference program's result is `res` of its arguments. -/
theorem ref_res (m : (ℓ : Loc nD τ sig) → Buf (Elt Ideal) ℓ) (c : Dev nD) : Value.res_main_v33 m c
    = res (m ((c : Thread nD τ).loc main_arg0)) (m ((c : Thread nD τ).loc main_arg1)) (m ((c : Thread nD τ).loc main_arg2)) (m ((c : Thread nD τ).loc main_arg3)) := rfl

/-- The gate column `j` of the row `d` before row `r` of its sample: before the sample's first row, its kept state. -/
def tap (u : FVec Ideal S8704x11264 .f32) (s : FVec Ideal S128x2x5632 .f32) (d : ℕ) (r : Fin 512) (j : Fin 5632) : EReal :=
  if h : r.val % 4 < d ∧ d ≤ 2 then s (ix3 ⟨r.val / 4, by omega⟩ ⟨2 + r.val % 4 - d, by omega⟩ j) else u (ix2 ⟨8192 + r.val - d, by omega⟩ ⟨j.val, by omega⟩)

/-- The padded columns at row `2 + t - d`. -/
theorem padded_tap (u : FVec Ideal S8704x11264 .f32) (s : FVec Ideal S128x2x5632 .f32) (d : ℕ) (hd : d ≤ 2) (r : Fin 512) (j : Fin 5632) (i : S128x6x5632.Idx) (h0 : (i 0 : ℕ) = r.val / 4)
    (h1 : (i 1 : ℕ) = 2 + r.val % 4 - d) (h2 : (i 2 : ℕ) = j) : padded u s i = tap u s d r j := by
  idx_vars i
  change _ = r.val / 4 at h0
  change _ = 2 + r.val % 4 - d at h1
  change _ = j.val at h2
  unfold tap
  pointwise [padded]
  have hm := Nat.mod_lt r.val (show 0 < 4 by norm_num)
  have hr := Nat.div_add_mod r.val 4
  split <;> split <;> first | with_reducible rfl | (exfalso; omega) | blk_ext

/-- The argument of the activation at row `r`: the bias plus three taps. -/
def pre (u : FVec Ideal S8704x11264 .f32) (s : FVec Ideal S128x2x5632 .f32) (w : FVec Ideal S3x5632 .f32) (b : FVec Ideal S5632 .f32) (r : Fin 512) (j : Fin 5632) : EReal :=
  b (ix1 j) + (w (ix2 0 j) * tap u s 2 r j + w (ix2 1 j) * tap u s 1 r j + w (ix2 2 j) * tap u s 0 r j)

/-- The result at an index. -/
theorem res_apply (u : FVec Ideal S8704x11264 .f32) (s : FVec Ideal S128x2x5632 .f32) (w : FVec Ideal S3x5632 .f32) (b : FVec Ideal S5632 .f32) (r : Fin 512) (j : Fin 5632) : res u s w b (ix2 r j)
    = pre u s w b r j * Ideal.logistic (pre u s w b r j) * u (ix2 ⟨8192 + r.val, by omega⟩ ⟨5632 + j.val, by omega⟩) := by
  have hc : conv u s w b (ix3 ⟨r.val / 4, by omega⟩ ⟨r.val % 4, Nat.mod_lt _ (by norm_num)⟩ j) = pre u s w b r j := by
    unfold pre
    rw [← padded_tap u s 2 le_rfl r j (ix3 ⟨r.val / 4, by omega⟩ ⟨r.val % 4, by omega⟩ j) rfl (by dsimp only [ix3]; omega) rfl,
      ← padded_tap u s 1 (by norm_num) r j (ix3 ⟨r.val / 4, by omega⟩ ⟨1 + r.val % 4, by omega⟩ j) rfl (by dsimp only [ix3]; omega) rfl,
      ← padded_tap u s 0 (by norm_num) r j (ix3 ⟨r.val / 4, by omega⟩ ⟨2 + r.val % 4, by omega⟩ j) rfl (by dsimp only [ix3]; omega) rfl]
    pointwise [conv]
  pointwise [res]
  rw [hc]
  rfl

end reference

open Cert.ActSIdeal Cert.ActSIdeal.Gen

variable (m : (ℓ : Loc nD τ sig) → Buf (Elt Ideal) ℓ)

/-- A selection on a decided bit. -/
theorem select_bit (p : Prop) [Decidable p] (a b : EReal) : Scalar.select (if p then 1#1 else 0#1) a b = if p then a else b := by
  split <;> rfl

/-- Every window's block index at every grid point. -/
theorem idx : ∀ t : Fin cfg0.N, win0_0.index t = ![16, t.val]
    ∧ win0_1.index t = ![16, 11 + t.val]
    ∧ win0_2.index t = ![0, t.val]
    ∧ win0_3.index t = ![0, t.val]
    ∧ win0_4.index t = ![0, t.val]
    ∧ win0_5.index t = ![0, t.val]
    ∧ win0_6.index t = ![0, t.val] :=
  (by decide +kernel : ∀ t : Fin grid0.N, _)

/-- The bit that marks the rows of a sample from its second on. -/
theorem bit1 : ∀ y : Fin 512, IntOp.cmpi CmpIPredicate.sge (k0_pay2 (ix2 y 0)) 1#32 = if 1 ≤ y.val % 4 then 1#1 else 0#1 := by decide +kernel

/-- The bit that marks the rows of a sample from its third on. -/
theorem bit2 : ∀ y : Fin 512, IntOp.cmpi CmpIPredicate.sge (k0_pay2 (ix2 y 0)) 2#32 = if 2 ≤ y.val % 4 then 1#1 else 0#1 := by decide +kernel

/-- The rows the host lays out for the first tap before a row. -/
theorem kept1 (c : Dev nD) (r : Fin 512) (j : Fin 5632) (h : r.val % 4 < 1) : V (F := Ideal) m c main_v3 (ix2 r j)
    = m ((c : Thread nD τ).loc main_arg1) (ix3 ⟨r.val / 4, by omega⟩ ⟨2 + r.val % 4 - 1, by omega⟩ j) := by
  entry_read
  pointwise
  split_ifs
  blk_ext

/-- The rows the host lays out for the second tap before a row. -/
theorem kept2 (c : Dev nD) (r : Fin 512) (j : Fin 5632) (h : r.val % 4 < 2) : V (F := Ideal) m c main_v6 (ix2 r j)
    = m ((c : Thread nD τ).loc main_arg1) (ix3 ⟨r.val / 4, by omega⟩ ⟨2 + r.val % 4 - 2, by omega⟩ j) := by
  entry_read
  pointwise
  split_ifs
  blk_ext

/-- What point `t` stores at a row and a column is the reference there. -/
theorem point (c : Dev nD) (t : Fin cfg0.N) (y0 : Fin 512) (y1 : Fin 512) :
    k0_pay1 (F := Ideal) (iblk m c 0 t) (k0_pay3 (iblk m c 0 t) (iblk m c 2 t)) (k0_pay4 (iblk m c 0 t) (iblk m c 3 t)) (iblk m c 1
      t) (k0_pay5 (iblk m c 5 t)) (View.ld (iblk m c 4 t) r0_2) (View.ld (iblk m c 4 t) r0_3) (View.ld (iblk m c 4 t)
      r0_4) (ix2 y0 y1)
      = res (m ((c : Thread nD τ).loc main_arg0)) (m ((c : Thread nD τ).loc main_arg1)) (m ((c : Thread nD τ).loc main_arg2)) (m ((c : Thread nD τ).loc main_arg3)) (((cfg0.win 6).blk t).view.emb (ix2 y0 y1)) := by
  have hN : t.val < 11 := t.isLt
  obtain ⟨r, hr⟩ : ∃ r : Fin 512, r.val = y0.val := ⟨⟨y0.val, by omega⟩, rfl⟩
  obtain ⟨j, hj⟩ : ∃ j : Fin 5632, j.val = t.val * 512 + y1.val := ⟨⟨t.val * 512 + y1.val, by omega⟩, rfl⟩
  have he : ((cfg0.win 6).blk t).view.emb (ix2 y0 y1) = ix2 r j := by blk_ext [idx t]
  have t0 : iblk m c 0 t (ix2 y0 y1) = tap (m ((c : Thread nD τ).loc main_arg0)) (m ((c : Thread nD τ).loc main_arg1)) 0 r j := by
    unfold tap
    rw [dif_neg (by omega)]
    blk_point [iblk, V, idx t]
  have t1 : (if 1 ≤ y0.val % 4 then iblk m c 0 t (ix2 ⟨(y0.val + 512 - 1) % 512, Nat.mod_lt _ (by norm_num)⟩ y1) else iblk m c 2 t (ix2 y0 y1)) = tap (m ((c : Thread nD τ).loc main_arg0)) (m ((c : Thread nD τ).loc main_arg1)) 1 r j := by
    unfold tap
    by_cases h : r.val % 4 < 1
    · rw [dif_pos ⟨h, by norm_num⟩, if_neg (by omega)]
      exact (show iblk m c 2 t (ix2 y0 y1) = V (F := Ideal) m c main_v3 (ix2 r j) from by
        unfold iblk; rw [View.read_apply]; exact congrArg (V (F := Ideal) m c main_v3) (by blk_ext [idx t])).trans (kept1 m c r j h)
    · rw [dif_neg (fun a => h a.1), if_pos (by omega)]
      blk_point [iblk, V, idx t]
  have t2 : (if 2 ≤ y0.val % 4 then iblk m c 0 t (ix2 ⟨(y0.val + 512 - 2) % 512, Nat.mod_lt _ (by norm_num)⟩ y1) else iblk m c 3 t (ix2 y0 y1)) = tap (m ((c : Thread nD τ).loc main_arg0)) (m ((c : Thread nD τ).loc main_arg1)) 2 r j := by
    unfold tap
    by_cases h : r.val % 4 < 2
    · rw [dif_pos ⟨h, by norm_num⟩, if_neg (by omega)]
      exact (show iblk m c 3 t (ix2 y0 y1) = V (F := Ideal) m c main_v6 (ix2 r j) from by
        unfold iblk; rw [View.read_apply]; exact congrArg (V (F := Ideal) m c main_v6) (by blk_ext [idx t])).trans (kept2 m c r j h)
    · rw [dif_neg (fun a => h a.1), if_pos (by omega)]
      blk_point [iblk, V, idx t]
  have hw : ∀ k : Fin 3, iblk m c 4 t (ix2 k y1) = m ((c : Thread nD τ).loc main_arg2) (ix2 k j) := fun k => by
    blk_point [iblk, V, idx t]
  have hbias : iblk m c 5 t (ix2 0 y1) = m ((c : Thread nD τ).loc main_arg3) (ix1 j) := by
    have e : ∀ k : Fin 5632, V (F := Ideal) m c main_v7 (ix2 0 k) = m ((c : Thread nD τ).loc main_arg3) (ix1 k) := fun k => by
      entry_read
      pointwise
    refine Eq.trans ?_ (e j)
    unfold iblk
    rw [View.read_apply]
    exact congrArg (V (F := Ideal) m c main_v7) (by blk_ext [idx t])
  have hv : iblk m c 1 t (ix2 y0 y1) = m ((c : Thread nD τ).loc main_arg0) (ix2 ⟨8192 + r.val, by omega⟩ ⟨5632 + j.val, by omega⟩) := by
    blk_point [iblk, V, idx t]
  rw [he, res_apply]
  pointwise [k0_pay1, k0_pay3, k0_pay4, k0_pay5]
  simp only [bit1, bit2, select_bit, t0, t1, t2, hw, hbias, hv]
  unfold pre
  simp only [add_assoc]

/-- The result array after the run. -/
theorem final (c : Dev nD) : (dats m 0 c).arrAt 6 (cfgs 0).N = res (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  exact point m c t _ _

/-- The claim. -/
theorem algebraic : Cert.algebraic_ActSIdeal_ActSRefIdeal := by
  pair_intro
  · run_from Cert.ActSIdeal.Gen.run_main m g
  · run_from Cert.ActSRefIdeal.Value.run m' g'
    rw [ref_res, (hagree c).1, (hagree c).2.1, (hagree c).2.2.1, (hagree c).2.2.2]
    exact (final m c).symm

end Cert.ActSAlg

end
-- ==== Proof.MobaPAlg.lean ====
/- The preparation of the keys and values of the block-selecting attention: the keys' head-wise norm beside the values, and the mean of the normed
   keys over each block, are the reference's, on the extended reals. -/
module

public import proofs.«01_k».proof.Defs
public import proofs.«01_k».proof.Proof.Gen.MobaPIdeal.Value
public import proofs.«01_k».proof.Proof.Gen.MobaPRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MobaPAlg

section reference
open Cert.MobaPRefIdeal Cert.MobaPRefIdeal.Gen

/-- The keys, head by head. -/
def keys (z : FVec Ideal S8704x3072 .f32) : FVec Ideal S8192x4x128 .f32 :=
  shapeCast _ (extractStridedSlice S8192x512 ![0, 2048] z slices_S8704x3072_S8192x512_0_2048) shapeCasts_S8192x512_S8192x4x128

/-- The normed keys. -/
def normed (z : FVec Ideal S8704x3072 .f32) (g : FVec Ideal S1x128 .f32) : FVec Ideal S8192x4x128 .f32 :=
  mulf (mulf (keys z) (broadcastInDim S8192x4x128 ![0, 1, 2] bcast_S8192x4x1_S8192x4x128_0_1_2 (Host.rsqrt (addf (Host.divf
    (broadcastInDim S8192x4x1 ![0, 1] bcast_S8192x4_S8192x4x1_0_1 (Host.reduceAdd (mulf (keys z) (keys z)) (constant S_ .f32 0x00000000#32)
      reducesTo_S8192x4x128_S8192x4_d2 h_S_))
    (broadcastInDim S8192x4x1 ![] bcast_S_S8192x4x1 (constant S_ .f32 0x43000000#32)))
    (broadcastInDim S8192x4x1 ![] bcast_S_S8192x4x1 (constant S_ .f32 0x358637BD#32))))))
    (broadcastInDim S8192x4x128 ![0, 1, 2] bcast_S1x1x128_S8192x4x128_0_1_2 (broadcastInDim S1x1x128 ![2] bcast_S128_S1x1x128_2
      (shapeCast _ g shapeCasts_S1x128_S128)))

/-- The reference's first result over its arguments: the normed keys beside the values. -/
def res (z : FVec Ideal S8704x3072 .f32) (g : FVec Ideal S1x128 .f32) : FVec Ideal S8192x1024 .bf16 :=
  truncf .bf16 (concatenate S8192x1024 1 [⟨S8192x512, shapeCast _ (normed z g) shapeCasts_S8192x4x128_S8192x512⟩,
    ⟨S8192x512, extractStridedSlice S8192x512 ![0, 2560] z slices_S8704x3072_S8192x512_0_2560⟩] concatenates_S8192x512_S8192x512_S8192x1024_d1) bitsLt_bf16_f32

/-- The reference's second result over its arguments: the mean of the normed keys over a block. -/
def res' (z : FVec Ideal S8704x3072 .f32) (g : FVec Ideal S1x128 .f32) : FVec Ideal S32x1x512 .f32 :=
  shapeCast _ (Host.divf (Host.reduceAdd (shapeCast S32x256x512 (normed z g) shapeCasts_S8192x4x128_S32x256x512) (constant S_ .f32 0x00000000#32)
    reducesTo_S32x256x512_S32x512_d1 h_S_) (broadcastInDim S32x512 ![] bcast_S_S32x512 (constant S_ .f32 0x43800000#32))) shapeCasts_S32x512_S32x1x512

/-- Equal indices give equal normed values. -/
theorem same {α β : Type} (a : α → EReal) (g : β → EReal) {p p' : α} {q q' : Fin 128 → α} {s s' : β} (A B : EReal) (hp : p = p') (hq : ∀ k, q k = q' k) (hs : s = s') :
    a p * Ideal.rsqrt (Ideal.div (∑ k : Fin 128, a (q k) * a (q k)) A + B) * g s
      = a p' * Ideal.rsqrt (Ideal.div (∑ k : Fin 128, a (q' k) * a (q' k)) A + B) * g s' := by
  obtain rfl := hp
  obtain rfl := hs
  obtain rfl : q = q' := funext hq
  rfl

/-- The normed key in row `r`, head `h`, place `j`. -/
def nrm (z : FVec Ideal S8704x3072 .f32) (g : FVec Ideal S1x128 .f32) (r : Fin 8192) (h : Fin 4) (j : Fin 128) : EReal :=
  z (ix2 ⟨r.val, by omega⟩ ⟨2048 + 128 * h.val + j.val, by omega⟩) * Ideal.rsqrt (Ideal.div (∑ k : Fin 128,
    z (ix2 ⟨r.val, by omega⟩ ⟨2048 + 128 * h.val + k.val, by omega⟩) * z (ix2 ⟨r.val, by omega⟩ ⟨2048 + 128 * h.val + k.val, by omega⟩))
    (Ideal.ofBits .f32 0x43000000#32) + Ideal.ofBits .f32 0x358637BD#32) * g (ix2 0 j)

/-- The normed keys at an index. -/
theorem normed_at (z : FVec Ideal S8704x3072 .f32) (g : FVec Ideal S1x128 .f32) (r : Fin 8192) (h : Fin 4) (j : Fin 128) : normed z g (ix3 r h j) = nrm z g r h j := by
  unfold nrm
  pointwise [normed, keys]
  exact same z g _ _ (by blk_ext) (fun k => by blk_ext) (by blk_ext)

/-- The first result at an index. -/
theorem res_apply (z : FVec Ideal S8704x3072 .f32) (g : FVec Ideal S1x128 .f32) (r : Fin 8192) (j : Fin 1024) : res z g (ix2 r j)
    = if h : j.val < 512 then nrm z g r ⟨j.val / 128, by omega⟩ ⟨j.val % 128, Nat.mod_lt _ (by norm_num)⟩ else z (ix2 ⟨r.val, by omega⟩ ⟨2048 + j.val, by omega⟩) := by
  pointwise [res]
  split
  · exact normed_at z g _ _ _
  · exact congrArg z (by blk_ext)

/-- The second result at an index. -/
theorem res'_apply (z : FVec Ideal S8704x3072 .f32) (g : FVec Ideal S1x128 .f32) (b : Fin 32) (j : Fin 512) : res' z g (ix3 b 0 j)
    = Ideal.div (∑ s : Fin 256, nrm z g ⟨256 * b.val + s.val, by omega⟩ ⟨j.val / 128, by omega⟩ ⟨j.val % 128, Nat.mod_lt _ (by norm_num)⟩) (Ideal.ofBits .f32 0x43800000#32) := by
  pointwise [res']
  refine congrArg (Ideal.div · _) (Finset.sum_congr rfl fun s _ => ?_)
  rw [normed_at]
  exact congrArg (fun r => nrm z g r _ _) (Fin.ext (by dsimp only; omega))

end reference

open Cert.MobaPIdeal Cert.MobaPIdeal.Gen

variable (m : (ℓ : Loc nD τ sig) → Buf (Elt Ideal) ℓ)

/-- Every window's block index at every grid point. -/
theorem idx : ∀ t : Fin cfg0.N, win0_0.index t = ![t.val, 4]
    ∧ win0_1.index t = ![t.val, 5]
    ∧ win0_2.index t = ![0, 0]
    ∧ win0_3.index t = ![t.val, 0]
    ∧ win0_4.index t = ![t.val, 0, 0] :=
  (by decide +kernel : ∀ t : Fin grid0.N, _)

/-- The normed keys of a tile. -/
abbrev tile (a : Vec Ideal S256x512 .f32) (v : Vec Ideal S256x512 .f32) (g : Vec Ideal S1x128 .f32) : FVec Ideal S256x512 .f32 :=
  k0_pay1 (F := Ideal) a (k0_pay9 a v g) (k0_pay10 a v g) (k0_pay11 a v g) (k0_pay12 a v g) (k0_pay13 a v g) g

/-- The normed keys of a tile at an index. -/
theorem tile_at (a v : Vec Ideal S256x512 .f32) (g : Vec Ideal S1x128 .f32) (y0 : Fin 256) (j : Fin 512) : tile a v g (ix2 y0 j)
    = a (ix2 y0 j) * Ideal.rsqrt (Ideal.div (∑ k : Fin 128,
        a (ix2 y0 ⟨128 * (j.val / 128) + k.val, by omega⟩) * a (ix2 y0 ⟨128 * (j.val / 128) + k.val, by omega⟩))
        (Ideal.ofBits .f32 0x43000000#32) + Ideal.ofBits .f32 0x358637BD#32) * g (ix2 0 ⟨j.val % 128, Nat.mod_lt _ (by norm_num)⟩) := by
  unfold tile
  pointwise [k0_pay1, k0_pay4, k0_pay5, k0_pay6, k0_pay7, k0_pay8, k0_pay9, k0_pay10, k0_pay11, k0_pay12, k0_pay13]
  split
  · have e : j.val / 128 = 0 := by omega
    exact same a g _ _ (by blk_ext) (fun k => by blk_ext) (by blk_ext)
  · split
    · have e : j.val / 128 = 1 := by omega
      exact same a g _ _ (by blk_ext) (fun k => by blk_ext) (by blk_ext)
    · split
      · have e : j.val / 128 = 2 := by omega
        exact same a g _ _ (by blk_ext) (fun k => by blk_ext) (by blk_ext)
      · have e : j.val / 128 = 3 := by omega
        exact same a g _ _ (by blk_ext) (fun k => by blk_ext) (by blk_ext)

/-- The keys a point reads. -/
theorem read_k (c : Dev nD) (t : Fin cfg0.N) (y0 : Fin 256) (j : Fin 512) (h : t.val < 32) : iblk m c 0 t (ix2 y0 j)
    = m ((c : Thread nD τ).loc main_arg0) (ix2 ⟨256 * t.val + y0.val, by omega⟩ ⟨2048 + j.val, by omega⟩) := by
  blk_point [iblk, V, idx t]

/-- The values a point reads. -/
theorem read_v (c : Dev nD) (t : Fin cfg0.N) (y0 : Fin 256) (j : Fin 512) (h : t.val < 32) : iblk m c 1 t (ix2 y0 j)
    = m ((c : Thread nD τ).loc main_arg0) (ix2 ⟨256 * t.val + y0.val, by omega⟩ ⟨2560 + j.val, by omega⟩) := by
  blk_point [iblk, V, idx t]

/-- The gain the host lays out. -/
theorem gain (c : Dev nD) (j : Fin 128) : V (F := Ideal) m c main_v1 (ix2 0 j) = m ((c : Thread nD τ).loc main_arg1) (ix2 0 j) := by
  entry_read
  pointwise

/-- The gain a point reads. -/
theorem read_g (c : Dev nD) (t : Fin cfg0.N) (j : Fin 128) : iblk m c 2 t (ix2 0 j) = m ((c : Thread nD τ).loc main_arg1) (ix2 0 j) := by
  refine Eq.trans ?_ (gain m c j)
  unfold iblk
  rw [View.read_apply]
  exact congrArg (V (F := Ideal) m c main_v1) (by blk_ext [idx t])

/-- The normed keys of a point's tile. -/
theorem tile_nrm (c : Dev nD) (t : Fin cfg0.N) (y0 : Fin 256) (j : Fin 512) (h : t.val < 32) : tile (iblk m c 0 t) (iblk m c 1 t) (iblk m c 2 t) (ix2 y0 j)
    = nrm (m ((c : Thread nD τ).loc main_arg0)) (m ((c : Thread nD τ).loc main_arg1)) ⟨256 * t.val + y0.val, by omega⟩ ⟨j.val / 128, by omega⟩ ⟨j.val % 128, Nat.mod_lt _ (by norm_num)⟩ := by
  rw [tile_at]
  unfold nrm
  simp only [read_k m c t _ _ h, read_g]
  exact same (m ((c : Thread nD τ).loc main_arg0)) (m ((c : Thread nD τ).loc main_arg1)) _ _ (by blk_ext) (fun k => by blk_ext) rfl

/-- The first result array after the run. -/
theorem final3 (c : Dev nD) : (dats m 0 c).arrAt 3 (cfgs 0).N = res (m ((c : Thread nD τ).loc main_arg0)) (m ((c : Thread nD τ).loc main_arg1)) := by
  refine (dats m 0 c).arrAt_eq_of_covers 3 _ (by decide +kernel) fun t hf y => ?_
  have hN : t.val < 32 := t.isLt
  blk_simp
  rw [after0_3]
  frame_out
  idx_vars y
  obtain ⟨r, hr⟩ : ∃ r : Fin 8192, r.val = 256 * t.val + y0.val := ⟨⟨256 * t.val + y0.val, by omega⟩, rfl⟩
  have he : ((View.whole main_v2_0).slice (win0_3.rect t)).emb (ix2 y0 y1) = ix2 r y1 := by blk_ext [idx t]
  rw [he, res_apply]
  pointwise [k0_pay3]
  split
  · refine (tile_nrm m c t y0 _ hN).trans ?_
    exact congrArg (fun r => nrm _ _ r _ _) (Fin.ext hr.symm)
  · rw [read_v m c t _ _ hN]
    exact congrArg (m ((c : Thread nD τ).loc main_arg0)) (by blk_ext)

/-- The second result array after the run. -/
theorem final4 (c : Dev nD) : (dats m 0 c).arrAt 4 (cfgs 0).N = res' (m ((c : Thread nD τ).loc main_arg0)) (m ((c : Thread nD τ).loc main_arg1)) := by
  refine (dats m 0 c).arrAt_eq_of_covers 4 _ (by decide +kernel) fun t hf y => ?_
  have hN : t.val < 32 := t.isLt
  blk_simp
  rw [after0_4]
  frame_out
  idx_vars y
  obtain rfl : y0 = 0 := Subsingleton.elim _ _
  obtain rfl : y1 = 0 := Subsingleton.elim _ _
  have he : ((View.whole main_v2_1).slice (win0_4.rect t)).emb (ix3 0 0 y2) = ix3 ⟨t.val, hN⟩ 0 y2 := by blk_ext [idx t]
  rw [he, res'_apply]
  pointwise [k0_pay2]
  refine congrArg (Ideal.div · _) (Finset.sum_congr rfl fun s _ => ?_)
  exact tile_nrm m c t s y2 hN

/-- The claim. -/
theorem algebraic : Cert.algebraic_MobaPIdeal_MobaPRefIdeal := by
  pair_intro
  · run_from Cert.MobaPIdeal.Value.run_blocks m g
  · run_from Cert.MobaPRefIdeal.Value.run m' g'
    · exact (final3 m c).symm
    · exact (final4 m c).symm

end Cert.MobaPAlg

end
-- ==== Proof.NsaPAlg.lean ====
/- The preparation of the keys and values of the sparse attention: the two kinds of keys head-wise normed, each beside its values, are the
   reference's, on the extended reals. -/
module

public import proofs.«01_k».proof.Defs
public import proofs.«01_k».proof.Proof.Gen.NsaPIdeal.Value
public import proofs.«01_k».proof.Proof.Gen.NsaPRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NsaPAlg

section reference
open Cert.NsaPRefIdeal Cert.NsaPRefIdeal.Gen

/-- The keys and values: four kinds of two heads. -/
def kv (z : FVec Ideal S8704x6144 .f32) : FVec Ideal S8192x4x2x128 .f32 :=
  shapeCast _ (extractStridedSlice S8192x1024 ![0, 4608] z slices_S8704x6144_S8192x1024_0_4608) shapeCasts_S8192x1024_S8192x4x2x128

/-- The head-wise norm. -/
def normed (x : FVec Ideal S8192x2x128 .f32) (w : FVec Ideal S128 .f32) : FVec Ideal S8192x2x128 .f32 :=
  mulf (mulf x (broadcastInDim S8192x2x128 ![0, 1, 2] bcast_S8192x2x1_S8192x2x128_0_1_2 (Host.rsqrt (addf (Host.divf
    (broadcastInDim S8192x2x1 ![0, 1] bcast_S8192x2_S8192x2x1_0_1 (Host.reduceAdd (mulf x x) (constant S_ .f32 0x00000000#32)
      reducesTo_S8192x2x128_S8192x2_d2 h_S_))
    (broadcastInDim S8192x2x1 ![] bcast_S_S8192x2x1 (constant S_ .f32 0x43000000#32)))
    (broadcastInDim S8192x2x1 ![] bcast_S_S8192x2x1 (constant S_ .f32 0x358637BD#32))))))
    (broadcastInDim S8192x2x128 ![0, 1, 2] bcast_S1x1x128_S8192x2x128_0_1_2 (broadcastInDim S1x1x128 ![2] bcast_S128_S1x1x128_2 w))

/-- The four kinds side by side. -/
def stacked (z : FVec Ideal S8704x6144 .f32) (g : FVec Ideal S1x3x128 .f32) : FVec Ideal S8192x4x2x128 .f32 :=
  concatenate S8192x4x2x128 1 [⟨S8192x1x2x128, (broadcastInDim S8192x1x2x128 ![0, 2, 3] bcast_S8192x2x128_S8192x1x2x128_0_2_3 (normed (shapeCast S8192x2x128 (extractStridedSlice S8192x1x2x128 ![0, 0, 0, 0] (kv z) slices_S8192x4x2x128_S8192x1x2x128_0_0_0_0) shapeCasts_S8192x1x2x128_S8192x2x128) (shapeCast S128 (extractStridedSlice S1x1x128 ![0, 1, 0] g slices_S1x3x128_S1x1x128_0_1_0) shapeCasts_S1x1x128_S128)))⟩,
    ⟨S8192x1x2x128, (broadcastInDim S8192x1x2x128 ![0, 2, 3] bcast_S8192x2x128_S8192x1x2x128_0_2_3 (shapeCast S8192x2x128 (extractStridedSlice S8192x1x2x128 ![0, 1, 0, 0] (kv z) slices_S8192x4x2x128_S8192x1x2x128_0_1_0_0) shapeCasts_S8192x1x2x128_S8192x2x128))⟩,
    ⟨S8192x1x2x128, (broadcastInDim S8192x1x2x128 ![0, 2, 3] bcast_S8192x2x128_S8192x1x2x128_0_2_3 (normed (shapeCast S8192x2x128 (extractStridedSlice S8192x1x2x128 ![0, 2, 0, 0] (kv z) slices_S8192x4x2x128_S8192x1x2x128_0_2_0_0) shapeCasts_S8192x1x2x128_S8192x2x128) (shapeCast S128 (extractStridedSlice S1x1x128 ![0, 2, 0] g slices_S1x3x128_S1x1x128_0_2_0) shapeCasts_S1x1x128_S128)))⟩,
    ⟨S8192x1x2x128, (broadcastInDim S8192x1x2x128 ![0, 2, 3] bcast_S8192x2x128_S8192x1x2x128_0_2_3 (shapeCast S8192x2x128 (extractStridedSlice S8192x1x2x128 ![0, 3, 0, 0] (kv z) slices_S8192x4x2x128_S8192x1x2x128_0_3_0_0) shapeCasts_S8192x1x2x128_S8192x2x128))⟩] concatenates_S8192x1x2x128_S8192x1x2x128_S8192x1x2x128_S8192x1x2x128_S8192x4x2x128_d1

/-- The reference's result over its arguments. -/
def res (z : FVec Ideal S8704x6144 .f32) (g : FVec Ideal S1x3x128 .f32) : FVec Ideal S8192x1024 .bf16 :=
  truncf .bf16 (shapeCast _ (stacked z g) shapeCasts_S8192x4x2x128_S8192x1024) bitsLt_bf16_f32

/-- The reference program's result is `res` of its arguments. -/
theorem ref_res (m : (ℓ : Loc nD τ sig) → Buf (Elt Ideal) ℓ) (c : Dev nD) : Value.res_main_v46 m c
    = res (m ((c : Thread nD τ).loc main_arg0)) (m ((c : Thread nD τ).loc main_arg1)) := rfl

/-- Equal indices give equal normed values. -/
theorem same {α β : Type} (a : α → EReal) (g : β → EReal) {p p' : α} {q q' : Fin 128 → α} {s s' : β} (A B : EReal) (hp : p = p') (hq : ∀ k, q k = q' k) (hs : s = s') :
    a p * Ideal.rsqrt (Ideal.div (∑ k : Fin 128, a (q k) * a (q k)) A + B) * g s
      = a p' * Ideal.rsqrt (Ideal.div (∑ k : Fin 128, a (q' k) * a (q' k)) A + B) * g s' := by
  obtain rfl := hp
  obtain rfl := hs
  obtain rfl : q = q' := funext hq
  rfl

/-- The result in row `r` at column `j`: a normed key in the first and the third quarter, a value in the others. -/
def val (z : FVec Ideal S8704x6144 .f32) (g : FVec Ideal S1x3x128 .f32) (r : Fin 8192) (j : Fin 1024) : EReal :=
  if j.val / 256 % 2 = 1 then z (ix2 ⟨r.val, by omega⟩ ⟨4608 + j.val, by omega⟩) else
    z (ix2 ⟨r.val, by omega⟩ ⟨4608 + j.val, by omega⟩) * Ideal.rsqrt (Ideal.div (∑ k : Fin 128,
    z (ix2 ⟨r.val, by omega⟩ ⟨4608 + 128 * (j.val / 128) + k.val, by omega⟩) * z (ix2 ⟨r.val, by omega⟩ ⟨4608 + 128 * (j.val / 128) + k.val, by omega⟩))
    (Ideal.ofBits .f32 0x43000000#32) + Ideal.ofBits .f32 0x358637BD#32) * g (ix3 0 ⟨1 + j.val / 512, by omega⟩ ⟨j.val % 128, Nat.mod_lt _ (by norm_num)⟩)

/-- The values' quarters. -/
theorem val_raw (z : FVec Ideal S8704x6144 .f32) (g : FVec Ideal S1x3x128 .f32) (r : Fin 8192) (j : Fin 1024) (h : j.val / 256 % 2 = 1) : val z g r j = z (ix2 ⟨r.val, by omega⟩ ⟨4608 + j.val, by omega⟩) :=
  if_pos h

/-- The keys' quarters. -/
theorem val_key (z : FVec Ideal S8704x6144 .f32) (g : FVec Ideal S1x3x128 .f32) (r : Fin 8192) (j : Fin 1024) (h : ¬ j.val / 256 % 2 = 1) : val z g r j =
    z (ix2 ⟨r.val, by omega⟩ ⟨4608 + j.val, by omega⟩) * Ideal.rsqrt (Ideal.div (∑ k : Fin 128,
    z (ix2 ⟨r.val, by omega⟩ ⟨4608 + 128 * (j.val / 128) + k.val, by omega⟩) * z (ix2 ⟨r.val, by omega⟩ ⟨4608 + 128 * (j.val / 128) + k.val, by omega⟩))
    (Ideal.ofBits .f32 0x43000000#32) + Ideal.ofBits .f32 0x358637BD#32) * g (ix3 0 ⟨1 + j.val / 512, by omega⟩ ⟨j.val % 128, Nat.mod_lt _ (by norm_num)⟩) :=
  if_neg h

/-- The result at an index. -/
theorem res_apply (z : FVec Ideal S8704x6144 .f32) (g : FVec Ideal S1x3x128 .f32) (r : Fin 8192) (j : Fin 1024) : res z g (ix2 r j) = val z g r j := by
  pointwise [res, stacked, normed, kv]
  split
  · refine Eq.trans ?_ (val_key _ _ _ _ (by omega)).symm
    exact same z g _ _ (by blk_ext) (fun k => by blk_ext) (by blk_ext)
  · split
    · refine Eq.trans ?_ (val_raw _ _ _ _ (by omega)).symm
      exact congrArg z (by blk_ext)
    · split
      · refine Eq.trans ?_ (val_key _ _ _ _ (by omega)).symm
        exact same z g _ _ (by blk_ext) (fun k => by blk_ext) (by blk_ext)
      · refine Eq.trans ?_ (val_raw _ _ _ _ (by omega)).symm
        exact congrArg z (by blk_ext)

end reference

open Cert.NsaPIdeal Cert.NsaPIdeal.Gen

variable (m : (ℓ : Loc nD τ sig) → Buf (Elt Ideal) ℓ)

/-- Every window's block index at every grid point. -/
theorem idx : ∀ t : Fin cfg0.N, win0_0.index t = ![t.val, 9]
    ∧ win0_1.index t = ![t.val, 10]
    ∧ win0_2.index t = ![0, 0]
    ∧ win0_3.index t = ![t.val, 0] :=
  (by decide +kernel : ∀ t : Fin grid0.N, _)

/-- The first half of the columns a point reads. -/
theorem read_a (c : Dev nD) (t : Fin cfg0.N) (y0 : Fin 512) (j : Fin 512) (h : t.val < 16) : iblk m c 0 t (ix2 y0 j)
    = m ((c : Thread nD τ).loc main_arg0) (ix2 ⟨512 * t.val + y0.val, by omega⟩ ⟨4608 + j.val, by omega⟩) := by
  blk_point [iblk, V, idx t]

/-- The second half of the columns a point reads. -/
theorem read_b (c : Dev nD) (t : Fin cfg0.N) (y0 : Fin 512) (j : Fin 512) (h : t.val < 16) : iblk m c 1 t (ix2 y0 j)
    = m ((c : Thread nD τ).loc main_arg0) (ix2 ⟨512 * t.val + y0.val, by omega⟩ ⟨5120 + j.val, by omega⟩) := by
  blk_point [iblk, V, idx t]

/-- The gains the host lays out. -/
theorem gain (c : Dev nD) (i : Fin 3) (j : Fin 128) : V (F := Ideal) m c main_v0 (ix2 i j) = m ((c : Thread nD τ).loc main_arg1) (ix3 0 i j) := by
  entry_read
  pointwise

/-- The gains a point reads. -/
theorem read_g (c : Dev nD) (t : Fin cfg0.N) (i : Fin 3) (j : Fin 128) : iblk m c 2 t (ix2 i j) = m ((c : Thread nD τ).loc main_arg1) (ix3 0 i j) := by
  refine Eq.trans ?_ (gain m c i j)
  unfold iblk
  rw [View.read_apply]
  exact congrArg (V (F := Ideal) m c main_v0) (by blk_ext [idx t])

/-- What a point stores at a row and a column is the reference there. -/
theorem point (c : Dev nD) (t : Fin cfg0.N) (y0 : Fin 512) (y1 : Fin 1024) : k0_pay1 (F := Ideal) (k0_pay2 (iblk m c 0 t) (View.ld (iblk m c 2 t) r0_1)) (k0_pay3 (iblk m c 0 t) (View.ld (iblk m c 2 t) r0_1))
      (k0_pay4 (iblk m c 0 t)) (iblk m c 1 t) (k0_pay5 (iblk m c 1 t)) (k0_pay6 (View.ld (iblk m c 2 t) r0_2))
      (k0_pay7 (iblk m c 1 t)) (View.ld (iblk m c 2 t) r0_2) (ix2 y0 y1)
    = res (m ((c : Thread nD τ).loc main_arg0)) (m ((c : Thread nD τ).loc main_arg1)) (((View.whole main_v1).slice (win0_3.rect t)).emb (ix2 y0 y1)) := by
  have hN : t.val < 16 := t.isLt
  obtain ⟨r, hr⟩ : ∃ r : Fin 8192, r.val = 512 * t.val + y0.val := ⟨⟨512 * t.val + y0.val, by omega⟩, rfl⟩
  have he : ((View.whole main_v1).slice (win0_3.rect t)).emb (ix2 y0 y1) = ix2 r y1 := by blk_ext [idx t]
  rw [he, res_apply]
  pointwise [k0_pay1, k0_pay2, k0_pay3, k0_pay4, k0_pay5, k0_pay6, k0_pay7]
  simp only [read_a m c t _ _ hN, read_b m c t _ _ hN, read_g]
  split
  · refine Eq.trans ?_ (val_key _ _ _ _ (by omega)).symm
    exact same (m ((c : Thread nD τ).loc main_arg0)) (m ((c : Thread nD τ).loc main_arg1)) _ _ (by blk_ext) (fun k => by blk_ext) (by blk_ext)
  · split
    · refine Eq.trans ?_ (val_key _ _ _ _ (by omega)).symm
      exact same (m ((c : Thread nD τ).loc main_arg0)) (m ((c : Thread nD τ).loc main_arg1)) _ _ (by blk_ext) (fun k => by blk_ext) (by blk_ext)
    · split
      · refine Eq.trans ?_ (val_raw _ _ _ _ (by omega)).symm
        exact congrArg (m ((c : Thread nD τ).loc main_arg0)) (by blk_ext)
      · split
        · refine Eq.trans ?_ (val_key _ _ _ _ (by omega)).symm
          exact same (m ((c : Thread nD τ).loc main_arg0)) (m ((c : Thread nD τ).loc main_arg1)) _ _ (by blk_ext) (fun k => by blk_ext) (by blk_ext)
        · split
          · refine Eq.trans ?_ (val_key _ _ _ _ (by omega)).symm
            exact same (m ((c : Thread nD τ).loc main_arg0)) (m ((c : Thread nD τ).loc main_arg1)) _ _ (by blk_ext) (fun k => by blk_ext) (by blk_ext)
          · refine Eq.trans ?_ (val_raw _ _ _ _ (by omega)).symm
            exact congrArg (m ((c : Thread nD τ).loc main_arg0)) (by blk_ext)

/-- The result array after the run. -/
theorem final (c : Dev nD) : (dats m 0 c).arrAt 3 (cfgs 0).N = res (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  exact point m c t _ _

/-- The claim. -/
theorem algebraic : Cert.algebraic_NsaPIdeal_NsaPRefIdeal := by
  pair_intro
  · run_from Cert.NsaPIdeal.Gen.run_main m g
  · run_from Cert.NsaPRefIdeal.Value.run m' g'
    rw [ref_res, (hagree c).1, (hagree c).2]
    exact (final m c).symm

end Cert.NsaPAlg

end
-- ==== Proof.NsaCIdealBody.lean ====
/- The body of the compression kernel (`nsa_cmp_prompt`), the idealized program, run once from whole staging windows:
   the same statement and steps as the library's own run, with a larger budget, for the body is long. -/
module

public import proofs.«01_k».proof.Proof.Gen.NsaCIdeal.Frame.Runs

@[expose] public section

-- coordinates of long axes are walked one by one
set_option maxRecDepth 16384

noncomputable section

namespace Cert.NsaCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body leaves in the two output windows, as the pieces stored (last first), with the proof that
    the body runs from the input windows at their contents to the inputs unchanged and the pieces written. -/
noncomputable def kernelRun0_A (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x16x128x512 .bf16) (harg17 : arg17.IsWhole) (arg18 : Memref sig .tc .vmem S2x16x8x128 .bf16) (harg18 : arg18.IsWhole) (arg19 : Memref sig .tc .vmem S2x1x256 .f32) (harg19 : arg19.IsWhole) (arg20 : Memref sig .tc .vmem S2x256x128 .bf16) (harg20 : arg20.IsWhole) (arg21 : Memref sig .tc .vmem S2x1x128 .f32) (harg21 : arg21.IsWhole) (arg22 : Memref sig .tc .vmem S1x128 .f32) (harg22 : arg22.IsWhole) (arg23 : Memref sig .tc .vmem S1x2x256x128 .f32) (harg23 : arg23.IsWhole) (arg24 : Memref sig .tc .vmem S1x2x256x128 .f32) (harg24 : arg24.IsWhole)
    (x0 : Vec F S256x512 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S2x16x128x512 .bf16) (x17 : Vec F S2x16x8x128 .bf16) (x18 : Vec F S2x1x256 .f32) (x19 : Vec F S2x256x128 .bf16) (x20 : Vec F S2x1x128 .f32) (x21 : Vec F S1x128 .f32) :
    Σ' (L22 : List (View.Piece (Elt F) S1x2x256x128 .f32)), { L23 : List (View.Piece (Elt F) S1x2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23)) -∗ K ⟨⟩))
          ⊢ wp frame (wpE (defs₀ (F := F)) Variants.none c none) E (cc0_nsa_cmp_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0_nsa_cmp_prompt_eq_skeleton]; unfold cc0_nsa_cmp_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    iexists _; iexact H23

end Cert.NsaCIdeal.Gen

end
-- ==== Proof.NsaCIdealFr.lean ====
/- The frame of the compression kernel (`nsa_cmp_prompt`), the idealized program: from the run of its body, what each output
   window holds at each point, the obligation of the body, the launch, and the frame claim. -/
module

public import proofs.«01_k».proof.Proof.NsaCIdealBody
public import Idealize.ShloMosaic.Lib.Claim

@[expose] public section

-- coordinates of long axes are walked one by one
set_option maxRecDepth 16384

noncomputable section

namespace Cert.NsaCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 22 tile its block (2 stores of `S1x1x256x128`), so they cover it. -/
theorem cover0_A_22 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x16x128x512 .bf16) (harg17 : arg17.IsWhole) (arg18 : Memref sig .tc .vmem S2x16x8x128 .bf16) (harg18 : arg18.IsWhole) (arg19 : Memref sig .tc .vmem S2x1x256 .f32) (harg19 : arg19.IsWhole) (arg20 : Memref sig .tc .vmem S2x256x128 .bf16) (harg20 : arg20.IsWhole) (arg21 : Memref sig .tc .vmem S2x1x128 .f32) (harg21 : arg21.IsWhole) (arg22 : Memref sig .tc .vmem S1x128 .f32) (harg22 : arg22.IsWhole) (arg23 : Memref sig .tc .vmem S1x2x256x128 .f32) (harg23 : arg23.IsWhole) (arg24 : Memref sig .tc .vmem S1x2x256x128 .f32) (harg24 : arg24.IsWhole)
    (x0 : Vec F S256x512 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S2x16x128x512 .bf16) (x17 : Vec F S2x16x8x128 .bf16) (x18 : Vec F S2x1x256 .f32) (x19 : Vec F S2x256x128 .bf16) (x20 : Vec F S2x1x128 .f32) (x21 : Vec F S1x128 .f32) (y : S1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1 S1x1x256x128.size (by sl_kernel_rfl) y

/-- What the run leaves in output 22's staging buffer: its pieces read back over junk. -/
def out0_A_22 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x16x128x512 .bf16) (harg17 : arg17.IsWhole) (arg18 : Memref sig .tc .vmem S2x16x8x128 .bf16) (harg18 : arg18.IsWhole) (arg19 : Memref sig .tc .vmem S2x1x256 .f32) (harg19 : arg19.IsWhole) (arg20 : Memref sig .tc .vmem S2x256x128 .bf16) (harg20 : arg20.IsWhole) (arg21 : Memref sig .tc .vmem S2x1x128 .f32) (harg21 : arg21.IsWhole) (arg22 : Memref sig .tc .vmem S1x128 .f32) (harg22 : arg22.IsWhole) (arg23 : Memref sig .tc .vmem S1x2x256x128 .f32) (harg23 : arg23.IsWhole) (arg24 : Memref sig .tc .vmem S1x2x256x128 .f32) (harg24 : arg24.IsWhole)
    (x0 : Vec F S256x512 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S2x16x128x512 .bf16) (x17 : Vec F S2x16x8x128 .bf16) (x18 : Vec F S2x1x256 .f32) (x19 : Vec F S2x256x128 .bf16) (x20 : Vec F S2x1x128 .f32) (x21 : Vec F S1x128 .f32) : Vec F S1x2x256x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1)

/-- The run's pieces for output 23 tile its block (2 stores of `S1x1x256x128`), so they cover it. -/
theorem cover0_A_23 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x16x128x512 .bf16) (harg17 : arg17.IsWhole) (arg18 : Memref sig .tc .vmem S2x16x8x128 .bf16) (harg18 : arg18.IsWhole) (arg19 : Memref sig .tc .vmem S2x1x256 .f32) (harg19 : arg19.IsWhole) (arg20 : Memref sig .tc .vmem S2x256x128 .bf16) (harg20 : arg20.IsWhole) (arg21 : Memref sig .tc .vmem S2x1x128 .f32) (harg21 : arg21.IsWhole) (arg22 : Memref sig .tc .vmem S1x128 .f32) (harg22 : arg22.IsWhole) (arg23 : Memref sig .tc .vmem S1x2x256x128 .f32) (harg23 : arg23.IsWhole) (arg24 : Memref sig .tc .vmem S1x2x256x128 .f32) (harg24 : arg24.IsWhole)
    (x0 : Vec F S256x512 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S2x16x128x512 .bf16) (x17 : Vec F S2x16x8x128 .bf16) (x18 : Vec F S2x1x256 .f32) (x19 : Vec F S2x256x128 .bf16) (x20 : Vec F S2x1x128 .f32) (x21 : Vec F S1x128 .f32) (y : S1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).2.1 S1x1x256x128.size (by sl_kernel_rfl) y

/-- What the run leaves in output 23's staging buffer: its pieces read back over junk. -/
def out0_A_23 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x16x128x512 .bf16) (harg17 : arg17.IsWhole) (arg18 : Memref sig .tc .vmem S2x16x8x128 .bf16) (harg18 : arg18.IsWhole) (arg19 : Memref sig .tc .vmem S2x1x256 .f32) (harg19 : arg19.IsWhole) (arg20 : Memref sig .tc .vmem S2x256x128 .bf16) (harg20 : arg20.IsWhole) (arg21 : Memref sig .tc .vmem S2x1x128 .f32) (harg21 : arg21.IsWhole) (arg22 : Memref sig .tc .vmem S1x128 .f32) (harg22 : arg22.IsWhole) (arg23 : Memref sig .tc .vmem S1x2x256x128 .f32) (harg23 : arg23.IsWhole) (arg24 : Memref sig .tc .vmem S1x2x256x128 .f32) (harg24 : arg24.IsWhole)
    (x0 : Vec F S256x512 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S2x16x128x512 .bf16) (x17 : Vec F S2x16x8x128 .bf16) (x18 : Vec F S2x1x256 .f32) (x19 : Vec F S2x256x128 .bf16) (x20 : Vec F S2x1x128 .f32) (x21 : Vec F S1x128 .f32) : Vec F S1x2x256x128 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).2.1)

/-! ## What the outputs hold after each point -/

/-- What the outputs' staging buffers hold after the body at point `t` (as a tuple, in window order): the run's contents at
    the point's memrefs and input blocks. -/
def outsAt0 (c : Dev nD) (t : Fin cfg0.N) : Vec F S1x2x256x128 .f32 × Vec F S1x2x256x128 .f32 :=
  (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (X0_0 m c t) (X0_1 m c t) (X0_2 m c t) (X0_3 m c t) (X0_4 m c t) (X0_5 m c t) (X0_6 m c t) (X0_7 m c t) (X0_8 m c t) (X0_9 m c t) (X0_10 m c t) (X0_11 m c t) (X0_12 m c t) (X0_13 m c t) (X0_14 m c t) (X0_15 m c t) (iblk m c 16 t) (iblk m c 17 t) (iblk m c 18 t) (iblk m c 19 t) (iblk m c 20 t) (iblk m c 21 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (X0_0 m c t) (X0_1 m c t) (X0_2 m c t) (X0_3 m c t) (X0_4 m c t) (X0_5 m c t) (X0_6 m c t) (X0_7 m c t) (X0_8 m c t) (X0_9 m c t) (X0_10 m c t) (X0_11 m c t) (X0_12 m c t) (X0_13 m c t) (X0_14 m c t) (X0_15 m c t) (iblk m c 16 t) (iblk m c 17 t) (iblk m c 18 t) (iblk m c 19 t) (iblk m c 20 t) (iblk m c 21 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => X0_12 m c t
    | ⟨13, _⟩ => X0_13 m c t
    | ⟨14, _⟩ => X0_14 m c t
    | ⟨15, _⟩ => X0_15 m c t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t).1
    | ⟨23, _⟩ => (outsAt0 m c t).2
    | ⟨_ + 24, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = X0_15 m c t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t).1 := by dsimp only [dats]
theorem after0_23 (c : Dev nD) (t : Fin cfg0.N) : (dats m 0 c).after 23 t = (outsAt0 m c t).2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = X0_12 m c t :=
  before0_12_of m (dats m 0 c) (A_eq m c 12) (after0_12 m c) t d
theorem before0_13 (c : Dev nD) (t : Fin cfg0.N) (d) : (dats m 0 c).before 13 t d = X0_13 m c t :=
  before0_13_of m (dats m 0 c) (A_eq m c 13) (after0_13 m c) t d
theorem before0_14 (c : Dev nD) (t : Fin cfg0.N) (d) : (dats m 0 c).before 14 t d = X0_14 m c t :=
  before0_14_of m (dats m 0 c) (A_eq m c 14) (after0_14 m c) t d
theorem before0_15 (c : Dev nD) (t : Fin cfg0.N) (d) : (dats m 0 c).before 15 t d = X0_15 m c t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold outsAt0
  unfold out0_A_22 out0_A_23; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (X0_8 m c t) (X0_9 m c t) (X0_10 m c t) (X0_11 m c t) (X0_12 m c t) (X0_13 m c t) (X0_14 m c t) (X0_15 m c t) (iblk m c 16 t) (iblk m c 17 t) (iblk m c 18 t) (iblk m c 19 t) (iblk m c 20 t) (iblk m c 21 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  iintro ⟨H0, H1, H2, H3, H4, H5, H6, H7, H8, H9, H10, H11, H12, H13, H14, H15, H16, H17, H18, H19, H20, H21, ⟨%e22, H22⟩, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: what every array holds at the end, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every fair run of the program ends, with the pipeline's arrays as computed from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.NsaCIdeal.Gen

end
-- ==== Proof.lean ====
/- The proof of the certificate: every program's frame is the generated one, a reference's frame is read off
   its generated run, `preserves` is trivial or the one named constant, and each `algebraic` claim is the theorem
   of the module of its call. -/
module

public import proofs.«01_k».proof.Defs
public import proofs.«01_k».proof.Proof.Gen.GlaS.Frame
public import proofs.«01_k».proof.Proof.Gen.GlaSIdeal.Frame
public import proofs.«01_k».proof.Proof.Gen.GlaSIdeal.Value
public import proofs.«01_k».proof.Proof.Gen.GlaSRefIdeal.Run
public import proofs.«01_k».proof.Proof.GlaSAlg
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.FfnUpAlg
public import proofs.«01_k».proof.Proof.Gen.QkvC.Frame
public import proofs.«01_k».proof.Proof.Gen.QkvCIdeal.Frame
public import proofs.«01_k».proof.Proof.Gen.QkvCIdeal.Value
public import proofs.«01_k».proof.Proof.Gen.QkvCRefIdeal.Run
public import proofs.«01_k».proof.Proof.QkvCAlg
public import proofs.«01_k».proof.Proof.Gen.ProjAB.Frame
public import proofs.«01_k».proof.Proof.Gen.ProjABIdeal.Frame
public import proofs.«01_k».proof.Proof.Gen.ProjABIdeal.Value
public import proofs.«01_k».proof.Proof.Gen.ProjABRefIdeal.Run
public import proofs.«01_k».proof.Proof.ProjABAlg
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.DownAlg
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.MixOutAlg
public import proofs.«01_k».proof.Proof.Gen.ActP.Frame
public import proofs.«01_k».proof.Proof.Gen.ActPIdeal.Frame
public import proofs.«01_k».proof.Proof.Gen.ActPIdeal.Value
public import proofs.«01_k».proof.Proof.Gen.ActPRefIdeal.Run
public import proofs.«01_k».proof.Proof.ActPAlg
public import proofs.«01_k».proof.Proof.Gen.ActS.Frame
public import proofs.«01_k».proof.Proof.Gen.ActSIdeal.Frame
public import proofs.«01_k».proof.Proof.Gen.ActSIdeal.Value
public import proofs.«01_k».proof.Proof.Gen.ActSRefIdeal.Run
public import proofs.«01_k».proof.Proof.ActSAlg
public import proofs.«01_k».proof.Proof.Gen.MobaP.Frame
public import proofs.«01_k».proof.Proof.Gen.MobaPIdeal.Frame
public import proofs.«01_k».proof.Proof.Gen.MobaPIdeal.Value
public import proofs.«01_k».proof.Proof.Gen.MobaPRefIdeal.Run
public import proofs.«01_k».proof.Proof.MobaPAlg
public import proofs.«01_k».proof.Proof.Gen.NsaP.Frame
public import proofs.«01_k».proof.Proof.Gen.NsaPIdeal.Frame
public import proofs.«01_k».proof.Proof.Gen.NsaPIdeal.Value
public import proofs.«01_k».proof.Proof.Gen.NsaPRefIdeal.Run
public import proofs.«01_k».proof.Proof.NsaPAlg
public import proofs.«01_k».proof.Proof.Gen.MobaA.Frame
public import proofs.«01_k».proof.Proof.Gen.MobaAIdeal.Frame
public import proofs.«01_k».proof.Proof.Gen.NsaA.Frame
public import proofs.«01_k».proof.Proof.Gen.NsaAIdeal.Frame
public import proofs.«01_k».proof.Proof.NsaCFr
public import proofs.«01_k».proof.Proof.NsaCIdealFr
public import Idealize.ShloMosaic.Adequacy
public import Idealize.ShloMosaic.Init
public import Idealize.ShloMosaic.Lib.Quiescent

@[expose] public section

noncomputable section

namespace Cert.Proof

open Idealize.ShloMosaic Idealize.SL.Sem

/-- The reference of `GlaS` runs and leaves its arguments. -/
theorem frame_GlaSRef : Cert.quiescent_GlaSRefIdeal := fun m ρ _ =>
  (θ_run Cert.GlaSRefIdeal.defs _ _).mono (fun r h => ⟨fun c => (h c).2.2, Idealize.ShloMosaic.sem_eq_zero_of_no_sems (by decide) r.2⟩)
    (Cert.GlaSRefIdeal.Value.run (F := Ideal) m ρ)

/-- The reference of `FfnUp` runs and leaves its arguments. -/
theorem frame_FfnUpRef : Cert.quiescent_FfnUpRefIdeal := fun m ρ _ =>
  (θ_run Cert.FfnUpRefIdeal.defs _ _).mono (fun r h => ⟨fun c => (h c).2, Idealize.ShloMosaic.sem_eq_zero_of_no_sems (by decide) r.2⟩)
    (Cert.FfnUpRefIdeal.Value.run (F := Ideal) m ρ)

/-- The reference of `QkvC` runs and leaves its arguments. -/
theorem frame_QkvCRef : Cert.quiescent_QkvCRefIdeal := fun m ρ _ =>
  (θ_run Cert.QkvCRefIdeal.defs _ _).mono (fun r h => ⟨fun c => (h c).2, Idealize.ShloMosaic.sem_eq_zero_of_no_sems (by decide) r.2⟩)
    (Cert.QkvCRefIdeal.Value.run (F := Ideal) m ρ)

/-- The reference of `ProjAB` runs and leaves its arguments. -/
theorem frame_ProjABRef : Cert.quiescent_ProjABRefIdeal := fun m ρ _ =>
  (θ_run Cert.ProjABRefIdeal.defs _ _).mono (fun r h => ⟨fun c => (h c).2, Idealize.ShloMosaic.sem_eq_zero_of_no_sems (by decide) r.2⟩)
    (Cert.ProjABRefIdeal.Value.run (F := Ideal) m ρ)

/-- The reference of `Down` runs and leaves its arguments. -/
theorem frame_DownRef : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The reference of `MixOut` runs and leaves its arguments. -/
theorem frame_MixOutRef : Cert.quiescent_MixOutRefIdeal := fun m ρ _ =>
  (θ_run Cert.MixOutRefIdeal.defs _ _).mono (fun r h => ⟨fun c => (h c).2, Idealize.ShloMosaic.sem_eq_zero_of_no_sems (by decide) r.2⟩)
    (Cert.MixOutRefIdeal.Value.run (F := Ideal) m ρ)

/-- The reference of `ActP` runs and leaves its arguments. -/
theorem frame_ActPRef : Cert.quiescent_ActPRefIdeal := fun m ρ _ =>
  (θ_run Cert.ActPRefIdeal.defs _ _).mono (fun r h => ⟨fun c => (h c).2, Idealize.ShloMosaic.sem_eq_zero_of_no_sems (by decide) r.2⟩)
    (Cert.ActPRefIdeal.Value.run (F := Ideal) m ρ)

/-- The reference of `ActS` runs and leaves its arguments. -/
theorem frame_ActSRef : Cert.quiescent_ActSRefIdeal := fun m ρ _ =>
  (θ_run Cert.ActSRefIdeal.defs _ _).mono (fun r h => ⟨fun c => (h c).2, Idealize.ShloMosaic.sem_eq_zero_of_no_sems (by decide) r.2⟩)
    (Cert.ActSRefIdeal.Value.run (F := Ideal) m ρ)

/-- The reference of `MobaP` runs and leaves its arguments. -/
theorem frame_MobaPRef : Cert.quiescent_MobaPRefIdeal := fun m ρ _ =>
  (θ_run Cert.MobaPRefIdeal.defs _ _).mono (fun r h => ⟨fun c => (h c).2.2, Idealize.ShloMosaic.sem_eq_zero_of_no_sems (by decide) r.2⟩)
    (Cert.MobaPRefIdeal.Value.run (F := Ideal) m ρ)

/-- The reference of `NsaP` runs and leaves its arguments. -/
theorem frame_NsaPRef : Cert.quiescent_NsaPRefIdeal := fun m ρ _ =>
  (θ_run Cert.NsaPRefIdeal.defs _ _).mono (fun r h => ⟨fun c => (h c).2, Idealize.ShloMosaic.sem_eq_zero_of_no_sems (by decide) r.2⟩)
    (Cert.NsaPRefIdeal.Value.run (F := Ideal) m ρ)

theorem claim : Cert.Claim := ⟨Cert.GlaS.Gen.facts,
  Cert.GlaSIdeal.Gen.facts,
  Cert.GlaSRefIdeal.Gen.facts,
  Cert.FfnUp.Gen.facts,
  Cert.FfnUpIdeal.Gen.facts,
  Cert.FfnUpRefIdeal.Gen.facts,
  Cert.QkvC.Gen.facts,
  Cert.QkvCIdeal.Gen.facts,
  Cert.QkvCRefIdeal.Gen.facts,
  Cert.ProjAB.Gen.facts,
  Cert.ProjABIdeal.Gen.facts,
  Cert.ProjABRefIdeal.Gen.facts,
  Cert.Down.Gen.facts,
  Cert.DownIdeal.Gen.facts,
  Cert.DownRefIdeal.Gen.facts,
  Cert.MixOut.Gen.facts,
  Cert.MixOutIdeal.Gen.facts,
  Cert.MixOutRefIdeal.Gen.facts,
  Cert.ActP.Gen.facts,
  Cert.ActPIdeal.Gen.facts,
  Cert.ActPRefIdeal.Gen.facts,
  Cert.ActS.Gen.facts,
  Cert.ActSIdeal.Gen.facts,
  Cert.ActSRefIdeal.Gen.facts,
  Cert.MobaP.Gen.facts,
  Cert.MobaPIdeal.Gen.facts,
  Cert.MobaPRefIdeal.Gen.facts,
  Cert.NsaP.Gen.facts,
  Cert.NsaPIdeal.Gen.facts,
  Cert.NsaPRefIdeal.Gen.facts,
  Cert.MobaA.Gen.facts,
  Cert.MobaAIdeal.Gen.facts,
  Cert.NsaA.Gen.facts,
  Cert.NsaAIdeal.Gen.facts,
  Cert.NsaC.Gen.facts,
  Cert.NsaCIdeal.Gen.facts,
  fun m ρ _ => Cert.GlaS.Gen.frame m ρ,
  fun m ρ _ => Cert.GlaSIdeal.Gen.frame m ρ,
  frame_GlaSRef,
  fun m ρ _ => Cert.FfnUp.Gen.frame m ρ,
  fun m ρ _ => Cert.FfnUpIdeal.Gen.frame m ρ,
  frame_FfnUpRef,
  fun m ρ _ => Cert.QkvC.Gen.frame m ρ,
  fun m ρ _ => Cert.QkvCIdeal.Gen.frame m ρ,
  frame_QkvCRef,
  fun m ρ _ => Cert.ProjAB.Gen.frame m ρ,
  fun m ρ _ => Cert.ProjABIdeal.Gen.frame m ρ,
  frame_ProjABRef,
  fun m ρ _ => Cert.Down.Gen.frame m ρ,
  fun m ρ _ => Cert.DownIdeal.Gen.frame m ρ,
  frame_DownRef,
  fun m ρ _ => Cert.MixOut.Gen.frame m ρ,
  fun m ρ _ => Cert.MixOutIdeal.Gen.frame m ρ,
  frame_MixOutRef,
  fun m ρ _ => Cert.ActP.Gen.frame m ρ,
  fun m ρ _ => Cert.ActPIdeal.Gen.frame m ρ,
  frame_ActPRef,
  fun m ρ _ => Cert.ActS.Gen.frame m ρ,
  fun m ρ _ => Cert.ActSIdeal.Gen.frame m ρ,
  frame_ActSRef,
  fun m ρ _ => Cert.MobaP.Gen.frame m ρ,
  fun m ρ _ => Cert.MobaPIdeal.Gen.frame m ρ,
  frame_MobaPRef,
  fun m ρ _ => Cert.NsaP.Gen.frame m ρ,
  fun m ρ _ => Cert.NsaPIdeal.Gen.frame m ρ,
  frame_NsaPRef,
  fun m ρ _ => Cert.MobaA.Gen.frame m ρ,
  fun m ρ _ => Cert.MobaAIdeal.Gen.frame m ρ,
  fun m ρ _ => Cert.NsaA.Gen.frame m ρ,
  fun m ρ _ => Cert.NsaAIdeal.Gen.frame m ρ,
  fun m ρ _ => Cert.NsaC.Gen.frame m ρ,
  fun m ρ _ => Cert.NsaCIdeal.Gen.frame m ρ,
  IdealRules.named_const.statement Cert.GlaSIdeal.κ "mask" .f32 0xF149F2CA#32 ⊥ rfl,
  Cert.GlaSAlg.algebraic,
  trivial,
  Cert.FfnUpAlg.algebraic,
  trivial,
  Cert.QkvCAlg.algebraic,
  trivial,
  Cert.ProjABAlg.algebraic,
  trivial,
  Cert.DownAlg.algebraic,
  trivial,
  Cert.MixOutAlg.algebraic,
  trivial,
  Cert.ActPAlg.algebraic,
  trivial,
  Cert.ActSAlg.algebraic,
  trivial,
  Cert.MobaPAlg.algebraic,
  trivial,
  Cert.NsaPAlg.algebraic,
  IdealRules.named_const.statement Cert.MobaAIdeal.κ "mask" .f32 0xF149F2CA#32 ⊥ rfl,
  IdealRules.named_const.statement Cert.NsaAIdeal.κ "mask" .f32 0xF149F2CA#32 ⊥ rfl,
  trivial⟩

end Cert.Proof

end
